-- ==== Defs.lean ====
def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_finite_pool [hPre_finite_pool : Cert.Pre_finite_pool.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).1 = (fun _ => 1#1)
    ∧ (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.1 = (fun _ => 1#1)
    ∧ (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.2.1 = (fun _ => 1#1)
    ∧ (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.2.2 = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_finite_pool [hPre_finite_pool : Cert.Pre_finite_pool.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).1 = (fun _ => 1#1)
    ∧ (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.1 = (fun _ => 1#1)
    ∧ (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.2.1 = (fun _ => 1#1)
    ∧ (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.2.2 = (fun _ => 1#1)

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3))).1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3))).2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3))).2.2 = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3))).1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3))).2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3))).2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelPoolFwd (m : (ℓ : Loc Cert.KernelPoolFwd.nD Cert.KernelPoolFwd.τ Cert.KernelPoolFwd.sig) → Buf (Elt Bits) ℓ) : Prop :=
  True

def Pre_KernelPoolFwdIdeal (m : (ℓ : Loc Cert.KernelPoolFwdIdeal.nD Cert.KernelPoolFwdIdeal.τ Cert.KernelPoolFwdIdeal.sig) → Buf (Elt Ideal) ℓ) : Prop :=
  True

def Pre_KernelPoolFwdIdeal_finite_pool_fwd [hPre_finite_pool_fwd : Cert.Pre_finite_pool_fwd.Facts] (m : (ℓ : Loc Cert.KernelPoolFwdIdeal.nD Cert.KernelPoolFwdIdeal.τ Cert.KernelPoolFwdIdeal.sig) → Buf (Elt Ideal) ℓ) : Prop :=
  ∀ c : Dev Cert.KernelPoolFwdIdeal.nD,
    (Cert.Pre_finite_pool_fwd.fn (F := Ideal) (m ((c.tc : Thread Cert.KernelPoolFwdIdeal.nD Cert.KernelPoolFwdIdeal.τ).loc Cert.KernelPoolFwdIdeal.main_arg0)) (m ((c.tc : Thread Cert.KernelPoolFwdIdeal.nD Cert.KernelPoolFwdIdeal.τ).loc Cert.KernelPoolFwdIdeal.main_arg1)) (m ((c.tc : Thread Cert.KernelPoolFwdIdeal.nD Cert.KernelPoolFwdIdeal.τ).loc Cert.KernelPoolFwdIdeal.main_arg2))) = (fun _ => 1#1)

def Pre_ReferencePoolFwdIdeal (m : (ℓ : Loc Cert.ReferencePoolFwdIdeal.nD Cert.ReferencePoolFwdIdeal.τ Cert.ReferencePoolFwdIdeal.sig) → Buf (Elt Ideal) ℓ) : Prop :=
  True

def Pre_ReferencePoolFwdIdeal_finite_pool_fwd [hPre_finite_pool_fwd : Cert.Pre_finite_pool_fwd.Facts] (m : (ℓ : Loc Cert.ReferencePoolFwdIdeal.nD Cert.ReferencePoolFwdIdeal.τ Cert.ReferencePoolFwdIdeal.sig) → Buf (Elt Ideal) ℓ) : Prop :=
  ∀ c : Dev Cert.ReferencePoolFwdIdeal.nD,
    (Cert.Pre_finite_pool_fwd.fn (F := Ideal) (m ((c.tc : Thread Cert.ReferencePoolFwdIdeal.nD Cert.ReferencePoolFwdIdeal.τ).loc Cert.ReferencePoolFwdIdeal.main_arg0)) (m ((c.tc : Thread Cert.ReferencePoolFwdIdeal.nD Cert.ReferencePoolFwdIdeal.τ).loc Cert.ReferencePoolFwdIdeal.main_arg1)) (m ((c.tc : Thread Cert.ReferencePoolFwdIdeal.nD Cert.ReferencePoolFwdIdeal.τ).loc Cert.ReferencePoolFwdIdeal.main_arg2))) = (fun _ => 1#1)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7)
      ∧ r.2.mem ((c.tc : Thread Cert.KernelIn.nD Cert.KernelIn.τ).loc Cert.KernelIn.main_arg8) = m ((c.tc : Thread Cert.KernelIn.nD Cert.KernelIn.τ).loc Cert.KernelIn.main_arg8)
      ∧ r.2.mem ((c.tc : Thread Cert.KernelIn.nD Cert.KernelIn.τ).loc Cert.KernelIn.main_arg9) = m ((c.tc : Thread Cert.KernelIn.nD Cert.KernelIn.τ).loc Cert.KernelIn.main_arg9))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
      ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8)
      ∧ r.2.mem ((c.tc : Thread Cert.KernelInIdeal.nD Cert.KernelInIdeal.τ).loc Cert.KernelInIdeal.main_arg9) = m ((c.tc : Thread Cert.KernelInIdeal.nD Cert.KernelInIdeal.τ).loc Cert.KernelInIdeal.main_arg9))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7)
      ∧ r.2.mem ((c.tc : Thread Cert.ReferenceInIdeal.nD Cert.ReferenceInIdeal.τ).loc Cert.ReferenceInIdeal.main_arg8) = m ((c.tc : Thread Cert.ReferenceInIdeal.nD Cert.ReferenceInIdeal.τ).loc Cert.ReferenceInIdeal.main_arg8)
      ∧ r.2.mem ((c.tc : Thread Cert.ReferenceInIdeal.nD Cert.ReferenceInIdeal.τ).loc Cert.ReferenceInIdeal.main_arg9) = m ((c.tc : Thread Cert.ReferenceInIdeal.nD Cert.ReferenceInIdeal.τ).loc Cert.ReferenceInIdeal.main_arg9))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_KernelPoolIdeal_pre_finite_pool [hKernelPoolIdeal : Cert.KernelPoolIdeal.Facts] [hPre_finite_pool : Cert.Pre_finite_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_finite_pool m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_ReferencePoolIdeal_pre_finite_pool [hReferencePoolIdeal : Cert.ReferencePoolIdeal.Facts] [hPre_finite_pool : Cert.Pre_finite_pool.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_finite_pool m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4)
      ∧ r.2.mem ((c.tc : Thread Cert.KernelMlp.nD Cert.KernelMlp.τ).loc Cert.KernelMlp.main_arg5) = m ((c.tc : Thread Cert.KernelMlp.nD Cert.KernelMlp.τ).loc Cert.KernelMlp.main_arg5))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8))
      ∧ r.2.sem = fun _ => 0)

def quiescent_KernelPoolFwd [hKernelPoolFwd : Cert.KernelPoolFwd.Facts] : Prop :=
  ∀ (m : (ℓ : Loc Cert.KernelPoolFwd.nD Cert.KernelPoolFwd.τ Cert.KernelPoolFwd.sig) → Buf (Elt Bits) ℓ) (g : Dev Cert.KernelPoolFwd.nD → PrngReg), Pre_KernelPoolFwd m →
    θ_run (Cert.KernelPoolFwd.defs (F := Bits)) (onTc (τ := Cert.KernelPoolFwd.τ) (Cert.KernelPoolFwd.main (F := Bits))) ⟨m, fun _ => 0, g⟩ (fun r => (∀ c : Dev Cert.KernelPoolFwd.nD,
      r.2.mem ((c.tc : Thread Cert.KernelPoolFwd.nD Cert.KernelPoolFwd.τ).loc Cert.KernelPoolFwd.main_arg0) = m ((c.tc : Thread Cert.KernelPoolFwd.nD Cert.KernelPoolFwd.τ).loc Cert.KernelPoolFwd.main_arg0)
      ∧ r.2.mem ((c.tc : Thread Cert.KernelPoolFwd.nD Cert.KernelPoolFwd.τ).loc Cert.KernelPoolFwd.main_arg1) = m ((c.tc : Thread Cert.KernelPoolFwd.nD Cert.KernelPoolFwd.τ).loc Cert.KernelPoolFwd.main_arg1)
      ∧ r.2.mem ((c.tc : Thread Cert.KernelPoolFwd.nD Cert.KernelPoolFwd.τ).loc Cert.KernelPoolFwd.main_arg2) = m ((c.tc : Thread Cert.KernelPoolFwd.nD Cert.KernelPoolFwd.τ).loc Cert.KernelPoolFwd.main_arg2))
      ∧ r.2.sem = fun _ => 0)

def quiescent_KernelPoolFwdIdeal [hKernelPoolFwdIdeal : Cert.KernelPoolFwdIdeal.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg), Pre_KernelPoolFwdIdeal m →
    θ_run (Cert.KernelPoolFwdIdeal.defs (F := Ideal)) (onTc (τ := Cert.KernelPoolFwdIdeal.τ) (Cert.KernelPoolFwdIdeal.main (F := Ideal))) ⟨m, fun _ => 0, g⟩ (fun r => (∀ c : Dev Cert.KernelPoolFwdIdeal.nD,
      r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
      ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
      ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2))
      ∧ r.2.sem = fun _ => 0)

def quiescent_KernelPoolFwdIdeal_pre_finite_pool_fwd [hKernelPoolFwdIdeal : Cert.KernelPoolFwdIdeal.Facts] [hPre_finite_pool_fwd : Cert.Pre_finite_pool_fwd.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg), Pre_KernelPoolFwdIdeal_finite_pool_fwd m →
    θ_run (Cert.KernelPoolFwdIdeal.defs (F := Ideal)) (onTc (τ := Cert.KernelPoolFwdIdeal.τ) (Cert.KernelPoolFwdIdeal.main (F := Ideal))) ⟨m, fun _ => 0, g⟩ (fun r => (∀ c : Dev Cert.KernelPoolFwdIdeal.nD,
      r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
      ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
      ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2))
      ∧ r.2.sem = fun _ => 0)

def quiescent_ReferencePoolFwdIdeal [hReferencePoolFwdIdeal : Cert.ReferencePoolFwdIdeal.Facts] : Prop :=
  ∀ (m : (ℓ : Loc Cert.ReferencePoolFwdIdeal.nD Cert.ReferencePoolFwdIdeal.τ Cert.ReferencePoolFwdIdeal.sig) → Buf (Elt Ideal) ℓ) (g : Dev Cert.ReferencePoolFwdIdeal.nD → PrngReg), Pre_ReferencePoolFwdIdeal m →
    θ_run (Cert.ReferencePoolFwdIdeal.defs (F := Ideal)) (onTc (τ := Cert.ReferencePoolFwdIdeal.τ) (Cert.ReferencePoolFwdIdeal.main (F := Ideal))) ⟨m, fun _ => 0, g⟩ (fun r => (∀ c : Dev Cert.ReferencePoolFwdIdeal.nD,
      r.2.mem ((c.tc : Thread Cert.ReferencePoolFwdIdeal.nD Cert.ReferencePoolFwdIdeal.τ).loc Cert.ReferencePoolFwdIdeal.main_arg0) = m ((c.tc : Thread Cert.ReferencePoolFwdIdeal.nD Cert.ReferencePoolFwdIdeal.τ).loc Cert.ReferencePoolFwdIdeal.main_arg0)
      ∧ r.2.mem ((c.tc : Thread Cert.ReferencePoolFwdIdeal.nD Cert.ReferencePoolFwdIdeal.τ).loc Cert.ReferencePoolFwdIdeal.main_arg1) = m ((c.tc : Thread Cert.ReferencePoolFwdIdeal.nD Cert.ReferencePoolFwdIdeal.τ).loc Cert.ReferencePoolFwdIdeal.main_arg1)
      ∧ r.2.mem ((c.tc : Thread Cert.ReferencePoolFwdIdeal.nD Cert.ReferencePoolFwdIdeal.τ).loc Cert.ReferencePoolFwdIdeal.main_arg2) = m ((c.tc : Thread Cert.ReferencePoolFwdIdeal.nD Cert.ReferencePoolFwdIdeal.τ).loc Cert.ReferencePoolFwdIdeal.main_arg2))
      ∧ r.2.sem = fun _ => 0)

def quiescent_ReferencePoolFwdIdeal_pre_finite_pool_fwd [hReferencePoolFwdIdeal : Cert.ReferencePoolFwdIdeal.Facts] [hPre_finite_pool_fwd : Cert.Pre_finite_pool_fwd.Facts] : Prop :=
  ∀ (m : (ℓ : Loc Cert.ReferencePoolFwdIdeal.nD Cert.ReferencePoolFwdIdeal.τ Cert.ReferencePoolFwdIdeal.sig) → Buf (Elt Ideal) ℓ) (g : Dev Cert.ReferencePoolFwdIdeal.nD → PrngReg), Pre_ReferencePoolFwdIdeal_finite_pool_fwd m →
    θ_run (Cert.ReferencePoolFwdIdeal.defs (F := Ideal)) (onTc (τ := Cert.ReferencePoolFwdIdeal.τ) (Cert.ReferencePoolFwdIdeal.main (F := Ideal))) ⟨m, fun _ => 0, g⟩ (fun r => (∀ c : Dev Cert.ReferencePoolFwdIdeal.nD,
      r.2.mem ((c.tc : Thread Cert.ReferencePoolFwdIdeal.nD Cert.ReferencePoolFwdIdeal.τ).loc Cert.ReferencePoolFwdIdeal.main_arg0) = m ((c.tc : Thread Cert.ReferencePoolFwdIdeal.nD Cert.ReferencePoolFwdIdeal.τ).loc Cert.ReferencePoolFwdIdeal.main_arg0)
      ∧ r.2.mem ((c.tc : Thread Cert.ReferencePoolFwdIdeal.nD Cert.ReferencePoolFwdIdeal.τ).loc Cert.ReferencePoolFwdIdeal.main_arg1) = m ((c.tc : Thread Cert.ReferencePoolFwdIdeal.nD Cert.ReferencePoolFwdIdeal.τ).loc Cert.ReferencePoolFwdIdeal.main_arg1)
      ∧ r.2.mem ((c.tc : Thread Cert.ReferencePoolFwdIdeal.nD Cert.ReferencePoolFwdIdeal.τ).loc Cert.ReferencePoolFwdIdeal.main_arg2) = m ((c.tc : Thread Cert.ReferencePoolFwdIdeal.nD Cert.ReferencePoolFwdIdeal.τ).loc Cert.ReferencePoolFwdIdeal.main_arg2))
      ∧ r.2.sem = fun _ => 0)

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)
      ∧ m' ((c.tc : Thread Cert.ReferenceInIdeal.nD Cert.ReferenceInIdeal.τ).loc Cert.ReferenceInIdeal.main_arg8) = m ((c.tc : Thread Cert.KernelInIdeal.nD Cert.KernelInIdeal.τ).loc Cert.KernelInIdeal.main_arg8)
      ∧ m' ((c.tc : Thread Cert.ReferenceInIdeal.nD Cert.ReferenceInIdeal.τ).loc Cert.ReferenceInIdeal.main_arg9) = m ((c.tc : Thread Cert.KernelInIdeal.nD Cert.KernelInIdeal.τ).loc Cert.KernelInIdeal.main_arg9)) →
    ∃ (v0 : (c : Dev Cert.KernelInIdeal.nD) → Buf (Elt Ideal) ((c.tc : Thread Cert.KernelInIdeal.nD Cert.KernelInIdeal.τ).loc Cert.KernelInIdeal.main_v3_0)) (v1 : (c : Dev Cert.KernelInIdeal.nD) → Buf (Elt Ideal) ((c.tc : Thread Cert.KernelInIdeal.nD Cert.KernelInIdeal.τ).loc Cert.KernelInIdeal.main_v3_1)) (v2 : (c : Dev Cert.KernelInIdeal.nD) → Buf (Elt Ideal) ((c.tc : Thread Cert.KernelInIdeal.nD Cert.KernelInIdeal.τ).loc Cert.KernelInIdeal.main_v3_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v3_0) = v0 c
          ∧ r.2.mem ((c.tc : Thread Cert.KernelInIdeal.nD Cert.KernelInIdeal.τ).loc Cert.KernelInIdeal.main_v3_1) = v1 c
          ∧ r.2.mem ((c.tc : Thread Cert.KernelInIdeal.nD Cert.KernelInIdeal.τ).loc Cert.KernelInIdeal.main_v3_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
          ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8)
          ∧ r.2.mem ((c.tc : Thread Cert.KernelInIdeal.nD Cert.KernelInIdeal.τ).loc Cert.KernelInIdeal.main_arg9) = m ((c.tc : Thread Cert.KernelInIdeal.nD Cert.KernelInIdeal.τ).loc Cert.KernelInIdeal.main_arg9))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v59) = v0 c
          ∧ r.2.mem ((c.tc : Thread Cert.ReferenceInIdeal.nD Cert.ReferenceInIdeal.τ).loc Cert.ReferenceInIdeal.main_v60) = v1 c
          ∧ r.2.mem ((c.tc : Thread Cert.ReferenceInIdeal.nD Cert.ReferenceInIdeal.τ).loc Cert.ReferenceInIdeal.main_v61) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7)
          ∧ r.2.mem ((c.tc : Thread Cert.ReferenceInIdeal.nD Cert.ReferenceInIdeal.τ).loc Cert.ReferenceInIdeal.main_arg8) = m' ((c.tc : Thread Cert.ReferenceInIdeal.nD Cert.ReferenceInIdeal.τ).loc Cert.ReferenceInIdeal.main_arg8)
          ∧ r.2.mem ((c.tc : Thread Cert.ReferenceInIdeal.nD Cert.ReferenceInIdeal.τ).loc Cert.ReferenceInIdeal.main_arg9) = m' ((c.tc : Thread Cert.ReferenceInIdeal.nD Cert.ReferenceInIdeal.τ).loc Cert.ReferenceInIdeal.main_arg9))

def preserves_KernelPool_KernelPoolIdeal : Prop :=
  True

def algebraic_KernelPoolIdeal_ReferencePoolIdeal_pre_finite_pool [hKernelPoolIdeal : Cert.KernelPoolIdeal.Facts] [hReferencePoolIdeal : Cert.ReferencePoolIdeal.Facts] [hPre_finite_pool : Cert.Pre_finite_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_finite_pool m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)
      ∧ m' ((c.tc : Thread Cert.ReferencePoolIdeal.nD Cert.ReferencePoolIdeal.τ).loc Cert.ReferencePoolIdeal.main_arg3) = m ((c.tc : Thread Cert.KernelPoolIdeal.nD Cert.KernelPoolIdeal.τ).loc Cert.KernelPoolIdeal.main_arg3)) →
    ∃ (v0 : (c : Dev Cert.KernelPoolIdeal.nD) → Buf (Elt Ideal) ((c.tc : Thread Cert.KernelPoolIdeal.nD Cert.KernelPoolIdeal.τ).loc Cert.KernelPoolIdeal.main_v2_0)) (v1 : (c : Dev Cert.KernelPoolIdeal.nD) → Buf (Elt Ideal) ((c.tc : Thread Cert.KernelPoolIdeal.nD Cert.KernelPoolIdeal.τ).loc Cert.KernelPoolIdeal.main_v2_1)) (v2 : (c : Dev Cert.KernelPoolIdeal.nD) → Buf (Elt Ideal) ((c.tc : Thread Cert.KernelPoolIdeal.nD Cert.KernelPoolIdeal.τ).loc Cert.KernelPoolIdeal.main_v2_2)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v2_0) = v0 c
          ∧ r.2.mem ((c.tc : Thread Cert.KernelPoolIdeal.nD Cert.KernelPoolIdeal.τ).loc Cert.KernelPoolIdeal.main_v2_1) = v1 c
          ∧ r.2.mem ((c.tc : Thread Cert.KernelPoolIdeal.nD Cert.KernelPoolIdeal.τ).loc Cert.KernelPoolIdeal.main_v2_2) = v2 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
          ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v154) = v0 c
          ∧ r.2.mem ((c.tc : Thread Cert.ReferencePoolIdeal.nD Cert.ReferencePoolIdeal.τ).loc Cert.ReferencePoolIdeal.main_v155) = v1 c
          ∧ r.2.mem ((c.tc : Thread Cert.ReferencePoolIdeal.nD Cert.ReferencePoolIdeal.τ).loc Cert.ReferencePoolIdeal.main_v151) = v2 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2)
          ∧ r.2.mem ((c.tc : Thread Cert.ReferencePoolIdeal.nD Cert.ReferencePoolIdeal.τ).loc Cert.ReferencePoolIdeal.main_arg3) = m' ((c.tc : Thread Cert.ReferencePoolIdeal.nD Cert.ReferencePoolIdeal.τ).loc Cert.ReferencePoolIdeal.main_arg3))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)
      ∧ m' ((c.tc : Thread Cert.ReferenceMlpIdeal.nD Cert.ReferenceMlpIdeal.τ).loc Cert.ReferenceMlpIdeal.main_arg5) = m ((c.tc : Thread Cert.KernelMlpIdeal.nD Cert.KernelMlpIdeal.τ).loc Cert.KernelMlpIdeal.main_arg5)) →
    ∃ (v0 : (c : Dev Cert.KernelMlpIdeal.nD) → Buf (Elt Ideal) ((c.tc : Thread Cert.KernelMlpIdeal.nD Cert.KernelMlpIdeal.τ).loc Cert.KernelMlpIdeal.main_v25_0)) (v1 : (c : Dev Cert.KernelMlpIdeal.nD) → Buf (Elt Ideal) ((c.tc : Thread Cert.KernelMlpIdeal.nD Cert.KernelMlpIdeal.τ).loc Cert.KernelMlpIdeal.main_v25_1)) (v2 : (c : Dev Cert.KernelMlpIdeal.nD) → Buf (Elt Ideal) ((c.tc : Thread Cert.KernelMlpIdeal.nD Cert.KernelMlpIdeal.τ).loc Cert.KernelMlpIdeal.main_v25_2)) (v3 : (c : Dev Cert.KernelMlpIdeal.nD) → Buf (Elt Ideal) ((c.tc : Thread Cert.KernelMlpIdeal.nD Cert.KernelMlpIdeal.τ).loc Cert.KernelMlpIdeal.main_v25_3)) (v4 : (c : Dev Cert.KernelMlpIdeal.nD) → Buf (Elt Ideal) ((c.tc : Thread Cert.KernelMlpIdeal.nD Cert.KernelMlpIdeal.τ).loc Cert.KernelMlpIdeal.main_v25_4)) (v5 : (c : Dev Cert.KernelMlpIdeal.nD) → Buf (Elt Ideal) ((c.tc : Thread Cert.KernelMlpIdeal.nD Cert.KernelMlpIdeal.τ).loc Cert.KernelMlpIdeal.main_v25_5)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v25_0) = v0 c
          ∧ r.2.mem ((c.tc : Thread Cert.KernelMlpIdeal.nD Cert.KernelMlpIdeal.τ).loc Cert.KernelMlpIdeal.main_v25_1) = v1 c
          ∧ r.2.mem ((c.tc : Thread Cert.KernelMlpIdeal.nD Cert.KernelMlpIdeal.τ).loc Cert.KernelMlpIdeal.main_v25_2) = v2 c
          ∧ r.2.mem ((c.tc : Thread Cert.KernelMlpIdeal.nD Cert.KernelMlpIdeal.τ).loc Cert.KernelMlpIdeal.main_v25_3) = v3 c
          ∧ r.2.mem ((c.tc : Thread Cert.KernelMlpIdeal.nD Cert.KernelMlpIdeal.τ).loc Cert.KernelMlpIdeal.main_v25_4) = v4 c
          ∧ r.2.mem ((c.tc : Thread Cert.KernelMlpIdeal.nD Cert.KernelMlpIdeal.τ).loc Cert.KernelMlpIdeal.main_v25_5) = v5 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
          ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v125) = v0 c
          ∧ r.2.mem ((c.tc : Thread Cert.ReferenceMlpIdeal.nD Cert.ReferenceMlpIdeal.τ).loc Cert.ReferenceMlpIdeal.main_v126) = v1 c
          ∧ r.2.mem ((c.tc : Thread Cert.ReferenceMlpIdeal.nD Cert.ReferenceMlpIdeal.τ).loc Cert.ReferenceMlpIdeal.main_v127) = v2 c
          ∧ r.2.mem ((c.tc : Thread Cert.ReferenceMlpIdeal.nD Cert.ReferenceMlpIdeal.τ).loc Cert.ReferenceMlpIdeal.main_v107) = v3 c
          ∧ r.2.mem ((c.tc : Thread Cert.ReferenceMlpIdeal.nD Cert.ReferenceMlpIdeal.τ).loc Cert.ReferenceMlpIdeal.main_v81) = v4 c
          ∧ r.2.mem ((c.tc : Thread Cert.ReferenceMlpIdeal.nD Cert.ReferenceMlpIdeal.τ).loc Cert.ReferenceMlpIdeal.main_v129) = v5 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4)
          ∧ r.2.mem ((c.tc : Thread Cert.ReferenceMlpIdeal.nD Cert.ReferenceMlpIdeal.τ).loc Cert.ReferenceMlpIdeal.main_arg5) = m' ((c.tc : Thread Cert.ReferenceMlpIdeal.nD Cert.ReferenceMlpIdeal.τ).loc Cert.ReferenceMlpIdeal.main_arg5))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v37_0)) (v1 : (c : Dev Cert.KernelProjIdeal.nD) → Buf (Elt Ideal) ((c.tc : Thread Cert.KernelProjIdeal.nD Cert.KernelProjIdeal.τ).loc Cert.KernelProjIdeal.main_v37_1)) (v2 : (c : Dev Cert.KernelProjIdeal.nD) → Buf (Elt Ideal) ((c.tc : Thread Cert.KernelProjIdeal.nD Cert.KernelProjIdeal.τ).loc Cert.KernelProjIdeal.main_v37_2)) (v3 : (c : Dev Cert.KernelProjIdeal.nD) → Buf (Elt Ideal) ((c.tc : Thread Cert.KernelProjIdeal.nD Cert.KernelProjIdeal.τ).loc Cert.KernelProjIdeal.main_v37_3)) (v4 : (c : Dev Cert.KernelProjIdeal.nD) → Buf (Elt Ideal) ((c.tc : Thread Cert.KernelProjIdeal.nD Cert.KernelProjIdeal.τ).loc Cert.KernelProjIdeal.main_v37_4)) (v5 : (c : Dev Cert.KernelProjIdeal.nD) → Buf (Elt Ideal) ((c.tc : Thread Cert.KernelProjIdeal.nD Cert.KernelProjIdeal.τ).loc Cert.KernelProjIdeal.main_v37_5)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v37_0) = v0 c
          ∧ r.2.mem ((c.tc : Thread Cert.KernelProjIdeal.nD Cert.KernelProjIdeal.τ).loc Cert.KernelProjIdeal.main_v37_1) = v1 c
          ∧ r.2.mem ((c.tc : Thread Cert.KernelProjIdeal.nD Cert.KernelProjIdeal.τ).loc Cert.KernelProjIdeal.main_v37_2) = v2 c
          ∧ r.2.mem ((c.tc : Thread Cert.KernelProjIdeal.nD Cert.KernelProjIdeal.τ).loc Cert.KernelProjIdeal.main_v37_3) = v3 c
          ∧ r.2.mem ((c.tc : Thread Cert.KernelProjIdeal.nD Cert.KernelProjIdeal.τ).loc Cert.KernelProjIdeal.main_v37_4) = v4 c
          ∧ r.2.mem ((c.tc : Thread Cert.KernelProjIdeal.nD Cert.KernelProjIdeal.τ).loc Cert.KernelProjIdeal.main_v37_5) = v5 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v25) = v0 c
          ∧ r.2.mem ((c.tc : Thread Cert.ReferenceProjIdeal.nD Cert.ReferenceProjIdeal.τ).loc Cert.ReferenceProjIdeal.main_v20) = v1 c
          ∧ r.2.mem ((c.tc : Thread Cert.ReferenceProjIdeal.nD Cert.ReferenceProjIdeal.τ).loc Cert.ReferenceProjIdeal.main_v92) = v2 c
          ∧ r.2.mem ((c.tc : Thread Cert.ReferenceProjIdeal.nD Cert.ReferenceProjIdeal.τ).loc Cert.ReferenceProjIdeal.main_v96) = v3 c
          ∧ r.2.mem ((c.tc : Thread Cert.ReferenceProjIdeal.nD Cert.ReferenceProjIdeal.τ).loc Cert.ReferenceProjIdeal.main_v29) = v4 c
          ∧ r.2.mem ((c.tc : Thread Cert.ReferenceProjIdeal.nD Cert.ReferenceProjIdeal.τ).loc Cert.ReferenceProjIdeal.main_v36) = v5 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3))

def preserves_KernelFwd_KernelFwdIdeal : Prop :=
  IdealRules.named_const.Statement Cert.KernelFwdIdeal.κ "mask" .f32 0xF149F2CA#32 ⊥

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)) →
    ∃ (v0 : (c : Dev Cert.KernelFwdIdeal.nD) → Buf (Elt Ideal) ((c.tc : Thread Cert.KernelFwdIdeal.nD Cert.KernelFwdIdeal.τ).loc Cert.KernelFwdIdeal.main_v11)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v11) = v0 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v69) = v0 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v5)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)) →
    ∃ (v0 : (c : Dev Cert.KernelMergeIdeal.nD) → Buf (Elt Ideal) ((c.tc : Thread Cert.KernelMergeIdeal.nD Cert.KernelMergeIdeal.τ).loc Cert.KernelMergeIdeal.main_v17_0)) (v1 : (c : Dev Cert.KernelMergeIdeal.nD) → Buf (Elt Ideal) ((c.tc : Thread Cert.KernelMergeIdeal.nD Cert.KernelMergeIdeal.τ).loc Cert.KernelMergeIdeal.main_v17_1)) (v2 : (c : Dev Cert.KernelMergeIdeal.nD) → Buf (Elt Ideal) ((c.tc : Thread Cert.KernelMergeIdeal.nD Cert.KernelMergeIdeal.τ).loc Cert.KernelMergeIdeal.main_v17_2)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v17_0) = v0 c
          ∧ r.2.mem ((c.tc : Thread Cert.KernelMergeIdeal.nD Cert.KernelMergeIdeal.τ).loc Cert.KernelMergeIdeal.main_v17_1) = v1 c
          ∧ r.2.mem ((c.tc : Thread Cert.KernelMergeIdeal.nD Cert.KernelMergeIdeal.τ).loc Cert.KernelMergeIdeal.main_v17_2) = v2 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v18) = v0 c
          ∧ r.2.mem ((c.tc : Thread Cert.ReferenceMergeIdeal.nD Cert.ReferenceMergeIdeal.τ).loc Cert.ReferenceMergeIdeal.main_v33) = v1 c
          ∧ r.2.mem ((c.tc : Thread Cert.ReferenceMergeIdeal.nD Cert.ReferenceMergeIdeal.τ).loc Cert.ReferenceMergeIdeal.main_v48) = v2 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8))

def preserves_KernelPoolFwd_KernelPoolFwdIdeal : Prop :=
  True

def algebraic_KernelPoolFwdIdeal_ReferencePoolFwdIdeal_pre_finite_pool_fwd [hKernelPoolFwdIdeal : Cert.KernelPoolFwdIdeal.Facts] [hReferencePoolFwdIdeal : Cert.ReferencePoolFwdIdeal.Facts] [hPre_finite_pool_fwd : Cert.Pre_finite_pool_fwd.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg)
    (m' : (ℓ : Loc Cert.ReferencePoolFwdIdeal.nD Cert.ReferencePoolFwdIdeal.τ Cert.ReferencePoolFwdIdeal.sig) → Buf (Elt Ideal) ℓ) (g' : Dev Cert.ReferencePoolFwdIdeal.nD → PrngReg), Pre_KernelPoolFwdIdeal_finite_pool_fwd m →
    (∀ c : Dev Cert.KernelPoolFwdIdeal.nD,
      m' ((c.tc : Thread Cert.ReferencePoolFwdIdeal.nD Cert.ReferencePoolFwdIdeal.τ).loc Cert.ReferencePoolFwdIdeal.main_arg0) = m ((c.tc : Thread Cert.KernelPoolFwdIdeal.nD Cert.KernelPoolFwdIdeal.τ).loc Cert.KernelPoolFwdIdeal.main_arg0)
      ∧ m' ((c.tc : Thread Cert.ReferencePoolFwdIdeal.nD Cert.ReferencePoolFwdIdeal.τ).loc Cert.ReferencePoolFwdIdeal.main_arg1) = m ((c.tc : Thread Cert.KernelPoolFwdIdeal.nD Cert.KernelPoolFwdIdeal.τ).loc Cert.KernelPoolFwdIdeal.main_arg1)
      ∧ m' ((c.tc : Thread Cert.ReferencePoolFwdIdeal.nD Cert.ReferencePoolFwdIdeal.τ).loc Cert.ReferencePoolFwdIdeal.main_arg2) = m ((c.tc : Thread Cert.KernelPoolFwdIdeal.nD Cert.KernelPoolFwdIdeal.τ).loc Cert.KernelPoolFwdIdeal.main_arg2)) →
    ∃ (v0 : (c : Dev Cert.KernelPoolFwdIdeal.nD) → Buf (Elt Ideal) ((c.tc : Thread Cert.KernelPoolFwdIdeal.nD Cert.KernelPoolFwdIdeal.τ).loc Cert.KernelPoolFwdIdeal.main_v2)),
      θ_run (Cert.KernelPoolFwdIdeal.defs (F := Ideal)) (onTc (τ := Cert.KernelPoolFwdIdeal.τ) (Cert.KernelPoolFwdIdeal.main (F := Ideal))) ⟨m, fun _ => 0, g⟩ (fun r => ∀ c : Dev Cert.KernelPoolFwdIdeal.nD,
          r.2.mem ((c.tc : Thread Cert.KernelPoolFwdIdeal.nD Cert.KernelPoolFwdIdeal.τ).loc Cert.KernelPoolFwdIdeal.main_v2) = v0 c
          ∧ r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
          ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
          ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2))
      ∧ θ_run (Cert.ReferencePoolFwdIdeal.defs (F := Ideal)) (onTc (τ := Cert.ReferencePoolFwdIdeal.τ) (Cert.ReferencePoolFwdIdeal.main (F := Ideal))) ⟨m', fun _ => 0, g'⟩ (fun r => ∀ c : Dev Cert.ReferencePoolFwdIdeal.nD,
          r.2.mem ((c.tc : Thread Cert.ReferencePoolFwdIdeal.nD Cert.ReferencePoolFwdIdeal.τ).loc Cert.ReferencePoolFwdIdeal.main_v81) = v0 c
          ∧ r.2.mem ((c.tc : Thread Cert.ReferencePoolFwdIdeal.nD Cert.ReferencePoolFwdIdeal.τ).loc Cert.ReferencePoolFwdIdeal.main_arg0) = m' ((c.tc : Thread Cert.ReferencePoolFwdIdeal.nD Cert.ReferencePoolFwdIdeal.τ).loc Cert.ReferencePoolFwdIdeal.main_arg0)
          ∧ r.2.mem ((c.tc : Thread Cert.ReferencePoolFwdIdeal.nD Cert.ReferencePoolFwdIdeal.τ).loc Cert.ReferencePoolFwdIdeal.main_arg1) = m' ((c.tc : Thread Cert.ReferencePoolFwdIdeal.nD Cert.ReferencePoolFwdIdeal.τ).loc Cert.ReferencePoolFwdIdeal.main_arg1)
          ∧ r.2.mem ((c.tc : Thread Cert.ReferencePoolFwdIdeal.nD Cert.ReferencePoolFwdIdeal.τ).loc Cert.ReferencePoolFwdIdeal.main_arg2) = m' ((c.tc : Thread Cert.ReferencePoolFwdIdeal.nD Cert.ReferencePoolFwdIdeal.τ).loc Cert.ReferencePoolFwdIdeal.main_arg2))

def Claim : Prop :=
  ∃ (hKernelIn : Cert.KernelIn.Facts) (hKernelInIdeal : Cert.KernelInIdeal.Facts) (hReferenceInIdeal : Cert.ReferenceInIdeal.Facts) (hKernelPool : Cert.KernelPool.Facts) (hKernelPoolIdeal : Cert.KernelPoolIdeal.Facts) (hReferencePoolIdeal : Cert.ReferencePoolIdeal.Facts) (hKernelMlp : Cert.KernelMlp.Facts) (hKernelMlpIdeal : Cert.KernelMlpIdeal.Facts) (hReferenceMlpIdeal : Cert.ReferenceMlpIdeal.Facts) (hKernelProj : Cert.KernelProj.Facts) (hKernelProjIdeal : Cert.KernelProjIdeal.Facts) (hReferenceProjIdeal : Cert.ReferenceProjIdeal.Facts) (hKernelFwd : Cert.KernelFwd.Facts) (hKernelFwdIdeal : Cert.KernelFwdIdeal.Facts) (hReferenceFwdIdeal : Cert.ReferenceFwdIdeal.Facts) (hKernelUp : Cert.KernelUp.Facts) (hKernelUpIdeal : Cert.KernelUpIdeal.Facts) (hReferenceUpIdeal : Cert.ReferenceUpIdeal.Facts) (hKernelMerge : Cert.KernelMerge.Facts) (hKernelMergeIdeal : Cert.KernelMergeIdeal.Facts) (hReferenceMergeIdeal : Cert.ReferenceMergeIdeal.Facts) (hKernelPoolFwd : Cert.KernelPoolFwd.Facts) (hKernelPoolFwdIdeal : Cert.KernelPoolFwdIdeal.Facts) (hReferencePoolFwdIdeal : Cert.ReferencePoolFwdIdeal.Facts) (hPre_finite_pool : Cert.Pre_finite_pool.Facts) (hPre_finite_fwd : Cert.Pre_finite_fwd.Facts) (hPre_finite_pool_fwd : Cert.Pre_finite_pool_fwd.Facts),
    quiescent_KernelIn (hKernelIn := hKernelIn)
    ∧ quiescent_KernelInIdeal (hKernelInIdeal := hKernelInIdeal)
    ∧ quiescent_ReferenceInIdeal (hReferenceInIdeal := hReferenceInIdeal)
    ∧ quiescent_KernelPool (hKernelPool := hKernelPool)
    ∧ quiescent_KernelPoolIdeal (hKernelPoolIdeal := hKernelPoolIdeal)
    ∧ quiescent_KernelPoolIdeal_pre_finite_pool (hKernelPoolIdeal := hKernelPoolIdeal) (hPre_finite_pool := hPre_finite_pool)
    ∧ quiescent_ReferencePoolIdeal (hReferencePoolIdeal := hReferencePoolIdeal)
    ∧ quiescent_ReferencePoolIdeal_pre_finite_pool (hReferencePoolIdeal := hReferencePoolIdeal) (hPre_finite_pool := hPre_finite_pool)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelPoolFwd (hKernelPoolFwd := hKernelPoolFwd)
    ∧ quiescent_KernelPoolFwdIdeal (hKernelPoolFwdIdeal := hKernelPoolFwdIdeal)
    ∧ quiescent_KernelPoolFwdIdeal_pre_finite_pool_fwd (hKernelPoolFwdIdeal := hKernelPoolFwdIdeal) (hPre_finite_pool_fwd := hPre_finite_pool_fwd)
    ∧ quiescent_ReferencePoolFwdIdeal (hReferencePoolFwdIdeal := hReferencePoolFwdIdeal)
    ∧ quiescent_ReferencePoolFwdIdeal_pre_finite_pool_fwd (hReferencePoolFwdIdeal := hReferencePoolFwdIdeal) (hPre_finite_pool_fwd := hPre_finite_pool_fwd)
    ∧ preserves_KernelIn_KernelInIdeal
    ∧ algebraic_KernelInIdeal_ReferenceInIdeal (hKernelInIdeal := hKernelInIdeal) (hReferenceInIdeal := hReferenceInIdeal)
    ∧ preserves_KernelPool_KernelPoolIdeal
    ∧ algebraic_KernelPoolIdeal_ReferencePoolIdeal_pre_finite_pool (hKernelPoolIdeal := hKernelPoolIdeal) (hReferencePoolIdeal := hReferencePoolIdeal) (hPre_finite_pool := hPre_finite_pool)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelProj_KernelProjIdeal
    ∧ algebraic_KernelProjIdeal_ReferenceProjIdeal (hKernelProjIdeal := hKernelProjIdeal) (hReferenceProjIdeal := hReferenceProjIdeal)
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
    ∧ preserves_KernelUp_KernelUpIdeal
    ∧ algebraic_KernelUpIdeal_ReferenceUpIdeal (hKernelUpIdeal := hKernelUpIdeal) (hReferenceUpIdeal := hReferenceUpIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelPoolFwd_KernelPoolFwdIdeal
    ∧ algebraic_KernelPoolFwdIdeal_ReferencePoolFwdIdeal_pre_finite_pool_fwd (hKernelPoolFwdIdeal := hKernelPoolFwdIdeal) (hReferencePoolFwdIdeal := hReferencePoolFwdIdeal) (hPre_finite_pool_fwd := hPre_finite_pool_fwd)
-- ==== Pre_finite_fwd.lean ====
abbrev S1x8 : Shape := ⟨2, ![1, 8]⟩
abbrev S4096x512 : Shape := ⟨2, ![4096, 512]⟩
abbrev S4096x128 : Shape := ⟨2, ![4096, 128]⟩
abbrev S_ : Shape := ⟨0, ![]⟩

class Facts : Prop where
  bcast_S_S1x8 : S_.BroadcastsInDim S1x8 (![] : Fin 0 → Fin S1x8.rank)
  bcast_S_S4096x512 : S_.BroadcastsInDim S4096x512 (![] : Fin 0 → Fin S4096x512.rank)
  bcast_S_S4096x128 : S_.BroadcastsInDim S4096x128 (![] : Fin 0 → Fin S4096x128.rank)

variable [Facts]

def fn {F : FTy → Type} [FloatOps F] (main_arg0 : FVec F S1x8 .f32) (main_arg1 : FVec F S4096x512 .f32) (main_arg2 : FVec F S4096x128 .f32) (main_arg3 : FVec F S4096x128 .f32) : IVec S1x8 1 × IVec S4096x512 1 × IVec S4096x128 1 :=
  let main_v0 : FVec F S1x8 .f32 := Host.absf main_arg0
  let main_cst : FVec F S_ .f32 := constant S_ .f32 0x7F800000#32
  let main_v1 : FVec F S1x8 .f32 := broadcastInDim S1x8 ![] bcast_S_S1x8 main_cst
  let main_v2 : IVec S1x8 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x128 .f32 := Host.absf main_arg2
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  (main_v2, main_v5, main_v8)
-- ==== Pre_finite_pool.lean ====
abbrev S4096x512 : Shape := ⟨2, ![4096, 512]⟩
abbrev S1x4x128x128 : Shape := ⟨4, ![1, 4, 128, 128]⟩
abbrev S1x512 : Shape := ⟨2, ![1, 512]⟩
abbrev S_ : Shape := ⟨0, ![]⟩

class Facts : Prop where
  bcast_S_S4096x512 : S_.BroadcastsInDim S4096x512 (![] : Fin 0 → Fin S4096x512.rank)
  bcast_S_S1x4x128x128 : S_.BroadcastsInDim S1x4x128x128 (![] : Fin 0 → Fin S1x4x128x128.rank)
  bcast_S_S1x512 : S_.BroadcastsInDim S1x512 (![] : Fin 0 → Fin S1x512.rank)

variable [Facts]

def fn {F : FTy → Type} [FloatOps F] (main_arg0 : FVec F S4096x512 .f32) (main_arg1 : FVec F S4096x512 .f32) (main_arg2 : FVec F S1x4x128x128 .f32) (main_arg3 : FVec F S1x512 .f32) : IVec S4096x512 1 × IVec S4096x512 1 × IVec S1x4x128x128 1 × IVec S1x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S1x4x128x128 .f32 := Host.absf main_arg2
  let main_cst_1 : FVec F S_ .f32 := constant S_ .f32 0x7F800000#32
  let main_v7 : FVec F S1x4x128x128 .f32 := broadcastInDim S1x4x128x128 ![] bcast_S_S1x4x128x128 main_cst_1
  let main_v8 : IVec S1x4x128x128 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  (main_v2, main_v5, main_v8, main_v11)
-- ==== Pre_finite_pool_fwd.lean ====
abbrev S4096x512 : Shape := ⟨2, ![4096, 512]⟩
abbrev S1x4x128x128 : Shape := ⟨4, ![1, 4, 128, 128]⟩
abbrev S1x512 : Shape := ⟨2, ![1, 512]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : FVec F S1x4x128x128 .f32) (main_arg2 : FVec F S1x512 .f32) : IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  main_v2
-- ==== KernelIn.lean ====
abbrev S4096x512 : Shape := ⟨2, ![4096, 512]⟩
abbrev S4096x128 : Shape := ⟨2, ![4096, 128]⟩
abbrev S4096x2048 : Shape := ⟨2, ![4096, 2048]⟩
abbrev S4096x1024 : Shape := ⟨2, ![4096, 1024]⟩
abbrev S1x1024 : Shape := ⟨2, ![1, 1024]⟩
abbrev S1x1024x3328 : Shape := ⟨3, ![1, 1024, 3328]⟩
abbrev S1x3328 : Shape := ⟨2, ![1, 3328]⟩
abbrev S1024x3328 : Shape := ⟨2, ![1024, 3328]⟩
abbrev S3328x1024 : Shape := ⟨2, ![3328, 1024]⟩
abbrev S1x1280 : Shape := ⟨2, ![1, 1280]⟩
abbrev S512x512 : Shape := ⟨2, ![512, 512]⟩
abbrev S512x128 : Shape := ⟨2, ![512, 128]⟩
abbrev S512x2048 : Shape := ⟨2, ![512, 2048]⟩
abbrev S512x1024 : Shape := ⟨2, ![512, 1024]⟩
abbrev S1x512 : Shape := ⟨2, ![1, 512]⟩
abbrev S512 : Shape := ⟨1, ![512]⟩
abbrev S128x1024 : Shape := ⟨2, ![128, 1024]⟩
abbrev S1x128 : Shape := ⟨2, ![1, 128]⟩
abbrev S128 : Shape := ⟨1, ![128]⟩
abbrev S2048x1024 : Shape := ⟨2, ![2048, 1024]⟩
abbrev S512x1 : Shape := ⟨2, ![512, 1]⟩
abbrev S1024 : Shape := ⟨1, ![1024]⟩

abbrev nBuf : Space → Nat
  | .hbm => 16
  | .vmem => 20
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x128, .bf16⟩
  | .hbm, ⟨3, _⟩ => ⟨S4096x128, .bf16⟩
  | .hbm, ⟨4, _⟩ => ⟨S4096x2048, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024x3328, .f32⟩
  | .hbm, ⟨9, _⟩ => ⟨S1x3328, .f32⟩
  | .hbm, ⟨10, _⟩ => ⟨S1024x3328, .f32⟩
  | .hbm, ⟨11, _⟩ => ⟨S3328x1024, .f32⟩
  | .hbm, ⟨12, _⟩ => ⟨S3328x1024, .bf16⟩
  | .hbm, ⟨13, _⟩ => ⟨S4096x1024, .f32⟩
  | .hbm, ⟨14, _⟩ => ⟨S1x1024, .f32⟩
  | .hbm, ⟨15, _⟩ => ⟨S1x1280, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S3328x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1280, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3328x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceInIdeal.lean ====
abbrev S4096x512 : Shape := ⟨2, ![4096, 512]⟩
abbrev S4096x128 : Shape := ⟨2, ![4096, 128]⟩
abbrev S4096x2048 : Shape := ⟨2, ![4096, 2048]⟩
abbrev S4096x1024 : Shape := ⟨2, ![4096, 1024]⟩
abbrev S1x1024 : Shape := ⟨2, ![1, 1024]⟩
abbrev S1x1024x3328 : Shape := ⟨3, ![1, 1024, 3328]⟩
abbrev S1x3328 : Shape := ⟨2, ![1, 3328]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x3328 : Shape := ⟨2, ![1024, 3328]⟩
abbrev S4096x3328 : Shape := ⟨2, ![4096, 3328]⟩
abbrev S3328 : Shape := ⟨1, ![3328]⟩
abbrev S1x1280 : Shape := ⟨2, ![1, 1280]⟩

abbrev nBuf : Space → Nat
  | .hbm => 83
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x128, .bf16⟩
  | .hbm, ⟨3, _⟩ => ⟨S4096x128, .bf16⟩
  | .hbm, ⟨4, _⟩ => ⟨S4096x2048, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024x3328, .f32⟩
  | .hbm, ⟨9, _⟩ => ⟨S1x3328, .f32⟩
  | .hbm, ⟨10, _⟩ => ⟨S4096x512, .f32⟩
  | .hbm, ⟨11, _⟩ => ⟨S4096x512, .f32⟩
  | .hbm, ⟨12, _⟩ => ⟨S4096x128, .f32⟩
  | .hbm, ⟨13, _⟩ => ⟨S4096x128, .f32⟩
  | .hbm, ⟨14, _⟩ => ⟨S4096x2048, .f32⟩
  | .hbm, ⟨15, _⟩ => ⟨S1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1024x3328, .f32⟩
  | .hbm, ⟨37, _⟩ => ⟨S4096x3328, .f32⟩
  | .hbm, ⟨38, _⟩ => ⟨S3328, .f32⟩
  | .hbm, ⟨39, _⟩ => ⟨S1x3328, .f32⟩
  | .hbm, ⟨40, _⟩ => ⟨S4096x3328, .f32⟩
  | .hbm, ⟨41, _⟩ => ⟨S4096x3328, .f32⟩
  | .hbm, ⟨42, _⟩ => ⟨S4096x512, .f32⟩
  | .hbm, ⟨43, _⟩ => ⟨S4096x512, .f32⟩
  | .hbm, ⟨44, _⟩ => ⟨S4096x128, .f32⟩
  | .hbm, ⟨45, _⟩ => ⟨S4096x128, .f32⟩
  | .hbm, ⟨46, _⟩ => ⟨S4096x2048, .f32⟩
  | .hbm, ⟨47, _⟩ => ⟨S4096x3328, .f32⟩
  | .hbm, ⟨48, _⟩ => ⟨S_, .f32⟩
  | .hbm, ⟨49, _⟩ => ⟨S3328, .f32⟩
  | .hbm, ⟨50, _⟩ => ⟨S1x3328, .f32⟩
  | .hbm, ⟨51, _⟩ => ⟨S_, .f32⟩
  | .hbm, ⟨52, _⟩ => ⟨S3328, .f32⟩
  | .hbm, ⟨53, _⟩ => ⟨S1x3328, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S1x1024, .f32⟩
  | .hbm, ⟨82, _⟩ => ⟨S1x1280, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== KernelPool.lean ====
abbrev S4096x512 : Shape := ⟨2, ![4096, 512]⟩
abbrev S1x4x128x128 : Shape := ⟨4, ![1, 4, 128, 128]⟩
abbrev S1x512 : Shape := ⟨2, ![1, 512]⟩
abbrev S4x128x128 : Shape := ⟨3, ![4, 128, 128]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 9
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x4x128x128, .f32⟩
  | .hbm, ⟨3, _⟩ => ⟨S1x512, .f32⟩
  | .hbm, ⟨4, _⟩ => ⟨S4x128x128, .f32⟩
  | .hbm, ⟨5, _⟩ => ⟨S4x128x128, .bf16⟩
  | .hbm, ⟨6, _⟩ => ⟨S4096x512, .bf16⟩
  | .hbm, ⟨7, _⟩ => ⟨S4x128x128, .f32⟩
  | .hbm, ⟨8, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S4x128x128, .bf16⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .vmem, ⟨8, _⟩ => ⟨S4x128x128, .f32⟩
  | .local _ .vmem, ⟨9, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferencePoolIdeal.lean ====
abbrev S4096x512 : Shape := ⟨2, ![4096, 512]⟩
abbrev S1x4x128x128 : Shape := ⟨4, ![1, 4, 128, 128]⟩
abbrev S1x512 : Shape := ⟨2, ![1, 512]⟩
abbrev S2x2048x512 : Shape := ⟨3, ![2, 2048, 512]⟩
abbrev S4x128x128 : Shape := ⟨3, ![4, 128, 128]⟩
abbrev S512 : Shape := ⟨1, ![512]⟩
abbrev S_ : Shape := ⟨0, ![]⟩
abbrev S2x1x512 : Shape := ⟨3, ![2, 1, 512]⟩
abbrev S2x2049x512 : Shape := ⟨3, ![2, 2049, 512]⟩
abbrev S2048 : Shape := ⟨1, ![2048]⟩
abbrev S2x2049x128 : Shape := ⟨3, ![2, 2049, 128]⟩
abbrev S2x2048x128 : Shape := ⟨3, ![2, 2048, 128]⟩
abbrev S2x1x128 : Shape := ⟨3, ![2, 1, 128]⟩
abbrev S2x2047x128 : Shape := ⟨3, ![2, 2047, 128]⟩
abbrev S1x2048x1 : Shape := ⟨3, ![1, 2048, 1]⟩
abbrev S2x3x512 : Shape := ⟨3, ![2, 3, 512]⟩
abbrev S2x3x128 : Shape := ⟨3, ![2, 3, 128]⟩
abbrev S2x2045x128 : Shape := ⟨3, ![2, 2045, 128]⟩
abbrev S2x7x512 : Shape := ⟨3, ![2, 7, 512]⟩
abbrev S2x7x128 : Shape := ⟨3, ![2, 7, 128]⟩
abbrev S2x2041x128 : Shape := ⟨3, ![2, 2041, 128]⟩
abbrev S2x15x512 : Shape := ⟨3, ![2, 15, 512]⟩
abbrev S2x15x128 : Shape := ⟨3, ![2, 15, 128]⟩
abbrev S2x2033x128 : Shape := ⟨3, ![2, 2033, 128]⟩
abbrev S2x2048x1x128 : Shape := ⟨4, ![2, 2048, 1, 128]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩
abbrev S4x2x2048x128 : Shape := ⟨4, ![4, 2, 2048, 128]⟩

abbrev nBuf : Space → Nat
  | .hbm => 196
  | .vmem => 0
  | .smem => 0
  | _ => 0

abbrev hbmTy0_0 (i : Nat) : BufTy := match i % 128 with
  | 0 => ⟨S4096x512, .f32⟩
  | 1 => ⟨S4096x512, .f32⟩
  | 2 => ⟨S1x4x128x128, .f32⟩
  | 3 => ⟨S1x512, .f32⟩
  | 4 => ⟨S2x2048x512, .f32⟩
  | 5 => ⟨S4x128x128, .f32⟩
  | 6 => ⟨S512, .f32⟩
  | 7 => ⟨S_, .f32⟩
  | 8 => ⟨S2x1x512, .f32⟩
  | 9 => ⟨S_, .f32⟩
  | 10 => ⟨S_, .f32⟩
  | 11 => ⟨S2x2048x512, .f32⟩
  | 12 => ⟨S2x2049x512, .f32⟩
  | 13 => ⟨S_, .f32⟩
  | 14 => ⟨S2x1x512, .f32⟩
  | 15 => ⟨S2048, .i32⟩
  | 16 => ⟨S2x2049x128, .f32⟩
  | 17 => ⟨S2x2048x128, .f32⟩
  | 18 => ⟨S_, .f32⟩
  | 19 => ⟨S2x1x512, .f32⟩
  | 20 => ⟨S2x1x128, .f32⟩
  | 21 => ⟨S2x2047x128, .f32⟩
  | 22 => ⟨S2x2048x128, .f32⟩
  | 23 => ⟨S_, .f32⟩
  | 24 => ⟨S2x1x128, .f32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S2048, .f32⟩
  | 32 => ⟨S1x2048x1, .f32⟩
  | 33 => ⟨S2x2048x128, .f32⟩
  | 34 => ⟨S2x2048x128, .f32⟩
  | 35 => ⟨S2x2048x128, .f32⟩
  | 36 => ⟨S2x2049x128, .f32⟩
  | 37 => ⟨S2x2048x128, .f32⟩
  | 38 => ⟨S_, .f32⟩
  | 39 => ⟨S2x3x512, .f32⟩
  | 40 => ⟨S2x3x128, .f32⟩
  | 41 => ⟨S2x2045x128, .f32⟩
  | 42 => ⟨S2x2048x128, .f32⟩
  | 43 => ⟨S_, .f32⟩
  | 44 => ⟨S2x3x128, .f32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S2048, .f32⟩
  | 52 => ⟨S1x2048x1, .f32⟩
  | 53 => ⟨S2x2048x128, .f32⟩
  | 54 => ⟨S2x2048x128, .f32⟩
  | 55 => ⟨S2x2048x128, .f32⟩
  | 56 => ⟨S2x2049x128, .f32⟩
  | 57 => ⟨S2x2048x128, .f32⟩
  | 58 => ⟨S_, .f32⟩
  | 59 => ⟨S2x7x512, .f32⟩
  | 60 => ⟨S2x7x128, .f32⟩
  | 61 => ⟨S2x2041x128, .f32⟩
  | 62 => ⟨S2x2048x128, .f32⟩
  | 63 => ⟨S_, .f32⟩
  | 64 => ⟨S2x7x128, .f32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S2048, .f32⟩
  | 72 => ⟨S1x2048x1, .f32⟩
  | 73 => ⟨S2x2048x128, .f32⟩
  | 74 => ⟨S2x2048x128, .f32⟩
  | 75 => ⟨S2x2048x128, .f32⟩
  | 76 => ⟨S2x2049x128, .f32⟩
  | 77 => ⟨S2x2048x128, .f32⟩
  | 78 => ⟨S_, .f32⟩
  | 79 => ⟨S2x15x512, .f32⟩
  | 80 => ⟨S2x15x128, .f32⟩
  | 81 => ⟨S2x2033x128, .f32⟩
  | 82 => ⟨S2x2048x128, .f32⟩
  | 83 => ⟨S_, .f32⟩
  | 84 => ⟨S2x15x128, .f32⟩
  | 85 => ⟨S_, .i32⟩
  | 86 => ⟨S2048, .i32⟩
  | 87 => ⟨S2048, .i32⟩
  | 88 => ⟨S_, .i32⟩
  | 89 => ⟨S2048, .i32⟩
  | 90 => ⟨S2048, .i32⟩
  | 91 => ⟨S2048, .f32⟩
  | 92 => ⟨S1x2048x1, .f32⟩
  | 93 => ⟨S2x2048x128, .f32⟩
  | 94 => ⟨S2x2048x128, .f32⟩
  | 95 => ⟨S2x2048x128, .f32⟩
  | 96 => ⟨S2x2048x1x128, .f32⟩
  | 97 => ⟨S2x2048x1x128, .f32⟩
  | 98 => ⟨S2x2048x1x128, .f32⟩
  | 99 => ⟨S2x2048x1x128, .f32⟩
  | 100 => ⟨S2x2048x4x128, .f32⟩
  | 101 => ⟨S2x2048x4x128, .f32⟩
  | 102 => ⟨S2x2048x4x128, .f32⟩
  | 103 => ⟨S4x128x2x2048, .f32⟩
  | 104 => ⟨S2x2048x4x128, .f32⟩
  | 105 => ⟨S2x2048x512, .f32⟩
  | 106 => ⟨S1x1x512, .f32⟩
  | 107 => ⟨S2x2048x512, .f32⟩
  | 108 => ⟨S2x2048x512, .f32⟩
  | 109 => ⟨S2x2048x512, .f32⟩
  | 110 => ⟨S2x2048x512, .f32⟩
  | 111 => ⟨S_, .f32⟩
  | 112 => ⟨S512, .f32⟩
  | 113 => ⟨S1x1x512, .f32⟩
  | 114 => ⟨S2x2048x512, .f32⟩
  | 115 => ⟨S2x2048x512, .f32⟩
  | 116 => ⟨S_, .f32⟩
  | 117 => ⟨S512, .f32⟩
  | 118 => ⟨S2x2048x4x128, .f32⟩
  | 119 => ⟨S4x128x2x2048, .f32⟩
  | 120 => ⟨S4x2x2048x128, .f32⟩
  | 121 => ⟨S2x2048x4x128, .f32⟩
  | 122 => ⟨S4x128x128, .f32⟩
  | 123 => ⟨S4x128x128, .f32⟩
  | 124 => ⟨S2x2048x4x128, .f32⟩
  | 125 => ⟨S2x2048x512, .f32⟩
  | 126 => ⟨S2x2048x1x128, .f32⟩
  | 127 => ⟨S2x2048x128, .f32⟩
  | _ => ⟨S4096x512, .f32⟩

abbrev hbmTy0_1 (i : Nat) : BufTy := match i % 128 with
  | 0 => ⟨S2x2048x1x128, .f32⟩
  | 1 => ⟨S2x2048x128, .f32⟩
  | 2 => ⟨S2x2048x1x128, .f32⟩
  | 3 => ⟨S2x2048x128, .f32⟩
  | 4 => ⟨S2x2048x1x128, .f32⟩
  | 5 => ⟨S2x2048x128, .f32⟩
  | 6 => ⟨S2x2048x128, .f32⟩
  | 7 => ⟨S2x2048x128, .f32⟩
  | 8 => ⟨S2x2048x128, .f32⟩
  | 9 => ⟨S2x15x128, .f32⟩
  | 10 => ⟨S2x2033x128, .f32⟩
  | 11 => ⟨S_, .f32⟩
  | 12 => ⟨S2x2049x128, .f32⟩
  | 13 => ⟨S_, .f32⟩
  | 14 => ⟨S2x2049x128, .f32⟩
  | 15 => ⟨S2x2049x128, .f32⟩
  | 16 => ⟨S_, .f32⟩
  | 17 => ⟨S2x2049x512, .f32⟩
  | 18 => ⟨S2x2048x128, .f32⟩
  | 19 => ⟨S2x2048x128, .f32⟩
  | 20 => ⟨S2x2048x128, .f32⟩
  | 21 => ⟨S2x7x128, .f32⟩
  | 22 => ⟨S2x2041x128, .f32⟩
  | 23 => ⟨S_, .f32⟩
  | 24 => ⟨S2x2049x128, .f32⟩
  | 25 => ⟨S_, .f32⟩
  | 26 => ⟨S2x2049x128, .f32⟩
  | 27 => ⟨S2x2049x128, .f32⟩
  | 28 => ⟨S_, .f32⟩
  | 29 => ⟨S2x2049x512, .f32⟩
  | 30 => ⟨S2x2049x512, .f32⟩
  | 31 => ⟨S2x2048x128, .f32⟩
  | 32 => ⟨S2x2048x128, .f32⟩
  | 33 => ⟨S2x2048x128, .f32⟩
  | 34 => ⟨S2x3x128, .f32⟩
  | 35 => ⟨S2x2045x128, .f32⟩
  | 36 => ⟨S_, .f32⟩
  | 37 => ⟨S2x2049x128, .f32⟩
  | 38 => ⟨S_, .f32⟩
  | 39 => ⟨S2x2049x128, .f32⟩
  | 40 => ⟨S2x2049x128, .f32⟩
  | 41 => ⟨S_, .f32⟩
  | 42 => ⟨S2x2049x512, .f32⟩
  | 43 => ⟨S2x2049x512, .f32⟩
  | 44 => ⟨S2x2048x128, .f32⟩
  | 45 => ⟨S2x2048x128, .f32⟩
  | 46 => ⟨S2x2048x128, .f32⟩
  | 47 => ⟨S2x1x128, .f32⟩
  | 48 => ⟨S2x2047x128, .f32⟩
  | 49 => ⟨S_, .f32⟩
  | 50 => ⟨S2x2049x128, .f32⟩
  | 51 => ⟨S_, .f32⟩
  | 52 => ⟨S2x2049x128, .f32⟩
  | 53 => ⟨S2x2049x128, .f32⟩
  | 54 => ⟨S_, .f32⟩
  | 55 => ⟨S2x2049x512, .f32⟩
  | 56 => ⟨S2x2049x512, .f32⟩
  | 57 => ⟨S2x1x512, .f32⟩
  | 58 => ⟨S2x2048x512, .f32⟩
  | 59 => ⟨S_, .f32⟩
  | 60 => ⟨S_, .f32⟩
  | 61 => ⟨S2x2048x512, .f32⟩
  | 62 => ⟨S2x2048x512, .f32⟩
  | 63 => ⟨S1x512, .f32⟩
  | 64 => ⟨S1x4x128x128, .f32⟩
  | 65 => ⟨S4096x512, .f32⟩
  | 66 => ⟨S4096x512, .bf16⟩
  | 67 => ⟨S4x128x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_c_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_16 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_17 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_18 : Ref sig .tc := ⟨.hbm, 139, rfl⟩
abbrev main_v113 : Ref sig .tc := ⟨.hbm, 140, rfl⟩
abbrev main_cst_19 : Ref sig .tc := ⟨.hbm, 141, rfl⟩
abbrev main_v114 : Ref sig .tc := ⟨.hbm, 142, rfl⟩
abbrev main_v115 : Ref sig .tc := ⟨.hbm, 143, rfl⟩
abbrev main_cst_20 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_21 : Ref sig .tc := ⟨.hbm, 151, rfl⟩
abbrev main_v122 : Ref sig .tc := ⟨.hbm, 152, rfl⟩
abbrev main_cst_22 : Ref sig .tc := ⟨.hbm, 153, rfl⟩
abbrev main_v123 : Ref sig .tc := ⟨.hbm, 154, rfl⟩
abbrev main_v124 : Ref sig .tc := ⟨.hbm, 155, rfl⟩
abbrev main_cst_23 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_24 : Ref sig .tc := ⟨.hbm, 164, rfl⟩
abbrev main_v132 : Ref sig .tc := ⟨.hbm, 165, rfl⟩
abbrev main_cst_25 : Ref sig .tc := ⟨.hbm, 166, rfl⟩
abbrev main_v133 : Ref sig .tc := ⟨.hbm, 167, rfl⟩
abbrev main_v134 : Ref sig .tc := ⟨.hbm, 168, rfl⟩
abbrev main_cst_26 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_27 : Ref sig .tc := ⟨.hbm, 177, rfl⟩
abbrev main_v142 : Ref sig .tc := ⟨.hbm, 178, rfl⟩
abbrev main_cst_28 : Ref sig .tc := ⟨.hbm, 179, rfl⟩
abbrev main_v143 : Ref sig .tc := ⟨.hbm, 180, rfl⟩
abbrev main_v144 : Ref sig .tc := ⟨.hbm, 181, rfl⟩
abbrev main_cst_29 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_call1_call0_cst : Ref sig .tc := ⟨.hbm, 187, rfl⟩
abbrev main_call1_call0_v0 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩

abbrev nD : Nat := 1
abbrev τ : Topo := Topo.v7x

variable {F : FTy → Type} [FloatOps F]
-- ==== KernelMlp.lean ====
abbrev S4096x1024 : Shape := ⟨2, ![4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S256x1024 : Shape := ⟨2, ![256, 1024]⟩
abbrev S256x4096 : Shape := ⟨2, ![256, 4096]⟩
abbrev S256x512 : Shape := ⟨2, ![256, 512]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S1024 : Shape := ⟨1, ![1024]⟩
abbrev S1x1024x512 : Shape := ⟨3, ![1, 1024, 512]⟩
abbrev S1024x512 : Shape := ⟨2, ![1024, 512]⟩

abbrev nBuf : Space → Nat
  | .hbm => 41
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S1x1024, .f32⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .bf16⟩
  | .hbm, ⟨30, _⟩ => ⟨S1024x8x512, .bf16⟩
  | .hbm, ⟨31, _⟩ => ⟨S8x1024x512, .bf16⟩
  | .hbm, ⟨32, _⟩ => ⟨S4096x1024, .f32⟩
  | .hbm, ⟨33, _⟩ => ⟨S4096x1024, .bf16⟩
  | .hbm, ⟨34, _⟩ => ⟨S8x512x1024, .bf16⟩
  | .hbm, ⟨35, _⟩ => ⟨S4096x4096, .bf16⟩
  | .hbm, ⟨36, _⟩ => ⟨S4096x1024, .bf16⟩
  | .hbm, ⟨37, _⟩ => ⟨S4096x1024, .f32⟩
  | .hbm, ⟨38, _⟩ => ⟨S1x1024, .f32⟩
  | .hbm, ⟨39, _⟩ => ⟨S1x1024, .f32⟩
  | .hbm, ⟨40, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x4096, .bf16⟩
  | .local _ .vmem, ⟨3, _⟩ => ⟨S256x4096, .bf16⟩
  | .local _ .vmem, ⟨4, _⟩ => ⟨S256x1024, .f32⟩
  | .local _ .vmem, ⟨5, _⟩ => ⟨S256x1024, .f32⟩
  | .local _ .vmem, ⟨6, _⟩ => ⟨S8x1024x512, .bf16⟩
  | .local _ .vmem, ⟨7, _⟩ => ⟨S8x512x1024, .bf16⟩
  | .local _ .vmem, ⟨8, _⟩ => ⟨S1x1024, .f32⟩
  | .local _ .vmem, ⟨9, _⟩ => ⟨S1x1024, .f32⟩
  | .local _ .vmem, ⟨10, _⟩ => ⟨S256x4096, .bf16⟩
  | .local _ .vmem, ⟨11, _⟩ => ⟨S256x4096, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev main_v25_3 : Ref sig .tc := ⟨.hbm, 38, rfl⟩
abbrev main_v25_4 : Ref sig .tc := ⟨.hbm, 39, rfl⟩
abbrev main_v25_5 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceMlpIdeal.lean ====
abbrev S4096x1024 : Shape := ⟨2, ![4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩

abbrev nBuf : Space → Nat
  | .hbm => 172
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024x4096, .f32⟩
  | 4 => ⟨S1x4096x1024, .f32⟩
  | 5 => ⟨S1x1024, .f32⟩
  | 6 => ⟨S1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S1024x4096, .f32⟩
  | 28 => ⟨S4096x4096, .f32⟩
  | 29 => ⟨S_, .f32⟩
  | 30 => ⟨S4096x4096, .f32⟩
  | 31 => ⟨S4096x4096, .f32⟩
  | 32 => ⟨S_, .f32⟩
  | 33 => ⟨S4096x4096, .f32⟩
  | 34 => ⟨S4096x4096, .i1⟩
  | 35 => ⟨S_, .f32⟩
  | 36 => ⟨S4096x4096, .f32⟩
  | 37 => ⟨S4096x4096, .f32⟩
  | 38 => ⟨S_, .f32⟩
  | 39 => ⟨S4096x4096, .f32⟩
  | 40 => ⟨S4096x4096, .f32⟩
  | 41 => ⟨S4096x1024, .f32⟩
  | 42 => ⟨S4096x1024, .f32⟩
  | 43 => ⟨S1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S_, .f32⟩
  | 71 => ⟨S4096, .f32⟩
  | 72 => ⟨S_, .f32⟩
  | 73 => ⟨S4096, .f32⟩
  | 74 => ⟨S4096, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S4096, .f32⟩
  | 83 => ⟨S_, .f32⟩
  | 84 => ⟨S4096, .f32⟩
  | 85 => ⟨S4096, .f32⟩
  | 86 => ⟨S4096x1024, .f32⟩
  | 87 => ⟨S4096x1024, .f32⟩
  | 88 => ⟨S4096x1024, .f32⟩
  | 89 => ⟨S_, .f32⟩
  | 90 => ⟨S1024, .f32⟩
  | 91 => ⟨S1x1024, .f32⟩
  | 92 => ⟨S4096x1024, .f32⟩
  | 93 => ⟨S4096x1024, .f32⟩
  | 94 => ⟨S_, .f32⟩
  | 95 => ⟨S1024, .f32⟩
  | 96 => ⟨S4096x1024, .f32⟩
  | 97 => ⟨S_, .f32⟩
  | 98 => ⟨S4096, .f32⟩
  | 99 => ⟨S4096x1, .f32⟩
  | 100 => ⟨S4096x1024, .f32⟩
  | 101 => ⟨S4096x1024, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S1x1024, .f32⟩
  | 114 => ⟨S4096x4096, .f32⟩
  | 115 => ⟨S4096x4096, .f32⟩
  | 116 => ⟨S_, .f32⟩
  | 117 => ⟨S4096x4096, .f32⟩
  | 118 => ⟨S4096x4096, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S4096x1024, .f32⟩
  | 1 => ⟨S_, .f32⟩
  | 2 => ⟨S4096, .f32⟩
  | 3 => ⟨S4096x1, .f32⟩
  | 4 => ⟨S4096x1024, .f32⟩
  | 5 => ⟨S4096x1024, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S1x1024, .f32⟩
  | 18 => ⟨S1024, .f32⟩
  | 19 => ⟨S4096x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1, .f32⟩
  | 30 => ⟨S4096x1024, .f32⟩
  | 31 => ⟨S4096x1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x4096, .bf16⟩
  | 39 => ⟨S4096x1024, .bf16⟩
  | 40 => ⟨S4096x1024, .f32⟩
  | 41 => ⟨S_, .f32⟩
  | 42 => ⟨S1024, .f32⟩
  | 43 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_cst_15 : Ref sig .tc := ⟨.hbm, 79, rfl⟩
abbrev main_cst_16 : Ref sig .tc := ⟨.hbm, 80, rfl⟩
abbrev main_v55 : Ref sig .tc := ⟨.hbm, 81, rfl⟩
abbrev main_v56 : Ref sig .tc := ⟨.hbm, 82, rfl⟩
abbrev main_cst_17 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_18 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_19 : Ref sig .tc := ⟨.hbm, 94, rfl⟩
abbrev main_v66 : Ref sig .tc := ⟨.hbm, 95, rfl⟩
abbrev main_v67 : Ref sig .tc := ⟨.hbm, 96, rfl⟩
abbrev main_cst_20 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_21 : Ref sig .tc := ⟨.hbm, 103, rfl⟩
abbrev main_v73 : Ref sig .tc := ⟨.hbm, 104, rfl⟩
abbrev main_v74 : Ref sig .tc := ⟨.hbm, 105, rfl⟩
abbrev main_cst_22 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_23 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_24 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_25 : Ref sig .tc := ⟨.hbm, 126, rfl⟩
abbrev main_v92 : Ref sig .tc := ⟨.hbm, 127, rfl⟩
abbrev main_v93 : Ref sig .tc := ⟨.hbm, 128, rfl⟩
abbrev main_cst_26 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_27 : Ref sig .tc := ⟨.hbm, 135, rfl⟩
abbrev main_v99 : Ref sig .tc := ⟨.hbm, 136, rfl⟩
abbrev main_v100 : Ref sig .tc := ⟨.hbm, 137, rfl⟩
abbrev main_cst_28 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_29 : Ref sig .tc := ⟨.hbm, 148, rfl⟩
abbrev main_v110 : Ref sig .tc := ⟨.hbm, 149, rfl⟩
abbrev main_v111 : Ref sig .tc := ⟨.hbm, 150, rfl⟩
abbrev main_cst_30 : Ref sig .tc := ⟨.hbm, 151, rfl⟩
abbrev main_v112 : Ref sig .tc := ⟨.hbm, 152, rfl⟩
abbrev main_v113 : Ref sig .tc := ⟨.hbm, 153, rfl⟩
abbrev main_cst_31 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_32 : Ref sig .tc := ⟨.hbm, 169, rfl⟩
abbrev main_v128 : Ref sig .tc := ⟨.hbm, 170, rfl⟩
abbrev main_v129 : Ref sig .tc := ⟨.hbm, 171, rfl⟩

abbrev nD : Nat := 1
abbrev τ : Topo := Topo.v7x

variable {F : FTy → Type} [FloatOps F]
-- ==== KernelProj.lean ====
abbrev S4096x1024 : Shape := ⟨2, ![4096, 1024]⟩
abbrev S1x1024 : Shape := ⟨2, ![1, 1024]⟩
abbrev S1x1024x3328 : Shape := ⟨3, ![1, 1024, 3328]⟩
abbrev S1x3328 : Shape := ⟨2, ![1, 3328]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1024x3328 : Shape := ⟨2, ![1024, 3328]⟩
abbrev S3328x1024 : Shape := ⟨2, ![3328, 1024]⟩
abbrev S4096x512 : Shape := ⟨2, ![4096, 512]⟩
abbrev S4096x2048 : Shape := ⟨2, ![4096, 2048]⟩
abbrev S512x1024 : Shape := ⟨2, ![512, 1024]⟩
abbrev S512x128 : Shape := ⟨2, ![512, 128]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1x512 : Shape := ⟨2, ![1, 512]⟩
abbrev S256x1024 : Shape := ⟨2, ![256, 1024]⟩
abbrev S512x256 : Shape := ⟨2, ![512, 256]⟩
abbrev S1x256 : Shape := ⟨2, ![1, 256]⟩
abbrev S2048x1024 : Shape := ⟨2, ![2048, 1024]⟩
abbrev S1x2048 : Shape := ⟨2, ![1, 2048]⟩

abbrev nBuf : Space → Nat
  | .hbm => 54
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x3328, .f32⟩
  | .hbm, ⟨3, _⟩ => ⟨S1x3328, .f32⟩
  | .hbm, ⟨4, _⟩ => ⟨S2048, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S2048x1, .f32⟩
  | .hbm, ⟨20, _⟩ => ⟨S1x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S_, .f32⟩
  | .hbm, ⟨27, _⟩ => ⟨S2048x48, .f32⟩
  | .hbm, ⟨28, _⟩ => ⟨S_, .f32⟩
  | .hbm, ⟨29, _⟩ => ⟨S2048x48, .f32⟩
  | .hbm, ⟨30, _⟩ => ⟨S_, .f32⟩
  | .hbm, ⟨31, _⟩ => ⟨S2048x8, .f32⟩
  | .hbm, ⟨32, _⟩ => ⟨S2048x64, .f32⟩
  | .hbm, ⟨33, _⟩ => ⟨S2048x8, .f32⟩
  | .hbm, ⟨34, _⟩ => ⟨S2048x64, .f32⟩
  | .hbm, ⟨35, _⟩ => ⟨S2048x64, .f32⟩
  | .hbm, ⟨36, _⟩ => ⟨S1x2048x1x64, .f32⟩
  | .hbm, ⟨37, _⟩ => ⟨S1x2048x2x64, .f32⟩
  | .hbm, ⟨38, _⟩ => ⟨S2048x128, .f32⟩
  | .hbm, ⟨39, _⟩ => ⟨S1x2048x1x64, .f32⟩
  | .hbm, ⟨40, _⟩ => ⟨S1x2048x2x64, .f32⟩
  | .hbm, ⟨41, _⟩ => ⟨S2048x128, .f32⟩
  | .hbm, ⟨42, _⟩ => ⟨S1x2048x1x64, .f32⟩
  | .hbm, ⟨43, _⟩ => ⟨S1x2048x2x64, .f32⟩
  | .hbm, ⟨44, _⟩ => ⟨S2048x128, .f32⟩
  | .hbm, ⟨45, _⟩ => ⟨S1024x3328, .f32⟩
  | .hbm, ⟨46, _⟩ => ⟨S3328x1024, .f32⟩
  | .hbm, ⟨47, _⟩ => ⟨S3328x1024, .bf16⟩
  | .hbm, ⟨48, _⟩ => ⟨S4096x1024, .bf16⟩
  | .hbm, ⟨49, _⟩ => ⟨S4096x512, .f32⟩
  | .hbm, ⟨50, _⟩ => ⟨S4096x512, .bf16⟩
  | .hbm, ⟨51, _⟩ => ⟨S4096x512, .bf16⟩
  | .hbm, ⟨52, _⟩ => ⟨S4096x512, .bf16⟩
  | .hbm, ⟨53, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3328x1024, .bf16⟩
  | .local _ .vmem, ⟨4, _⟩ => ⟨S1x3328, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x2048, .bf16⟩
  | .local _ .vmem, ⟨22, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev main_v37_2 : Ref sig .tc := ⟨.hbm, 50, rfl⟩
abbrev main_v37_3 : Ref sig .tc := ⟨.hbm, 51, rfl⟩
abbrev main_v37_4 : Ref sig .tc := ⟨.hbm, 52, rfl⟩
abbrev main_v37_5 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3328 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceProjIdeal.lean ====
abbrev S4096x1024 : Shape := ⟨2, ![4096, 1024]⟩
abbrev S1x1024 : Shape := ⟨2, ![1, 1024]⟩
abbrev S1x1024x3328 : Shape := ⟨3, ![1, 1024, 3328]⟩
abbrev S1x3328 : Shape := ⟨2, ![1, 3328]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x3328 : Shape := ⟨2, ![1024, 3328]⟩
abbrev S4096x3328 : Shape := ⟨2, ![4096, 3328]⟩
abbrev S3328 : Shape := ⟨1, ![3328]⟩
abbrev S4096x512 : Shape := ⟨2, ![4096, 512]⟩
abbrev S4096x128 : Shape := ⟨2, ![4096, 128]⟩
abbrev S4096x2048 : Shape := ⟨2, ![4096, 2048]⟩
abbrev S4096x2x1x64 : Shape := ⟨4, ![4096, 2, 1, 64]⟩
abbrev S4096x2x4x64 : Shape := ⟨4, ![4096, 2, 4, 64]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2x2048x8x64 : Shape := ⟨4, ![2, 2048, 8, 64]⟩
abbrev S2x2048x8x8 : Shape := ⟨4, ![2, 2048, 8, 8]⟩
abbrev S1x2048x1x8 : Shape := ⟨4, ![1, 2048, 1, 8]⟩
abbrev S2x2048x8x48 : Shape := ⟨4, ![2, 2048, 8, 48]⟩
abbrev S2x2048x2x64 : Shape := ⟨4, ![2, 2048, 2, 64]⟩
abbrev S2x2048x2x8 : Shape := ⟨4, ![2, 2048, 2, 8]⟩
abbrev S2x2048x2x48 : Shape := ⟨4, ![2, 2048, 2, 48]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x3328, .f32⟩
  | .hbm, ⟨3, _⟩ => ⟨S1x3328, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x3328, .f32⟩
  | .hbm, ⟨22, _⟩ => ⟨S4096x3328, .f32⟩
  | .hbm, ⟨23, _⟩ => ⟨S3328, .f32⟩
  | .hbm, ⟨24, _⟩ => ⟨S1x3328, .f32⟩
  | .hbm, ⟨25, _⟩ => ⟨S4096x3328, .f32⟩
  | .hbm, ⟨26, _⟩ => ⟨S4096x3328, .f32⟩
  | .hbm, ⟨27, _⟩ => ⟨S4096x512, .f32⟩
  | .hbm, ⟨28, _⟩ => ⟨S4096x512, .f32⟩
  | .hbm, ⟨29, _⟩ => ⟨S4096x128, .f32⟩
  | .hbm, ⟨30, _⟩ => ⟨S4096x128, .f32⟩
  | .hbm, ⟨31, _⟩ => ⟨S4096x2048, .f32⟩
  | .hbm, ⟨32, _⟩ => ⟨S4096x1024, .bf16⟩
  | .hbm, ⟨33, _⟩ => ⟨S4096x2x1x64, .f32⟩
  | .hbm, ⟨34, _⟩ => ⟨S4096x2x4x64, .f32⟩
  | .hbm, ⟨35, _⟩ => ⟨S4096x512, .f32⟩
  | .hbm, ⟨36, _⟩ => ⟨S4096x512, .bf16⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .bf16⟩
  | .hbm, ⟨46, _⟩ => ⟨S2048, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S2048x1, .f32⟩
  | .hbm, ⟨62, _⟩ => ⟨S1x8, .f32⟩
  | .hbm, ⟨63, _⟩ => ⟨S2048x8, .f32⟩
  | .hbm, ⟨64, _⟩ => ⟨S2048x8, .f32⟩
  | .hbm, ⟨65, _⟩ => ⟨S2048x8, .f32⟩
  | .hbm, ⟨66, _⟩ => ⟨S2048x8, .f32⟩
  | .hbm, ⟨67, _⟩ => ⟨S2048x8, .f32⟩
  | .hbm, ⟨68, _⟩ => ⟨S2x2048x8x64, .f32⟩
  | .hbm, ⟨69, _⟩ => ⟨S2x2048x8x8, .f32⟩
  | .hbm, ⟨70, _⟩ => ⟨S2x2048x8x8, .f32⟩
  | .hbm, ⟨71, _⟩ => ⟨S1x2048x1x8, .f32⟩
  | .hbm, ⟨72, _⟩ => ⟨S1x2048x1x8, .f32⟩
  | .hbm, ⟨73, _⟩ => ⟨S2x2048x8x8, .f32⟩
  | .hbm, ⟨74, _⟩ => ⟨S2x2048x8x8, .f32⟩
  | .hbm, ⟨75, _⟩ => ⟨S2x2048x8x8, .f32⟩
  | .hbm, ⟨76, _⟩ => ⟨S2x2048x8x8, .f32⟩
  | .hbm, ⟨77, _⟩ => ⟨S2x2048x8x8, .f32⟩
  | .hbm, ⟨78, _⟩ => ⟨S2x2048x8x8, .f32⟩
  | .hbm, ⟨79, _⟩ => ⟨S2x2048x8x8, .f32⟩
  | .hbm, ⟨80, _⟩ => ⟨S2x2048x8x8, .f32⟩
  | .hbm, ⟨81, _⟩ => ⟨S2x2048x8x8, .f32⟩
  | .hbm, ⟨82, _⟩ => ⟨S2x2048x8x8, .f32⟩
  | .hbm, ⟨83, _⟩ => ⟨S2x2048x8x48, .f32⟩
  | .hbm, ⟨84, _⟩ => ⟨S2x2048x8x64, .f32⟩
  | .hbm, ⟨85, _⟩ => ⟨S2x2048x2x64, .f32⟩
  | .hbm, ⟨86, _⟩ => ⟨S2x2048x2x8, .f32⟩
  | .hbm, ⟨87, _⟩ => ⟨S2x2048x2x8, .f32⟩
  | .hbm, ⟨88, _⟩ => ⟨S1x2048x1x8, .f32⟩
  | .hbm, ⟨89, _⟩ => ⟨S1x2048x1x8, .f32⟩
  | .hbm, ⟨90, _⟩ => ⟨S2x2048x2x8, .f32⟩
  | .hbm, ⟨91, _⟩ => ⟨S2x2048x2x8, .f32⟩
  | .hbm, ⟨92, _⟩ => ⟨S2x2048x2x8, .f32⟩
  | .hbm, ⟨93, _⟩ => ⟨S2x2048x2x8, .f32⟩
  | .hbm, ⟨94, _⟩ => ⟨S2x2048x2x8, .f32⟩
  | .hbm, ⟨95, _⟩ => ⟨S2x2048x2x8, .f32⟩
  | .hbm, ⟨96, _⟩ => ⟨S2x2048x2x8, .f32⟩
  | .hbm, ⟨97, _⟩ => ⟨S2x2048x2x8, .f32⟩
  | .hbm, ⟨98, _⟩ => ⟨S2x2048x2x8, .f32⟩
  | .hbm, ⟨99, _⟩ => ⟨S2x2048x2x8, .f32⟩
  | .hbm, ⟨100, _⟩ => ⟨S2x2048x2x48, .f32⟩
  | .hbm, ⟨101, _⟩ => ⟨S2x2048x2x64, .f32⟩
  | .hbm, ⟨102, _⟩ => ⟨S4096x512, .f32⟩
  | .hbm, ⟨103, _⟩ => ⟨S_, .f32⟩
  | .hbm, ⟨104, _⟩ => ⟨S4096x512, .f32⟩
  | .hbm, ⟨105, _⟩ => ⟨S4096x512, .f32⟩
  | .hbm, ⟨106, _⟩ => ⟨S4096x512, .bf16⟩
  | .hbm, ⟨107, _⟩ => ⟨S4096x2x1x64, .f32⟩
  | .hbm, ⟨108, _⟩ => ⟨S4096x2x4x64, .f32⟩
  | .hbm, ⟨109, _⟩ => ⟨S4096x512, .f32⟩
  | .hbm, ⟨110, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_cst_8 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩

abbrev nD : Nat := 1
abbrev τ : Topo := Topo.v7x

variable {F : FTy → Type} [FloatOps F]
-- ==== KernelFwd.lean ====
abbrev S1x8 : Shape := ⟨2, ![1, 8]⟩
abbrev S4096x512 : Shape := ⟨2, ![4096, 512]⟩
abbrev S4096x128 : Shape := ⟨2, ![4096, 128]⟩
abbrev S_ : Shape := ⟨0, ![]⟩
abbrev S4096x64 : Shape := ⟨2, ![4096, 64]⟩
abbrev S2048x512 : Shape := ⟨2, ![2048, 512]⟩
abbrev S128x256 : Shape := ⟨2, ![128, 256]⟩
abbrev S512x1 : Shape := ⟨2, ![512, 1]⟩
abbrev S512x256 : Shape := ⟨2, ![512, 256]⟩
abbrev S1x1 : Shape := ⟨2, ![1, 1]⟩
abbrev S256x256 : Shape := ⟨2, ![256, 256]⟩
abbrev S512 : Shape := ⟨1, ![512]⟩

abbrev nBuf : Space → Nat
  | .hbm => 17
  | .vmem => 8
  | .smem => 1
  | _ => 0

abbrev bufTy : (tb : Table) → Fin (tcTables nBuf tb) → BufTy
  | .hbm, ⟨0, _⟩ => ⟨S1x8, .f32⟩
  | .hbm, ⟨1, _⟩ => ⟨S4096x512, .f32⟩
  | .hbm, ⟨2, _⟩ => ⟨S4096x128, .f32⟩
  | .hbm, ⟨3, _⟩ => ⟨S4096x128, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S4096x512, .bf16⟩
  | .hbm, ⟨8, _⟩ => ⟨S4096x64, .f32⟩
  | .hbm, ⟨9, _⟩ => ⟨S4096x64, .f32⟩
  | .hbm, ⟨10, _⟩ => ⟨S4096x512, .f32⟩
  | .hbm, ⟨11, _⟩ => ⟨S4096x512, .bf16⟩
  | .hbm, ⟨12, _⟩ => ⟨S4096x64, .f32⟩
  | .hbm, ⟨13, _⟩ => ⟨S4096x64, .f32⟩
  | .hbm, ⟨14, _⟩ => ⟨S4096x512, .f32⟩
  | .hbm, ⟨15, _⟩ => ⟨S4096x512, .bf16⟩
  | .hbm, ⟨16, _⟩ => ⟨S4096x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .smem, ⟨0, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_81 : BitVec 32 := 0#32
  let c5_i32 : BitVec 32 := 5#32
  let v211 : BitVec 32 := Scalar.addi c0_i32_81 c5_i32
  let c1_i32_82 : BitVec 32 := 1#32
  ⟨c0_i32_81, v211, c1_i32_82⟩
def k0_mult1 (k0_t1 : Fin k0_t1_loop.trips) : BitVec 32 :=
  let c1_i32_85 : BitVec 32 := 1#32
  let c3_i32_84 : BitVec 32 := 3#32
  let c0_i32_81 : BitVec 32 := 0#32
  let c1_i32_82 : BitVec 32 := 1#32
  let arg6 : BitVec 32 := Scf.iv c0_i32_81 c1_i32_82 k0_t1
  let v212 : BitVec 32 := Scalar.muli c3_i32_84 arg6
  let v213 : BitVec 32 := Scalar.addi c1_i32_85 v212
  let c0_i32_86 : BitVec 32 := 0#32
  let v214 : BitVec 32 := Scalar.addi v213 c0_i32_86
  let c128_i32_87 : BitVec 32 := 128#32
  let v215 : BitVec 32 := Scalar.muli v214 c128_i32_87
  v215
def k0_mult2 (k0_t1 : Fin k0_t1_loop.trips) : BitVec 32 :=
  let c1_i32_85 : BitVec 32 := 1#32
  let c3_i32_84 : BitVec 32 := 3#32
  let c0_i32_81 : BitVec 32 := 0#32
  let c1_i32_82 : BitVec 32 := 1#32
  let arg6 : BitVec 32 := Scf.iv c0_i32_81 c1_i32_82 k0_t1
  let v212 : BitVec 32 := Scalar.muli c3_i32_84 arg6
  let v213 : BitVec 32 := Scalar.addi c1_i32_85 v212
  let c0_i32_86 : BitVec 32 := 0#32
  let v214 : BitVec 32 := Scalar.addi v213 c0_i32_86
  let c1_i32_88 : BitVec 32 := 1#32
  let v217 : BitVec 32 := Scalar.subi v214 c1_i32_88
  let c128_i32_89 : BitVec 32 := 128#32
  let v218 : BitVec 32 := Scalar.muli v217 c128_i32_89
  v218
def k0_off1 (k0_t1 : Fin k0_t1_loop.trips) (c0_i32_86 : BitVec 32) : Fin 2 → Nat :=
  let c1_i32_85 : BitVec 32 := 1#32
  let c3_i32_84 : BitVec 32 := 3#32
  let c0_i32_81 : BitVec 32 := 0#32
  let c1_i32_82 : BitVec 32 := 1#32
  let arg6 : BitVec 32 := Scf.iv c0_i32_81 c1_i32_82 k0_t1
  let v212 : BitVec 32 := Scalar.muli c3_i32_84 arg6
  let v213 : BitVec 32 := Scalar.addi c1_i32_85 v212
  let v214 : BitVec 32 := Scalar.addi v213 c0_i32_86
  let c128_i32_87 : BitVec 32 := 128#32
  let v215 : BitVec 32 := Scalar.muli v214 c128_i32_87
  let v216 : BitVec 32 := v215
  let v220 : Index := Scalar.indexCast v216
  let c0_90 : Index := 0#32
  ![v220.toNat, 0]
def k0_off2 (k0_t1 : Fin k0_t1_loop.trips) (c0_i32_86 : BitVec 32) : Fin 2 → Nat :=
  let c1_i32_85 : BitVec 32 := 1#32
  let c3_i32_84 : BitVec 32 := 3#32
  let c0_i32_81 : BitVec 32 := 0#32
  let c1_i32_82 : BitVec 32 := 1#32
  let arg6 : BitVec 32 := Scf.iv c0_i32_81 c1_i32_82 k0_t1
  let v212 : BitVec 32 := Scalar.muli c3_i32_84 arg6
  let v213 : BitVec 32 := Scalar.addi c1_i32_85 v212
  let v214 : BitVec 32 := Scalar.addi v213 c0_i32_86
  let c1_i32_88 : BitVec 32 := 1#32
  let v217 : BitVec 32 := Scalar.subi v214 c1_i32_88
  let c128_i32_89 : BitVec 32 := 128#32
  let v218 : BitVec 32 := Scalar.muli v217 c128_i32_89
  let v219 : BitVec 32 := v218
  let v240 : Index := Scalar.indexCast v219
  let c0_99 : Index := 0#32
  ![v240.toNat, 0]
def k0_off3 (k0_t1 : Fin k0_t1_loop.trips) (c0_i32_86 : BitVec 32) : Fin 2 → Nat :=
  let c1_i32_85 : BitVec 32 := 1#32
  let c3_i32_84 : BitVec 32 := 3#32
  let c0_i32_81 : BitVec 32 := 0#32
  let c1_i32_82 : BitVec 32 := 1#32
  let arg6 : BitVec 32 := Scf.iv c0_i32_81 c1_i32_82 k0_t1
  let v212 : BitVec 32 := Scalar.muli c3_i32_84 arg6
  let v213 : BitVec 32 := Scalar.addi c1_i32_85 v212
  let v214 : BitVec 32 := Scalar.addi v213 c0_i32_86
  let c128_i32_87 : BitVec 32 := 128#32
  let v215 : BitVec 32 := Scalar.muli v214 c128_i32_87
  let v216 : BitVec 32 := v215
  let v291 : Index := Scalar.indexCast v216
  let c256_115 : Index := 256#32
  ![v291.toNat, 256]
def k0_off4 (k0_t1 : Fin k0_t1_loop.trips) (c0_i32_86 : BitVec 32) : Fin 2 → Nat :=
  let c1_i32_85 : BitVec 32 := 1#32
  let c3_i32_84 : BitVec 32 := 3#32
  let c0_i32_81 : BitVec 32 := 0#32
  let c1_i32_82 : BitVec 32 := 1#32
  let arg6 : BitVec 32 := Scf.iv c0_i32_81 c1_i32_82 k0_t1
  let v212 : BitVec 32 := Scalar.muli c3_i32_84 arg6
  let v213 : BitVec 32 := Scalar.addi c1_i32_85 v212
  let v214 : BitVec 32 := Scalar.addi v213 c0_i32_86
  let c1_i32_88 : BitVec 32 := 1#32
  let v217 : BitVec 32 := Scalar.subi v214 c1_i32_88
  let c128_i32_89 : BitVec 32 := 128#32
  let v218 : BitVec 32 := Scalar.muli v217 c128_i32_89
  let v219 : BitVec 32 := v218
  let v311 : Index := Scalar.indexCast v219
  let c256_124 : Index := 256#32
  ![v311.toNat, 256]
def k0_mult3 (k0_t1 : Fin k0_t1_loop.trips) : BitVec 32 :=
  let c1_i32_141 : BitVec 32 := 1#32
  let c3_i32_140 : BitVec 32 := 3#32
  let c0_i32_81 : BitVec 32 := 0#32
  let c1_i32_82 : BitVec 32 := 1#32
  let arg6 : BitVec 32 := Scf.iv c0_i32_81 c1_i32_82 k0_t1
  let v362 : BitVec 32 := Scalar.muli c3_i32_140 arg6
  let v363 : BitVec 32 := Scalar.addi c1_i32_141 v362
  let c1_i32_142 : BitVec 32 := 1#32
  let v364 : BitVec 32 := Scalar.addi v363 c1_i32_142
  let c128_i32_143 : BitVec 32 := 128#32
  let v365 : BitVec 32 := Scalar.muli v364 c128_i32_143
  v365
def k0_mult4 (k0_t1 : Fin k0_t1_loop.trips) : BitVec 32 :=
  let c1_i32_141 : BitVec 32 := 1#32
  let c3_i32_140 : BitVec 32 := 3#32
  let c0_i32_81 : BitVec 32 := 0#32
  let c1_i32_82 : BitVec 32 := 1#32
  let arg6 : BitVec 32 := Scf.iv c0_i32_81 c1_i32_82 k0_t1
  let v362 : BitVec 32 := Scalar.muli c3_i32_140 arg6
  let v363 : BitVec 32 := Scalar.addi c1_i32_141 v362
  let c1_i32_142 : BitVec 32 := 1#32
  let v364 : BitVec 32 := Scalar.addi v363 c1_i32_142
  let c1_i32_144 : BitVec 32 := 1#32
  let v367 : BitVec 32 := Scalar.subi v364 c1_i32_144
  let c128_i32_145 : BitVec 32 := 128#32
  let v368 : BitVec 32 := Scalar.muli v367 c128_i32_145
  v368
def k0_mult5 (k0_t1 : Fin k0_t1_loop.trips) : BitVec 32 :=
  let c1_i32_197 : BitVec 32 := 1#32
  let c3_i32_196 : BitVec 32 := 3#32
  let c0_i32_81 : BitVec 32 := 0#32
  let c1_i32_82 : BitVec 32 := 1#32
  let arg6 : BitVec 32 := Scf.iv c0_i32_81 c1_i32_82 k0_t1
  let v512 : BitVec 32 := Scalar.muli c3_i32_196 arg6
  let v513 : BitVec 32 := Scalar.addi c1_i32_197 v512
  let c2_i32_198 : BitVec 32 := 2#32
  let v514 : BitVec 32 := Scalar.addi v513 c2_i32_198
  let c128_i32_199 : BitVec 32 := 128#32
  let v515 : BitVec 32 := Scalar.muli v514 c128_i32_199
  v515
def k0_mult6 (k0_t1 : Fin k0_t1_loop.trips) : BitVec 32 :=
  let c1_i32_197 : BitVec 32 := 1#32
  let c3_i32_196 : BitVec 32 := 3#32
  let c0_i32_81 : BitVec 32 := 0#32
  let c1_i32_82 : BitVec 32 := 1#32
  let arg6 : BitVec 32 := Scf.iv c0_i32_81 c1_i32_82 k0_t1
  let v512 : BitVec 32 := Scalar.muli c3_i32_196 arg6
  let v513 : BitVec 32 := Scalar.addi c1_i32_197 v512
  let c2_i32_198 : BitVec 32 := 2#32
  let v514 : BitVec 32 := Scalar.addi v513 c2_i32_198
  let c1_i32_200 : BitVec 32 := 1#32
  let v517 : BitVec 32 := Scalar.subi v514 c1_i32_200
  let c128_i32_201 : BitVec 32 := 128#32
  let v518 : BitVec 32 := Scalar.muli v517 c128_i32_201
  v518
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelFwdIdeal.lean ====
variable {F : FTy → Type} [FloatOps F] [Named F]
def κ : String → Option EReal := fun
  | "mask" => some ⊥
  | _ => none
-- ==== ReferenceFwdIdeal.lean ====
abbrev S1x8 : Shape := ⟨2, ![1, 8]⟩
abbrev S4096x512 : Shape := ⟨2, ![4096, 512]⟩
abbrev S4096x128 : Shape := ⟨2, ![4096, 128]⟩
abbrev S2x2048x2x64 : Shape := ⟨4, ![2, 2048, 2, 64]⟩
abbrev S2x2048x2x4x64 : Shape := ⟨5, ![2, 2048, 2, 4, 64]⟩
abbrev S2x16x128x2x4x64 : Shape := ⟨6, ![2, 16, 128, 2, 4, 64]⟩
abbrev S2x16x128x2x64 : Shape := ⟨5, ![2, 16, 128, 2, 64]⟩
abbrev S2x1x128x2x64 : Shape := ⟨5, ![2, 1, 128, 2, 64]⟩
abbrev S_ : Shape := ⟨0, ![]⟩
abbrev S2x15x128x2x64 : Shape := ⟨5, ![2, 15, 128, 2, 64]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S1x1x2x4x1x1 : Shape := ⟨6, ![1, 1, 2, 4, 1, 1]⟩
abbrev S2x16x2x4x128x1 : Shape := ⟨6, ![2, 16, 2, 4, 128, 1]⟩
abbrev S2x16x2x4x128x257 : Shape := ⟨6, ![2, 16, 2, 4, 128, 257]⟩
abbrev S2x16x2x4x128 : Shape := ⟨5, ![2, 16, 2, 4, 128]⟩
abbrev S2x16x2x64x4x128 : Shape := ⟨6, ![2, 16, 2, 64, 4, 128]⟩
abbrev S2x2048x512 : Shape := ⟨3, ![2, 2048, 512]⟩

abbrev nBuf : Space → Nat
  | .hbm => 89
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S4096x512, .f32⟩
  | .hbm, ⟨2, _⟩ => ⟨S4096x128, .f32⟩
  | .hbm, ⟨3, _⟩ => ⟨S4096x128, .f32⟩
  | .hbm, ⟨4, _⟩ => ⟨S2x2048x2x64, .f32⟩
  | .hbm, ⟨5, _⟩ => ⟨S2x2048x2x64, .f32⟩
  | .hbm, ⟨6, _⟩ => ⟨S2x2048x2x4x64, .f32⟩
  | .hbm, ⟨7, _⟩ => ⟨S2x16x128x2x4x64, .f32⟩
  | .hbm, ⟨8, _⟩ => ⟨S2x16x128x2x64, .f32⟩
  | .hbm, ⟨9, _⟩ => ⟨S2x1x128x2x64, .f32⟩
  | .hbm, ⟨10, _⟩ => ⟨S_, .f32⟩
  | .hbm, ⟨11, _⟩ => ⟨S2x1x128x2x64, .f32⟩
  | .hbm, ⟨12, _⟩ => ⟨S2x15x128x2x64, .f32⟩
  | .hbm, ⟨13, _⟩ => ⟨S2x16x128x2x64, .f32⟩
  | .hbm, ⟨14, _⟩ => ⟨S2x16x256x2x64, .f32⟩
  | .hbm, ⟨15, _⟩ => ⟨S2x16x128x2x64, .f32⟩
  | .hbm, ⟨16, _⟩ => ⟨S2x1x128x2x64, .f32⟩
  | .hbm, ⟨17, _⟩ => ⟨S_, .f32⟩
  | .hbm, ⟨18, _⟩ => ⟨S2x1x128x2x64, .f32⟩
  | .hbm, ⟨19, _⟩ => ⟨S2x15x128x2x64, .f32⟩
  | .hbm, ⟨20, _⟩ => ⟨S2x16x128x2x64, .f32⟩
  | .hbm, ⟨21, _⟩ => ⟨S2x16x256x2x64, .f32⟩
  | .hbm, ⟨22, _⟩ => ⟨S2x16x2x256x128x4, .f32⟩
  | .hbm, ⟨23, _⟩ => ⟨S2x16x2x4x128x256, .f32⟩
  | .hbm, ⟨24, _⟩ => ⟨S_, .f32⟩
  | .hbm, ⟨25, _⟩ => ⟨S2x16x2x4x128x256, .f32⟩
  | .hbm, ⟨26, _⟩ => ⟨S2x16x2x4x128x256, .f32⟩
  | .hbm, ⟨27, _⟩ => ⟨S128, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S16, .i32⟩
  | .hbm, ⟨45, _⟩ => ⟨S_, .i32⟩
  | .hbm, ⟨46, _⟩ => ⟨S16, .i32⟩
  | .hbm, ⟨47, _⟩ => ⟨S16, .i1⟩
  | .hbm, ⟨48, _⟩ => ⟨S16x1x1, .i1⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S1x1x256, .i1⟩
  | .hbm, ⟨53, _⟩ => ⟨S16x1x256, .i1⟩
  | .hbm, ⟨54, _⟩ => ⟨S16x1x256, .i1⟩
  | .hbm, ⟨55, _⟩ => ⟨S16x1x256, .i1⟩
  | .hbm, ⟨56, _⟩ => ⟨S1x128x256, .i1⟩
  | .hbm, ⟨57, _⟩ => ⟨S16x128x256, .i1⟩
  | .hbm, ⟨58, _⟩ => ⟨S16x128x256, .i1⟩
  | .hbm, ⟨59, _⟩ => ⟨S16x128x256, .i1⟩
  | .hbm, ⟨60, _⟩ => ⟨S1x16x1x1x128x256, .i1⟩
  | .hbm, ⟨61, _⟩ => ⟨S_, .f32⟩
  | .hbm, ⟨62, _⟩ => ⟨S_, .f32⟩
  | .hbm, ⟨63, _⟩ => ⟨S2x16x2x4x128x256, .i1⟩
  | .hbm, ⟨64, _⟩ => ⟨S2x16x2x4x128x256, .f32⟩
  | .hbm, ⟨65, _⟩ => ⟨S2x16x2x4x128x256, .f32⟩
  | .hbm, ⟨66, _⟩ => ⟨S1x1x2x4x1x1, .f32⟩
  | .hbm, ⟨67, _⟩ => ⟨S2x16x2x4x128x1, .f32⟩
  | .hbm, ⟨68, _⟩ => ⟨S2x16x2x4x128x257, .f32⟩
  | .hbm, ⟨69, _⟩ => ⟨S_, .f32⟩
  | .hbm, ⟨70, _⟩ => ⟨S2x16x2x4x128, .f32⟩
  | .hbm, ⟨71, _⟩ => ⟨S_, .f32⟩
  | .hbm, ⟨72, _⟩ => ⟨S2x16x2x4x128, .f32⟩
  | .hbm, ⟨73, _⟩ => ⟨S2x16x2x4x128, .f32⟩
  | .hbm, ⟨74, _⟩ => ⟨S2x16x2x4x128x1, .f32⟩
  | .hbm, ⟨75, _⟩ => ⟨S2x16x2x4x128x257, .f32⟩
  | .hbm, ⟨76, _⟩ => ⟨S2x16x2x4x128x257, .f32⟩
  | .hbm, ⟨77, _⟩ => ⟨S2x16x2x4x128x257, .f32⟩
  | .hbm, ⟨78, _⟩ => ⟨S_, .f32⟩
  | .hbm, ⟨79, _⟩ => ⟨S2x16x2x4x128, .f32⟩
  | .hbm, ⟨80, _⟩ => ⟨S2x16x2x4x128x1, .f32⟩
  | .hbm, ⟨81, _⟩ => ⟨S2x16x2x4x128x257, .f32⟩
  | .hbm, ⟨82, _⟩ => ⟨S2x16x2x4x128x257, .f32⟩
  | .hbm, ⟨83, _⟩ => ⟨S2x16x2x4x128x256, .f32⟩
  | .hbm, ⟨84, _⟩ => ⟨S2x16x2x64x4x128, .f32⟩
  | .hbm, ⟨85, _⟩ => ⟨S2x16x128x2x4x64, .f32⟩
  | .hbm, ⟨86, _⟩ => ⟨S2x2048x512, .f32⟩
  | .hbm, ⟨87, _⟩ => ⟨S4096x512, .f32⟩
  | .hbm, ⟨88, _⟩ => ⟨S4096x512, .bf16⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== KernelUp.lean ====
abbrev S4096x1024 : Shape := ⟨2, ![4096, 1024]⟩
abbrev S1x1024x4096 : Shape := ⟨3, ![1, 1024, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024x4096, .f32⟩
  | .hbm, ⟨2, _⟩ => ⟨S4096x1024, .bf16⟩
  | .hbm, ⟨3, _⟩ => ⟨S1024x4096, .f32⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceUpIdeal.lean ====
abbrev S4096x1024 : Shape := ⟨2, ![4096, 1024]⟩
abbrev S1x1024x4096 : Shape := ⟨3, ![1, 1024, 4096]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x4096, .f32⟩
  | .hbm, ⟨2, _⟩ => ⟨S1024x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelMerge.lean ====
abbrev S4096x512 : Shape := ⟨2, ![4096, 512]⟩
abbrev S4096x2048 : Shape := ⟨2, ![4096, 2048]⟩
abbrev S4096x1024 : Shape := ⟨2, ![4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩
abbrev S512x1024 : Shape := ⟨2, ![512, 1024]⟩
abbrev S512x8x128 : Shape := ⟨3, ![512, 8, 128]⟩
abbrev S8x512x128 : Shape := ⟨3, ![8, 512, 128]⟩
abbrev S1024x1024 : Shape := ⟨2, ![1024, 1024]⟩
abbrev S512x512 : Shape := ⟨2, ![512, 512]⟩
abbrev S512x2048 : Shape := ⟨2, ![512, 2048]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 31
  | .vmem => 21
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x2048, .f32⟩
  | .hbm, ⟨3, _⟩ => ⟨S4096x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .bf16⟩
  | .hbm, ⟨18, _⟩ => ⟨S512x1024, .f32⟩
  | .hbm, ⟨19, _⟩ => ⟨S512x1024, .bf16⟩
  | .hbm, ⟨20, _⟩ => ⟨S512x8x128, .bf16⟩
  | .hbm, ⟨21, _⟩ => ⟨S8x512x128, .bf16⟩
  | .hbm, ⟨22, _⟩ => ⟨S512x1024, .f32⟩
  | .hbm, ⟨23, _⟩ => ⟨S512x1024, .bf16⟩
  | .hbm, ⟨24, _⟩ => ⟨S512x8x128, .bf16⟩
  | .hbm, ⟨25, _⟩ => ⟨S8x512x128, .bf16⟩
  | .hbm, ⟨26, _⟩ => ⟨S1024x1024, .f32⟩
  | .hbm, ⟨27, _⟩ => ⟨S1024x1024, .bf16⟩
  | .hbm, ⟨28, _⟩ => ⟨S4096x1024, .f32⟩
  | .hbm, ⟨29, _⟩ => ⟨S4096x1024, .f32⟩
  | .hbm, ⟨30, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S8x512x128, .bf16⟩
  | .local _ .vmem, ⟨9, _⟩ => ⟨S8x512x128, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceMergeIdeal.lean ====
abbrev S4096x512 : Shape := ⟨2, ![4096, 512]⟩
abbrev S4096x2048 : Shape := ⟨2, ![4096, 2048]⟩
abbrev S4096x1024 : Shape := ⟨2, ![4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S4096 : Shape := ⟨1, ![4096]⟩
abbrev S4096x1 : Shape := ⟨2, ![4096, 1]⟩

abbrev nBuf : Space → Nat
  | .hbm => 66
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x2048, .f32⟩
  | .hbm, ⟨3, _⟩ => ⟨S4096x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x1024, .f32⟩
  | .hbm, ⟨18, _⟩ => ⟨S4096x1024, .f32⟩
  | .hbm, ⟨19, _⟩ => ⟨S4096x512, .f32⟩
  | .hbm, ⟨20, _⟩ => ⟨S512x1024, .f32⟩
  | .hbm, ⟨21, _⟩ => ⟨S4096x1024, .f32⟩
  | .hbm, ⟨22, _⟩ => ⟨S4096x1024, .f32⟩
  | .hbm, ⟨23, _⟩ => ⟨S4096x512, .f32⟩
  | .hbm, ⟨24, _⟩ => ⟨S512x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x1024, .f32⟩
  | .hbm, ⟨29, _⟩ => ⟨S4096x1024, .f32⟩
  | .hbm, ⟨30, _⟩ => ⟨S1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== KernelPoolFwd.lean ====
abbrev S4096x512 : Shape := ⟨2, ![4096, 512]⟩
abbrev S1x4x128x128 : Shape := ⟨4, ![1, 4, 128, 128]⟩
abbrev S1x512 : Shape := ⟨2, ![1, 512]⟩
abbrev S4x128x128 : Shape := ⟨3, ![4, 128, 128]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S1x4x128x128, .f32⟩
  | .hbm, ⟨2, _⟩ => ⟨S1x512, .f32⟩
  | .hbm, ⟨3, _⟩ => ⟨S4x128x128, .f32⟩
  | .hbm, ⟨4, _⟩ => ⟨S4x128x128, .bf16⟩
  | .hbm, ⟨5, _⟩ => ⟨S4096x512, .bf16⟩
  | .local _ .vmem, ⟨0, _⟩ => ⟨S2048x512, .f32⟩
  | .local _ .vmem, ⟨1, _⟩ => ⟨S2048x512, .f32⟩
  | .local _ .vmem, ⟨2, _⟩ => ⟨S4x128x128, .bf16⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePoolFwdIdeal.lean ====
abbrev S4096x512 : Shape := ⟨2, ![4096, 512]⟩
abbrev S1x4x128x128 : Shape := ⟨4, ![1, 4, 128, 128]⟩
abbrev S1x512 : Shape := ⟨2, ![1, 512]⟩
abbrev S2x2048x512 : Shape := ⟨3, ![2, 2048, 512]⟩
abbrev S4x128x128 : Shape := ⟨3, ![4, 128, 128]⟩
abbrev S512 : Shape := ⟨1, ![512]⟩
abbrev S_ : Shape := ⟨0, ![]⟩
abbrev S2x1x512 : Shape := ⟨3, ![2, 1, 512]⟩
abbrev S2x2049x512 : Shape := ⟨3, ![2, 2049, 512]⟩
abbrev S2048 : Shape := ⟨1, ![2048]⟩
abbrev S2x2049x128 : Shape := ⟨3, ![2, 2049, 128]⟩
abbrev S2x2048x128 : Shape := ⟨3, ![2, 2048, 128]⟩
abbrev S2x1x128 : Shape := ⟨3, ![2, 1, 128]⟩
abbrev S2x2047x128 : Shape := ⟨3, ![2, 2047, 128]⟩
abbrev S1x2048x1 : Shape := ⟨3, ![1, 2048, 1]⟩
abbrev S2x3x512 : Shape := ⟨3, ![2, 3, 512]⟩
abbrev S2x3x128 : Shape := ⟨3, ![2, 3, 128]⟩
abbrev S2x2045x128 : Shape := ⟨3, ![2, 2045, 128]⟩
abbrev S2x7x512 : Shape := ⟨3, ![2, 7, 512]⟩
abbrev S2x7x128 : Shape := ⟨3, ![2, 7, 128]⟩
abbrev S2x2041x128 : Shape := ⟨3, ![2, 2041, 128]⟩
abbrev S2x15x512 : Shape := ⟨3, ![2, 15, 512]⟩
abbrev S2x15x128 : Shape := ⟨3, ![2, 15, 128]⟩
abbrev S2x2033x128 : Shape := ⟨3, ![2, 2033, 128]⟩
abbrev S2x2048x1x128 : Shape := ⟨4, ![2, 2048, 1, 128]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩

abbrev nBuf : Space → Nat
  | .hbm => 100
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x4x128x128, .f32⟩
  | .hbm, ⟨2, _⟩ => ⟨S1x512, .f32⟩
  | .hbm, ⟨3, _⟩ => ⟨S2x2048x512, .f32⟩
  | .hbm, ⟨4, _⟩ => ⟨S4x128x128, .f32⟩
  | .hbm, ⟨5, _⟩ => ⟨S512, .f32⟩
  | .hbm, ⟨6, _⟩ => ⟨S_, .f32⟩
  | .hbm, ⟨7, _⟩ => ⟨S2x1x512, .f32⟩
  | .hbm, ⟨8, _⟩ => ⟨S_, .f32⟩
  | .hbm, ⟨9, _⟩ => ⟨S_, .f32⟩
  | .hbm, ⟨10, _⟩ => ⟨S2x2048x512, .f32⟩
  | .hbm, ⟨11, _⟩ => ⟨S2x2049x512, .f32⟩
  | .hbm, ⟨12, _⟩ => ⟨S2048, .i32⟩
  | .hbm, ⟨13, _⟩ => ⟨S2x2049x128, .f32⟩
  | .hbm, ⟨14, _⟩ => ⟨S2x2048x128, .f32⟩
  | .hbm, ⟨15, _⟩ => ⟨S_, .f32⟩
  | .hbm, ⟨16, _⟩ => ⟨S2x1x512, .f32⟩
  | .hbm, ⟨17, _⟩ => ⟨S2x1x128, .f32⟩
  | .hbm, ⟨18, _⟩ => ⟨S2x2047x128, .f32⟩
  | .hbm, ⟨19, _⟩ => ⟨S2x2048x128, .f32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .f32⟩
  | .hbm, ⟨27, _⟩ => ⟨S1x2048x1, .f32⟩
  | .hbm, ⟨28, _⟩ => ⟨S2x2048x128, .f32⟩
  | .hbm, ⟨29, _⟩ => ⟨S2x2048x128, .f32⟩
  | .hbm, ⟨30, _⟩ => ⟨S2x2048x128, .f32⟩
  | .hbm, ⟨31, _⟩ => ⟨S2x2049x128, .f32⟩
  | .hbm, ⟨32, _⟩ => ⟨S2x2048x128, .f32⟩
  | .hbm, ⟨33, _⟩ => ⟨S_, .f32⟩
  | .hbm, ⟨34, _⟩ => ⟨S2x3x512, .f32⟩
  | .hbm, ⟨35, _⟩ => ⟨S2x3x128, .f32⟩
  | .hbm, ⟨36, _⟩ => ⟨S2x2045x128, .f32⟩
  | .hbm, ⟨37, _⟩ => ⟨S2x2048x128, .f32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .f32⟩
  | .hbm, ⟨45, _⟩ => ⟨S1x2048x1, .f32⟩
  | .hbm, ⟨46, _⟩ => ⟨S2x2048x128, .f32⟩
  | .hbm, ⟨47, _⟩ => ⟨S2x2048x128, .f32⟩
  | .hbm, ⟨48, _⟩ => ⟨S2x2048x128, .f32⟩
  | .hbm, ⟨49, _⟩ => ⟨S2x2049x128, .f32⟩
  | .hbm, ⟨50, _⟩ => ⟨S2x2048x128, .f32⟩
  | .hbm, ⟨51, _⟩ => ⟨S_, .f32⟩
  | .hbm, ⟨52, _⟩ => ⟨S2x7x512, .f32⟩
  | .hbm, ⟨53, _⟩ => ⟨S2x7x128, .f32⟩
  | .hbm, ⟨54, _⟩ => ⟨S2x2041x128, .f32⟩
  | .hbm, ⟨55, _⟩ => ⟨S2x2048x128, .f32⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S2048, .f32⟩
  | .hbm, ⟨63, _⟩ => ⟨S1x2048x1, .f32⟩
  | .hbm, ⟨64, _⟩ => ⟨S2x2048x128, .f32⟩
  | .hbm, ⟨65, _⟩ => ⟨S2x2048x128, .f32⟩
  | .hbm, ⟨66, _⟩ => ⟨S2x2048x128, .f32⟩
  | .hbm, ⟨67, _⟩ => ⟨S2x2049x128, .f32⟩
  | .hbm, ⟨68, _⟩ => ⟨S2x2048x128, .f32⟩
  | .hbm, ⟨69, _⟩ => ⟨S_, .f32⟩
  | .hbm, ⟨70, _⟩ => ⟨S2x15x512, .f32⟩
  | .hbm, ⟨71, _⟩ => ⟨S2x15x128, .f32⟩
  | .hbm, ⟨72, _⟩ => ⟨S2x2033x128, .f32⟩
  | .hbm, ⟨73, _⟩ => ⟨S2x2048x128, .f32⟩
  | .hbm, ⟨74, _⟩ => ⟨S_, .i32⟩
  | .hbm, ⟨75, _⟩ => ⟨S2048, .i32⟩
  | .hbm, ⟨76, _⟩ => ⟨S2048, .i32⟩
  | .hbm, ⟨77, _⟩ => ⟨S_, .i32⟩
  | .hbm, ⟨78, _⟩ => ⟨S2048, .i32⟩
  | .hbm, ⟨79, _⟩ => ⟨S2048, .i32⟩
  | .hbm, ⟨80, _⟩ => ⟨S2048, .f32⟩
  | .hbm, ⟨81, _⟩ => ⟨S1x2048x1, .f32⟩
  | .hbm, ⟨82, _⟩ => ⟨S2x2048x128, .f32⟩
  | .hbm, ⟨83, _⟩ => ⟨S2x2048x128, .f32⟩
  | .hbm, ⟨84, _⟩ => ⟨S2x2048x128, .f32⟩
  | .hbm, ⟨85, _⟩ => ⟨S2x2048x1x128, .f32⟩
  | .hbm, ⟨86, _⟩ => ⟨S2x2048x1x128, .f32⟩
  | .hbm, ⟨87, _⟩ => ⟨S2x2048x1x128, .f32⟩
  | .hbm, ⟨88, _⟩ => ⟨S2x2048x1x128, .f32⟩
  | .hbm, ⟨89, _⟩ => ⟨S2x2048x4x128, .f32⟩
  | .hbm, ⟨90, _⟩ => ⟨S2x2048x4x128, .f32⟩
  | .hbm, ⟨91, _⟩ => ⟨S2x2048x4x128, .f32⟩
  | .hbm, ⟨92, _⟩ => ⟨S4x128x2x2048, .f32⟩
  | .hbm, ⟨93, _⟩ => ⟨S2x2048x4x128, .f32⟩
  | .hbm, ⟨94, _⟩ => ⟨S2x2048x512, .f32⟩
  | .hbm, ⟨95, _⟩ => ⟨S1x1x512, .f32⟩
  | .hbm, ⟨96, _⟩ => ⟨S2x2048x512, .f32⟩
  | .hbm, ⟨97, _⟩ => ⟨S2x2048x512, .f32⟩
  | .hbm, ⟨98, _⟩ => ⟨S4096x512, .f32⟩
  | .hbm, ⟨99, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_9 : Ref sig .tc := ⟨.hbm, 74, rfl⟩
abbrev main_v58 : Ref sig .tc := ⟨.hbm, 75, rfl⟩
abbrev main_v59 : Ref sig .tc := ⟨.hbm, 76, rfl⟩
abbrev main_c_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== Proof.Frames.lean ====
/-
  The frames of the calls: each runs to completion, leaves its arguments as they were and every counter at zero.
-/
module

public import proofs.«01_k».proof.Defs
public import proofs.«01_k».proof.Proof.Gen.KernelIn
public import proofs.«01_k».proof.Proof.Gen.KernelIn.Frame
public import proofs.«01_k».proof.Proof.Gen.KernelInIdeal.Frame
public import proofs.«01_k».proof.Proof.Gen.KernelInIdeal
public import proofs.«01_k».proof.Proof.Gen.ReferenceInIdeal
public import proofs.«01_k».proof.Proof.Gen.ReferenceInIdeal.Run
public import proofs.«01_k».proof.Proof.Gen.KernelPool
public import proofs.«01_k».proof.Proof.Gen.KernelPool.Frame
public import proofs.«01_k».proof.Proof.Gen.KernelPoolIdeal.Frame
public import proofs.«01_k».proof.Proof.Gen.KernelPoolIdeal
public import proofs.«01_k».proof.Proof.Gen.ReferencePoolIdeal
public import proofs.«01_k».proof.Proof.Gen.ReferencePoolIdeal.Run
public import proofs.«01_k».proof.Proof.Gen.KernelMlp
public import proofs.«01_k».proof.Proof.Gen.KernelMlp.Frame
public import proofs.«01_k».proof.Proof.Gen.KernelMlpIdeal.Frame
public import proofs.«01_k».proof.Proof.Gen.KernelMlpIdeal
public import proofs.«01_k».proof.Proof.Gen.ReferenceMlpIdeal
public import proofs.«01_k».proof.Proof.Gen.ReferenceMlpIdeal.Run
public import proofs.«01_k».proof.Proof.Gen.KernelFwd
public import proofs.«01_k».proof.Proof.Gen.KernelFwd.Frame
public import proofs.«01_k».proof.Proof.Gen.KernelFwdIdeal.Frame
public import proofs.«01_k».proof.Proof.Gen.KernelFwdIdeal
public import proofs.«01_k».proof.Proof.Gen.KernelProj
public import proofs.«01_k».proof.Proof.Gen.KernelProj.Frame
public import proofs.«01_k».proof.Proof.Gen.KernelProjIdeal.Frame
public import proofs.«01_k».proof.Proof.Gen.KernelProjIdeal
public import proofs.«01_k».proof.Proof.Gen.ReferenceFwdIdeal
public import proofs.«01_k».proof.Proof.Gen.ReferenceFwdIdeal.Run
public import proofs.«01_k».proof.Proof.Gen.ReferenceProjIdeal
public import proofs.«01_k».proof.Proof.Gen.ReferenceProjIdeal.Run
public import proofs.«01_k».proof.Proof.Gen.KernelUp
public import proofs.«01_k».proof.Proof.Gen.KernelUp.Frame
public import proofs.«01_k».proof.Proof.Gen.KernelUpIdeal.Frame
public import proofs.«01_k».proof.Proof.Gen.KernelUpIdeal
public import proofs.«01_k».proof.Proof.Gen.ReferenceUpIdeal
public import proofs.«01_k».proof.Proof.Gen.ReferenceUpIdeal.Run
public import proofs.«01_k».proof.Proof.Gen.KernelMerge
public import proofs.«01_k».proof.Proof.Gen.KernelMerge.Frame
public import proofs.«01_k».proof.Proof.Gen.KernelMergeIdeal.Frame
public import proofs.«01_k».proof.Proof.Gen.KernelMergeIdeal
public import proofs.«01_k».proof.Proof.Gen.ReferenceMergeIdeal
public import proofs.«01_k».proof.Proof.Gen.ReferenceMergeIdeal.Run
public import proofs.«01_k».proof.Proof.Gen.KernelPoolFwd
public import proofs.«01_k».proof.Proof.Gen.KernelPoolFwd.Frame
public import proofs.«01_k».proof.Proof.Gen.KernelPoolFwdIdeal.Frame
public import proofs.«01_k».proof.Proof.Gen.KernelPoolFwdIdeal
public import proofs.«01_k».proof.Proof.Gen.ReferencePoolFwdIdeal
public import proofs.«01_k».proof.Proof.Gen.ReferencePoolFwdIdeal.Run
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Frames

theorem kernelIn : Cert.quiescent_KernelIn := fun m g _ => Cert.KernelIn.Gen.frame m g
theorem kernelInI : Cert.quiescent_KernelInIdeal := fun m g _ => Cert.KernelInIdeal.Gen.frame m g

theorem referenceIn : Cert.quiescent_ReferenceInIdeal := fun m g _ => by
  run_from Cert.ReferenceInIdeal.Value.run m g
  · simp
  · exact sem_eq_zero_of_no_sems (sig := Cert.ReferenceInIdeal.sig) (by decide) _

theorem kernelPool : Cert.quiescent_KernelPool := fun m g _ => Cert.KernelPool.Gen.frame m g
theorem kernelPoolI : Cert.quiescent_KernelPoolIdeal := fun m g _ => Cert.KernelPoolIdeal.Gen.frame m g

theorem referencePool : Cert.quiescent_ReferencePoolIdeal := fun m g _ => by
  run_from Cert.ReferencePoolIdeal.Value.run m g
  · simp
  · exact sem_eq_zero_of_no_sems (sig := Cert.ReferencePoolIdeal.sig) (by decide) _

theorem kernelMlp : Cert.quiescent_KernelMlp := fun m g _ => Cert.KernelMlp.Gen.frame m g
theorem kernelMlpI : Cert.quiescent_KernelMlpIdeal := fun m g _ => Cert.KernelMlpIdeal.Gen.frame m g

theorem referenceMlp : Cert.quiescent_ReferenceMlpIdeal := fun m g _ => by
  run_from Cert.ReferenceMlpIdeal.Value.run m g
  · simp
  · exact sem_eq_zero_of_no_sems (sig := Cert.ReferenceMlpIdeal.sig) (by decide) _

theorem kernelProj : Cert.quiescent_KernelProj := fun m g _ => Cert.KernelProj.Gen.frame m g
theorem kernelProjI : Cert.quiescent_KernelProjIdeal := fun m g _ => Cert.KernelProjIdeal.Gen.frame m g

theorem referenceProj : Cert.quiescent_ReferenceProjIdeal := fun m g _ => by
  run_from Cert.ReferenceProjIdeal.Value.run m g
  · simp
  · exact sem_eq_zero_of_no_sems (sig := Cert.ReferenceProjIdeal.sig) (by decide) _

theorem kernelFwd : Cert.quiescent_KernelFwd := fun m g _ => Cert.KernelFwd.Gen.frame m g
theorem kernelFwdI : Cert.quiescent_KernelFwdIdeal := fun m g _ => Cert.KernelFwdIdeal.Gen.frame m g

theorem referenceFwd : Cert.quiescent_ReferenceFwdIdeal := fun m g _ => by
  run_from Cert.ReferenceFwdIdeal.Value.run m g
  · simp
  · exact sem_eq_zero_of_no_sems (sig := Cert.ReferenceFwdIdeal.sig) (by decide) _

theorem kernelUp : Cert.quiescent_KernelUp := fun m g _ => Cert.KernelUp.Gen.frame m g
theorem kernelUpI : Cert.quiescent_KernelUpIdeal := fun m g _ => Cert.KernelUpIdeal.Gen.frame m g

theorem referenceUp : Cert.quiescent_ReferenceUpIdeal := fun m g _ => by
  run_from Cert.ReferenceUpIdeal.Value.run m g
  · simp
  · exact sem_eq_zero_of_no_sems (sig := Cert.ReferenceUpIdeal.sig) (by decide) _

theorem kernelMerge : Cert.quiescent_KernelMerge := fun m g _ => Cert.KernelMerge.Gen.frame m g
theorem kernelMergeI : Cert.quiescent_KernelMergeIdeal := fun m g _ => Cert.KernelMergeIdeal.Gen.frame m g

theorem referenceMerge : Cert.quiescent_ReferenceMergeIdeal := fun m g _ => by
  run_from Cert.ReferenceMergeIdeal.Value.run m g
  · simp
  · exact sem_eq_zero_of_no_sems (sig := Cert.ReferenceMergeIdeal.sig) (by decide) _

theorem kernelPoolFwd : Cert.quiescent_KernelPoolFwd := fun m g _ => Cert.KernelPoolFwd.Gen.frame m g
theorem kernelPoolFwdI : Cert.quiescent_KernelPoolFwdIdeal := fun m g _ => Cert.KernelPoolFwdIdeal.Gen.frame m g

theorem referencePoolFwd : Cert.quiescent_ReferencePoolFwdIdeal := fun m g _ => by
  run_from Cert.ReferencePoolFwdIdeal.Value.run m g
  · simp
  · exact sem_eq_zero_of_no_sems (sig := Cert.ReferencePoolFwdIdeal.sig) (by decide) _

end Cert.Frames
-- ==== Proof.Rms.lean ====
/-
  The root-mean-square norm and its gradient over the extended reals.

  The reciprocal root mean square of a row is always a nonnegative real number: the squares are nonnegative, so
  their mean plus a positive constant is a positive real or `⊤`, and the reciprocal root of `⊤` is zero. Every
  entry times it is therefore real too, and products with it distribute over sums whatever the other entries are.
-/
module

public import Idealize.ShloMosaic.Lib.IdealHost
public import Idealize.ShloMosaic.PureOps.Ideal.Laws

@[expose] public section

noncomputable section

open Idealize.ShloMosaic

namespace Cert.Rms

/-- The word of 1024. -/
abbrev c1024 : EReal := Ideal.ofBits .f32 0x44800000#32
/-- The norm's small constant. -/
abbrev ceps : EReal := Ideal.ofBits .f32 0x358637BD#32
/-- The word of minus one half. -/
abbrev cneghalf : EReal := Ideal.ofBits .f32 0xBF000000#32

theorem c1024_eq : c1024 = ((1024 : ℝ) : EReal) := by
  simp [Ideal.ofBits, Ideal.ieee, -EReal.coe_mul]; norm_num

theorem cneghalf_eq : cneghalf = ((-(1 / 2) : ℝ) : EReal) := by
  simp [Ideal.ofBits, Ideal.ieee, -EReal.coe_mul, -EReal.coe_neg]; norm_num

theorem ceps_pos : ∃ e : ℝ, 0 < e ∧ ceps = (e : EReal) := by
  refine ⟨8796093 * 2 ^ (-43 : ℤ), by positivity, ?_⟩
  simp [Ideal.ofBits, Ideal.ieee, -EReal.coe_mul]

/-- Division by a nonzero real number is multiplication by its inverse. -/
theorem div_coe {r : ℝ} (hr : r ≠ 0) (x : EReal) : Ideal.div x (r : EReal) = x * ((r⁻¹ : ℝ) : EReal) := by
  rw [Ideal.div, if_neg (by exact_mod_cast hr), EReal.coe_inv]

theorem div_1024 (x : EReal) : Ideal.div x c1024 = x * (((1024 : ℝ)⁻¹ : ℝ) : EReal) := by
  rw [c1024_eq, div_coe (by norm_num)]

/-- A nonnegative real factor goes into a finite sum. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

variable {n : ℕ}

/-- The mean of the squares plus the small constant. -/
def ms (x : Fin n → EReal) : EReal := Ideal.div (∑ k, x k * x k) c1024 + ceps

/-- The reciprocal root mean square. -/
def rinv (x : Fin n → EReal) : EReal := Ideal.rsqrt (ms x)

theorem sq_nonneg (a : EReal) : 0 ≤ a * a := by
  induction a with
  | bot => simp
  | top => simp
  | coe a => exact_mod_cast mul_self_nonneg a

theorem real_of_sq_ne_top {a : EReal} (h : a * a ≠ ⊤) : ∃ b : ℝ, a = b := by
  induction a with
  | bot => simp at h
  | top => simp at h
  | coe a => exact ⟨a, rfl⟩

/-- The reciprocal root mean square is a nonnegative real `r`; divided by the mean square it is `r³`; and where it is
    not zero every entry of the row is real. -/
theorem rinv_real (x : Fin n → EReal) :
    ∃ r : ℝ, 0 ≤ r ∧ rinv x = (r : EReal) ∧ Ideal.div (rinv x) (ms x) = ((r * r * r : ℝ) : EReal)
      ∧ (r = 0 ∨ ∀ k, ∃ a : ℝ, x k = a) := by
  obtain ⟨e, he, hce⟩ := ceps_pos
  have hS : 0 ≤ ∑ k, x k * x k := Finset.sum_nonneg fun k _ => sq_nonneg _
  rcases eq_or_ne (∑ k, x k * x k) ⊤ with ht | ht
  · have hm : ms x = ⊤ := by
      rw [ms, ht, div_1024, EReal.top_mul_of_pos (by exact_mod_cast (by norm_num : (0 : ℝ) < 1024⁻¹)), hce]
      rfl
    refine ⟨0, le_rfl, ?_, ?_, Or.inl rfl⟩
    · rw [rinv, hm]; rfl
    · rw [rinv, hm]
      show Ideal.div 0 ⊤ = _
      rw [Ideal.div, if_neg (by simp)]; simp
  · obtain ⟨q, hq⟩ : ∃ q : ℝ, ∑ k, x k * x k = (q : EReal) :=
      ⟨_, (EReal.coe_toReal ht (fun h => by rw [h] at hS; simp at hS)).symm⟩
    have hq0 : 0 ≤ q := by rw [hq] at hS; exact_mod_cast hS
    have hM : ms x = ((q * 1024⁻¹ + e : ℝ) : EReal) := by
      rw [ms, hq, div_1024, hce]; norm_cast
    set M : ℝ := q * 1024⁻¹ + e with hMd
    have hMp : 0 < M := by positivity
    have hr : rinv x = (((Real.sqrt M)⁻¹ : ℝ) : EReal) := by
      rw [rinv, hM]
      show (if M < 0 then ⊥ else if M = 0 then ⊤ else (((Real.sqrt M)⁻¹ : ℝ) : EReal)) = _
      rw [if_neg (not_lt.2 hMp.le), if_neg hMp.ne']
    refine ⟨(Real.sqrt M)⁻¹, by positivity, hr, ?_, Or.inr fun k => ?_⟩
    · rw [hr, hM, div_coe hMp.ne']
      rw [← EReal.coe_mul]
      congr 1
      have : Real.sqrt M * Real.sqrt M = M := Real.mul_self_sqrt hMp.le
      rw [← mul_inv (Real.sqrt M) (Real.sqrt M), this, mul_comm]
    · refine real_of_sq_ne_top fun hk => ht ?_
      refine top_unique ?_
      rw [← hk]
      exact Finset.single_le_sum (f := fun k => x k * x k) (fun i _ => sq_nonneg _) (Finset.mem_univ k)

/-- The gradient of the norm, in the kernel's form and in the derivative's: whatever the cotangent row `d` and the
    added `z` are. -/
theorem grad (x d : Fin n → EReal) (z : EReal) (j : Fin n) :
    z + rinv x * (d j - x j * rinv x * Ideal.div (∑ k, d k * (x k * rinv x)) c1024)
    = z + d j * rinv x + x j * Ideal.div ((∑ k, x k * d k) * (cneghalf * Ideal.div (rinv x) (ms x))) c1024
      + Ideal.div ((∑ k, x k * d k) * (cneghalf * Ideal.div (rinv x) (ms x))) c1024 * x j := by
  obtain ⟨r, hr, hrx, hrm, hx⟩ := rinv_real x
  rw [hrx] at hrm ⊢
  rw [hrm, cneghalf_eq, div_1024, div_1024]
  have hsum : ∑ k, d k * (x k * (r : EReal)) = (∑ k, x k * d k) * (r : EReal) := by
    rw [sum_mul_coe _ _ hr]
    exact Finset.sum_congr rfl fun k _ => by rw [← mul_assoc, mul_comm (d k)]
  rw [hsum]
  generalize ∑ k, x k * d k = S
  rcases hx with rfl | hx
  · simp
  · obtain ⟨a, ha⟩ := hx j
    rw [ha]
    have e1 : (r : EReal) * (d j - (a : EReal) * (r : EReal) * (S * (r : EReal) * ((1024⁻¹ : ℝ) : EReal)))
        = d j * (r : EReal) + (r : EReal) * -((a : EReal) * (r : EReal) * (S * (r : EReal) * ((1024⁻¹ : ℝ) : EReal))) := by
      rw [sub_eq_add_neg, EReal.left_distrib_of_nonneg_of_ne_top (by exact_mod_cast hr) (EReal.coe_ne_top r), mul_comm (d j)]
    rw [e1, ← add_assoc, add_assoc (z + d j * (r : EReal))]
    congr 1
    have h2 : ∀ y : EReal, y + y = y * ((2 : ℝ) : EReal) := fun y => by
      induction y with
      | bot => rw [EReal.bot_mul_coe_of_pos (by norm_num)]; rfl
      | top => rw [EReal.top_mul_coe_of_pos (by norm_num)]; rfl
      | coe y => norm_cast; ring
    rw [mul_comm _ (a : EReal), h2]
    have e2 : (r : EReal) * -((a : EReal) * (r : EReal) * (S * (r : EReal) * ((1024⁻¹ : ℝ) : EReal)))
        = S * ((-(r * a * r * r * 1024⁻¹) : ℝ) : EReal) := by
      rw [show (r : EReal) * -((a : EReal) * (r : EReal) * (S * (r : EReal) * ((1024⁻¹ : ℝ) : EReal)))
        = S * -((r : EReal) * (a : EReal) * (r : EReal) * (r : EReal) * ((1024⁻¹ : ℝ) : EReal)) by
          rw [mul_neg, mul_neg]; congr 1; ac_rfl]
      norm_cast
    rw [e2]
    rw [show (a : EReal) * (S * (((-(1 / 2) : ℝ) : EReal) * ((r * r * r : ℝ) : EReal)) * ((1024⁻¹ : ℝ) : EReal)) * ((2 : ℝ) : EReal)
      = S * (((a : EReal) * (((-(1 / 2) : ℝ) : EReal) * ((r * r * r : ℝ) : EReal)) * ((1024⁻¹ : ℝ) : EReal)) * ((2 : ℝ) : EReal)) by ac_rfl]
    congr 1
    norm_cast
    ring

end Cert.Rms

end
-- ==== Proof.InValue.lean ====
/-
  The projection's backward call: what its grid leaves in the three result arrays is what the reference writes.
-/
module

public import proofs.«01_k».proof.Proof.Gen.KernelInIdeal.Value
public import proofs.«01_k».proof.Proof.Gen.ReferenceInIdeal.Read
public import proofs.«01_k».proof.Proof.Rms
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelInIdeal.Hand

open Cert.KernelInIdeal Cert.KernelInIdeal.Gen
open Cert.ReferenceInIdeal.Read (val_main_v38 val_main_v59 val_main_v60 val_main_v61 val_main_v39 val_main_v33)

variable (m : (ℓ : Loc nD τ sig) → Buf (Elt Ideal) ℓ)

/-- Argument arrays at their literal types. -/
abbrev a0 (c : Dev nD) : FVec Ideal S4096x512 .bf16 := m ((c.tc : Thread nD τ).loc main_arg0)
abbrev a1 (c : Dev nD) : FVec Ideal S4096x512 .bf16 := m ((c.tc : Thread nD τ).loc main_arg1)
abbrev a2 (c : Dev nD) : FVec Ideal S4096x128 .bf16 := m ((c.tc : Thread nD τ).loc main_arg2)
abbrev a3 (c : Dev nD) : FVec Ideal S4096x128 .bf16 := m ((c.tc : Thread nD τ).loc main_arg3)
abbrev a4 (c : Dev nD) : FVec Ideal S4096x2048 .bf16 := m ((c.tc : Thread nD τ).loc main_arg4)
abbrev a5 (c : Dev nD) : FVec Ideal S4096x1024 .f32 := m ((c.tc : Thread nD τ).loc main_arg5)
abbrev a6 (c : Dev nD) : FVec Ideal S4096x1024 .f32 := m ((c.tc : Thread nD τ).loc main_arg6)
abbrev a7 (c : Dev nD) : FVec Ideal S1x1024 .f32 := m ((c.tc : Thread nD τ).loc main_arg7)
abbrev a8 (c : Dev nD) : FVec Ideal S1x1024x3328 .f32 := m ((c.tc : Thread nD τ).loc main_arg8)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![t.val, 0] ∧ win0_10.index t = ![0, 0]
    ∧ win0_11.index t = ![0, 0] :=
  (by decide +kernel : ∀ t : Fin grid0.N, _)

/-- The cotangent of the normed rows, as a point computes it. -/
abbrev dhK (c : Dev nD) (t : Fin cfg0.N) : FVec Ideal S512x1024 .f32 :=
  k0_pay12 (k0_pay8 (iblk m c 0 t) (View.ld (iblk m c 7 t) (Rect.unit ![0, 0] ![512, 1024] inb_S3328x1024_S512x1024_0_0)) (iblk m c 1 t)
      (View.ld (iblk m c 7 t) (Rect.unit ![512, 0] ![512, 1024] inb_S3328x1024_S512x1024_512_0)))
    (iblk m c 2 t) (View.ld (iblk m c 7 t) (Rect.unit ![1024, 0] ![128, 1024] inb_S3328x1024_S128x1024_1024_0))
    (iblk m c 3 t) (View.ld (iblk m c 7 t) (Rect.unit ![1152, 0] ![128, 1024] inb_S3328x1024_S128x1024_1152_0))
    (iblk m c 4 t) (View.ld (iblk m c 7 t) (Rect.unit ![1280, 0] ![2048, 1024] inb_S3328x1024_S2048x1024_1280_0))

/-- Five products, one for each piece of the cotangent, are the one product with their concatenation. -/
theorem dh_at (c : Dev nD) (t : Fin cfg0.N) (y : S512x1024.Idx) :
    dhK m c t y = val_main_v38 (F := Ideal) (a0 m c) (a1 m c) (a2 m c) (a3 m c) (a4 m c) (a8 m c) (((cfg0.win 6).blk t).view.emb y) := by
  pointwise [dhK, k0_pay12, k0_pay8, sumSplitAll, Cert.ReferenceInIdeal.Read.val_main_v38, Cert.ReferenceInIdeal.Read.val_main_v33, Cert.ReferenceInIdeal.Read.val_main_v22, Cert.ReferenceInIdeal.Read.val_main_v0, Cert.ReferenceInIdeal.Read.val_main_v1, Cert.ReferenceInIdeal.Read.val_main_v2, Cert.ReferenceInIdeal.Read.val_main_v3, Cert.ReferenceInIdeal.Read.val_main_v4]
  simp only [add_assoc]
  blk_point [iblk, V, idx t]

theorem point9 (c : Dev nD) (t : Fin cfg0.N) (y : S512x1024.Idx) :
    k0_pay4 (dhK m c t) (iblk m c 6 t) (k0_pay13 (iblk m c 6 t)) k0_pay14 (iblk m c 8 t) (iblk m c 5 t) y
      = val_main_v59 (F := Ideal) (a0 m c) (a1 m c) (a2 m c) (a3 m c) (a4 m c) (a5 m c) (a6 m c) (a7 m c) (a8 m c)
          (((cfg0.win 9).blk t).view.emb y) := by
  idx_vars y
  pointwise [k0_pay4, k0_pay2, k0_pay1, k0_pay13, k0_pay14, Cert.ReferenceInIdeal.Read.val_main_v5, Cert.ReferenceInIdeal.Read.val_main_v6, Cert.ReferenceInIdeal.Read.val_main_v7, Cert.ReferenceInIdeal.Read.val_main_v8, Cert.ReferenceInIdeal.Read.val_main_v9, Cert.ReferenceInIdeal.Read.val_main_v10, Cert.ReferenceInIdeal.Read.val_main_v11, Cert.ReferenceInIdeal.Read.val_main_v12, Cert.ReferenceInIdeal.Read.val_main_v13, Cert.ReferenceInIdeal.Read.val_main_v14, Cert.ReferenceInIdeal.Read.val_main_v15, Cert.ReferenceInIdeal.Read.val_main_v16, Cert.ReferenceInIdeal.Read.val_main_v19, Cert.ReferenceInIdeal.Read.val_main_v42, Cert.ReferenceInIdeal.Read.val_main_v43, Cert.ReferenceInIdeal.Read.val_main_v45, Cert.ReferenceInIdeal.Read.val_main_v46, Cert.ReferenceInIdeal.Read.val_main_v47, Cert.ReferenceInIdeal.Read.val_main_v48, Cert.ReferenceInIdeal.Read.val_main_v49, Cert.ReferenceInIdeal.Read.val_main_v50, Cert.ReferenceInIdeal.Read.val_main_v51, Cert.ReferenceInIdeal.Read.val_main_v52, Cert.ReferenceInIdeal.Read.val_main_v53, Cert.ReferenceInIdeal.Read.val_main_v54, Cert.ReferenceInIdeal.Read.val_main_v55, Cert.ReferenceInIdeal.Read.val_main_v56, Cert.ReferenceInIdeal.Read.val_main_v57, Cert.ReferenceInIdeal.Read.val_main_v58, Cert.ReferenceInIdeal.Read.val_main_v59, Cert.ReferenceInIdeal.Read.val_main_cst, Cert.ReferenceInIdeal.Read.val_main_cst_0, Cert.ReferenceInIdeal.Read.val_main_cst_1, Cert.ReferenceInIdeal.Read.val_main_cst_2, Cert.ReferenceInIdeal.Read.val_main_cst_3, Cert.ReferenceInIdeal.Read.val_main_cst_4, Cert.ReferenceInIdeal.Read.val_main_cst_5, Cert.ReferenceInIdeal.Read.val_main_cst_6, Cert.ReferenceInIdeal.Read.val_main_cst_7, Cert.ReferenceInIdeal.Read.val_main_cst_8, Cert.ReferenceInIdeal.Read.val_main_cst_9]
  simp only [dh_at, Fin.sum_univ_one]
  refine (Rms.grad (n := 1024) (fun k => (show FVec Ideal S512x1024 .f32 from iblk m c 6 t) (ix2 y0 k))
    (fun k => val_main_v38 (F := Ideal) (a0 m c) (a1 m c) (a2 m c) (a3 m c) (a4 m c) (a8 m c) (((cfg0.win 6).blk t).view.emb (ix2 y0 k))
      * (show FVec Ideal S1x1024 .f32 from iblk m c 8 t) (ix2 0 k)) _ y1).trans ?_
  unfold Rms.rinv Rms.ms
  blk_point [iblk, V, idx t]
  congr 1 <;> blk_ext [iblk, V, idx t]

theorem final9 (c : Dev nD) : (dats m 0 c).arrAt 9 (cfgs 0).N
    = val_main_v59 (F := Ideal) (a0 m c) (a1 m c) (a2 m c) (a3 m c) (a4 m c) (a5 m c) (a6 m c) (a7 m c) (a8 m c) := by
  refine (dats m 0 c).arrAt_eq_of_covers 9 _ (by decide +kernel) fun t _ y => ?_
  blk_simp
  rw [after0_9]
  by_cases h : t.val % 8 = 0
  · rw [outsAt0_A m c t h]; frame_out; exact point9 m c t y
  · rw [outsAt0_B m c t h]; frame_out; exact point9 m c t y

end Cert.KernelInIdeal.Hand
-- ==== Proof.Stores.lean ====
/-
  Stores under stores: where the newer stores cover an index, the older ones do not matter there.
-/
module

public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert

variable {s : Shape} {e : EltTy} {Val : EltTy → Type}

/-- At an index that the newer stores `L` cover, the stores `L'` before them are not seen. -/
theorem canon_append_covered [∀ e, Nonempty (Val e)] (L' : List (View.Piece Val s e)) : ∀ (L : List (View.Piece Val s e)) (y : s.Idx),
    (∃ p ∈ L, y ∈ p.1.set) → View.canon (L ++ L') y = View.canon L y
  | [], _, hy => by obtain ⟨p, hp, _⟩ := hy; exact absurd hp List.not_mem_nil
  | p :: L, y, hy => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem p _ hm, View.canon_cons_of_not_mem p _ hm]
      refine canon_append_covered L' L y ?_
      obtain ⟨q, hq, hy⟩ := hy
      rcases List.mem_cons.mp hq with rfl | hq
      · exact absurd hy hm
      · exact ⟨q, hq, hy⟩

end Cert
-- ==== Proof.InSums.lean ====
/-
  The projection's backward call: the two results that its grid sums up over the row blocks.
-/
module

public import proofs.«01_k».proof.Proof.InValue
public import proofs.«01_k».proof.Proof.Stores

@[expose] public section

set_option maxRecDepth 16384

noncomputable section

open Idealize.ShloMosaic Idealize.ShloMosaic.TcCoe Idealize.SL.Sem
open Idealize.ShloMosaic.Pipeline (Dat)

namespace Cert.KernelInIdeal.Hand

open Cert.KernelInIdeal Cert.KernelInIdeal.Gen
open Cert.ReferenceInIdeal.Read (val_main_v60 val_main_v61 val_main_v39 val_main_v33)

variable (m : (ℓ : Loc nD τ sig) → Buf (Elt Ideal) ℓ)

/-- One point's share of the norm weight's gradient: the column sums of its 512 rows. -/
abbrev part10 (c : Dev nD) (t : Fin cfg0.N) (j : S1x1024.Idx) : EReal :=
  ∑ k : Fin 512, val_main_v39 (F := Ideal) (a0 m c) (a1 m c) (a2 m c) (a3 m c) (a4 m c) (a6 m c) (a8 m c)
    (((cfg0.win 6).blk t).view.emb (ix2 k (j 1)))

theorem step10 (c : Dev nD) (t : Fin cfg0.N) (acc : FVec Ideal S1x1024 .f32) (j : S1x1024.Idx) :
    k0_pay3 (dhK m c t) (iblk m c 6 t) (k0_pay13 (iblk m c 6 t)) k0_pay14 acc j = acc j + part10 m c t j := by
  pointwise [part10, k0_pay3, k0_pay2, k0_pay1, k0_pay13, k0_pay14, Cert.ReferenceInIdeal.Read.val_main_v5, Cert.ReferenceInIdeal.Read.val_main_v6, Cert.ReferenceInIdeal.Read.val_main_v7, Cert.ReferenceInIdeal.Read.val_main_v8, Cert.ReferenceInIdeal.Read.val_main_v9, Cert.ReferenceInIdeal.Read.val_main_v10, Cert.ReferenceInIdeal.Read.val_main_v11, Cert.ReferenceInIdeal.Read.val_main_v12, Cert.ReferenceInIdeal.Read.val_main_v13, Cert.ReferenceInIdeal.Read.val_main_v14, Cert.ReferenceInIdeal.Read.val_main_v15, Cert.ReferenceInIdeal.Read.val_main_v16, Cert.ReferenceInIdeal.Read.val_main_v17, Cert.ReferenceInIdeal.Read.val_main_v18, Cert.ReferenceInIdeal.Read.val_main_v39, Cert.ReferenceInIdeal.Read.val_main_cst, Cert.ReferenceInIdeal.Read.val_main_cst_0, Cert.ReferenceInIdeal.Read.val_main_cst_1, Cert.ReferenceInIdeal.Read.val_main_cst_2, Cert.ReferenceInIdeal.Read.val_main_cst_3]
  simp only [dh_at, Fin.sum_univ_one]
  blk_point [iblk, V, idx t]

theorem ref10 (c : Dev nD) (j : S1x1024.Idx) :
    val_main_v60 (F := Ideal) (a0 m c) (a1 m c) (a2 m c) (a3 m c) (a4 m c) (a6 m c) (a8 m c) j
      = ∑ _a : Fin 1, ∑ l : Fin 4096, val_main_v39 (F := Ideal) (a0 m c) (a1 m c) (a2 m c) (a3 m c) (a4 m c) (a6 m c) (a8 m c) (ix2 l (j 1)) := by
  pointwise [Cert.ReferenceInIdeal.Read.val_main_v60, Cert.ReferenceInIdeal.Read.val_main_v44, Cert.ReferenceInIdeal.Read.val_main_v41, Cert.ReferenceInIdeal.Read.val_main_v40, Cert.ReferenceInIdeal.Read.val_main_cst_4, Cert.ReferenceInIdeal.Read.val_main_cst_5, Cert.ReferenceInIdeal.Read.val_main_cst_6]

theorem final10 (c : Dev nD) : (dats m 0 c).arrAt 10 (cfgs 0).N
    = val_main_v60 (F := Ideal) (a0 m c) (a1 m c) (a2 m c) (a3 m c) (a4 m c) (a6 m c) (a8 m c) := by
  refine (dats m 0 c).arrAt_eq_of_after_last 10 t0_7 (by decide +kernel) _ fun j => ?_
  blk_simp
  rw [after0_10, Pipeline.eq_sum_fin_of_reset_step_apply_last (fun n h => (outsAt0 m c n h).2.1) 8 (fun _ => 0) (part10 m c)
    (fun t h j => by rw [outsAt0_A m c t h]; frame_out; refine (step10 m c t _ j).trans ?_; pointwise [k0_pay5])
    (fun t h j => by rw [outsAt0_B m c t h]; frame_out; exact step10 m c t _ j) (le_of_eq N_0) t0_7 rfl j, zero_add, ref10]
  refine Fin.sum_points_lanes_congr 8 fun t k ha hl => ?_
  blk_point [idx t]

abbrev part11 (c : Dev nD) (t : Fin cfg0.N) (j : S1x1280.Idx) : EReal :=
  ∑ k : Fin 512, val_main_v33 (F := Ideal) (a0 m c) (a1 m c) (a2 m c) (a3 m c) (a4 m c)
    (ix2 (((cfg0.win 6).blk t).view.emb (ix2 k 0) 0) ⟨(j 1).val, (j 1).isLt.trans (by decide)⟩)

theorem cover11 (p q r u) (j : S1x1280.Idx) :
    ∃ P ∈ [(⟨Rect.unit ![0, 1152] ![1, 128] inb_S1x1280_S1x128_0_1152, p⟩ : View.Piece (Elt Ideal) S1x1280 .f32),
      ⟨Rect.unit ![0, 1024] ![1, 128] inb_S1x1280_S1x128_0_1024, q⟩, ⟨Rect.unit ![0, 512] ![1, 512] inb_S1x1280_S1x512_0_512, r⟩,
      ⟨Rect.unit ![0, 0] ![1, 512] inb_S1x1280_S1x512_0_0, u⟩], j ∈ P.1.set := by
  have h0 : (j 0).val < 1 := (j 0).isLt
  have h1 : (j 1).val < 1280 := (j 1).isLt
  simp only [List.mem_cons, List.not_mem_nil, or_false, exists_eq_or_imp, exists_eq_left, Rect.mem_set_unit, Fin.forall_fin_two]
  simp
  omega

theorem fresh11 (c : Dev nD) (t : Fin cfg0.N) (h : t.val % 8 = 0) (j) : (outsAt0 m c t.val t.isLt).2.2 j = 0 + part11 m c t j := by
  rw [outsAt0_A m c t h]; frame_out
  simp (disch := decide) only [↓ View.readCov_skip, ↓ View.readCov_fill]
  refine (canon_append_covered [_] [_, _, _, _] j (cover11 _ _ _ _ j)).trans ?_
  canon_tiles x q using cover11 _ _ _ _ j
  all_goals
    pointwise [part11, k0_pay7, k0_pay9, k0_pay10, k0_pay11, k0_pay6, Cert.ReferenceInIdeal.Read.val_main_v33, Cert.ReferenceInIdeal.Read.val_main_v0, Cert.ReferenceInIdeal.Read.val_main_v1, Cert.ReferenceInIdeal.Read.val_main_v2, Cert.ReferenceInIdeal.Read.val_main_v3, Cert.ReferenceInIdeal.Read.val_main_v4, q0, q1]
    try simp (disch := omega) only [dif_neg, dif_pos]
    blk_point [iblk, V, idx t]

theorem step11 (c : Dev nD) (t : Fin cfg0.N) (h : ¬ t.val % 8 = 0) (j) : (outsAt0 m c t.val t.isLt).2.2 j
     = (outsAt0 m c (t.val - 1) (by have := t.isLt; omega)).2.2 j + part11 m c t j := by
  rw [outsAt0_B m c t h]; frame_out
  canon_tiles x q using cover11 _ _ _ _ j
  all_goals
    pointwise [part11, k0_pay7, k0_pay9, k0_pay10, k0_pay11, k0_pay6, Cert.ReferenceInIdeal.Read.val_main_v33, Cert.ReferenceInIdeal.Read.val_main_v0, Cert.ReferenceInIdeal.Read.val_main_v1, Cert.ReferenceInIdeal.Read.val_main_v2, Cert.ReferenceInIdeal.Read.val_main_v3, Cert.ReferenceInIdeal.Read.val_main_v4, q0, q1]
    try simp (disch := omega) only [dif_neg, dif_pos]
    blk_point [iblk, V, idx t]

theorem ref11 (c : Dev nD) (j : S1x1280.Idx) :
    val_main_v61 (F := Ideal) (a0 m c) (a1 m c) (a2 m c) (a3 m c) (a4 m c) j
      = ∑ _a : Fin 1, ∑ l : Fin 4096, val_main_v33 (F := Ideal) (a0 m c) (a1 m c) (a2 m c) (a3 m c) (a4 m c)
          (ix2 l ⟨(j 1).val, (j 1).isLt.trans (by decide)⟩) := by
  pointwise [Cert.ReferenceInIdeal.Read.val_main_v61, Cert.ReferenceInIdeal.Read.val_main_v37, Cert.ReferenceInIdeal.Read.val_main_v36, Cert.ReferenceInIdeal.Read.val_main_v35, Cert.ReferenceInIdeal.Read.val_main_v34, Cert.ReferenceInIdeal.Read.val_main_cst_3, Cert.ReferenceInIdeal.Read.val_main_cst_4, Cert.ReferenceInIdeal.Read.val_main_cst_5, Cert.ReferenceInIdeal.Read.val_main_cst_6]

theorem final11 (c : Dev nD) : (dats m 0 c).arrAt 11 (cfgs 0).N
    = val_main_v61 (F := Ideal) (a0 m c) (a1 m c) (a2 m c) (a3 m c) (a4 m c) := by
  refine (dats m 0 c).arrAt_eq_of_after_last 11 t0_7 (by decide +kernel) _ fun j => ?_
  blk_simp
  rw [after0_11, Pipeline.eq_sum_fin_of_reset_step_apply_last (fun n h => (outsAt0 m c n h).2.2) 8 (fun _ => 0) (part11 m c)
    (fun t h j => fresh11 m c t h j) (fun t h j => step11 m c t h j) (le_of_eq N_0) t0_7 rfl j, zero_add, ref11]
  refine Fin.sum_points_lanes_congr 8 fun t k ha hl => ?_
  blk_point [idx t]

end Cert.KernelInIdeal.Hand
-- ==== Proof.InPair.lean ====
/-
  The projection's backward call: its claims.
-/
module

public import proofs.«01_k».proof.Defs
public import proofs.«01_k».proof.Proof.Gen.KernelIn
public import proofs.«01_k».proof.Proof.Gen.KernelIn.Frame
public import proofs.«01_k».proof.Proof.Gen.KernelInIdeal
public import proofs.«01_k».proof.Proof.Gen.ReferenceInIdeal
public import proofs.«01_k».proof.Proof.Gen.ReferenceInIdeal.Run
public import proofs.«01_k».proof.Proof.InSums
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Pairs

open Cert.ReferenceInIdeal in
/-- The reference's run with its three results named by the stages that compute them. -/
theorem run_inR (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v59) = Read.val_main_v59 (F := Ideal) (m (c.tc.loc main_arg0)) (m (c.tc.loc main_arg1))
        (m (c.tc.loc main_arg2)) (m (c.tc.loc main_arg3)) (m (c.tc.loc main_arg4)) (m (c.tc.loc main_arg5)) (m (c.tc.loc main_arg6))
        (m (c.tc.loc main_arg7)) (m (c.tc.loc main_arg8))
      ∧ r.2.mem ((c.tc : Thread nD τ).loc main_v60) = Read.val_main_v60 (F := Ideal) (m (c.tc.loc main_arg0)) (m (c.tc.loc main_arg1))
        (m (c.tc.loc main_arg2)) (m (c.tc.loc main_arg3)) (m (c.tc.loc main_arg4)) (m (c.tc.loc main_arg6)) (m (c.tc.loc main_arg8))
      ∧ r.2.mem ((c.tc : Thread nD τ).loc main_v61) = Read.val_main_v61 (F := Ideal) (m (c.tc.loc main_arg0)) (m (c.tc.loc main_arg1))
        (m (c.tc.loc main_arg2)) (m (c.tc.loc main_arg3)) (m (c.tc.loc main_arg4)) :=
  (θ_run _ _ _).mono (fun _ h c => ⟨(h c).1.trans (Read.val_main_v59_eq m c), (h c).2.1.trans (Read.val_main_v60_eq _ _ _ _ _ _ _),
    (h c).2.2.1.trans (Read.val_main_v61_eq _ _ _ _ _)⟩) (Value.run m g)

theorem pair_in : Cert.algebraic_KernelInIdeal_ReferenceInIdeal := by
  pair_intro
  · run_from Cert.KernelInIdeal.Value.run_blocks m g
  · run_from Cert.Pairs.run_inR m' g' & Cert.ReferenceInIdeal.Value.run m' g'
    · exact (Cert.KernelInIdeal.Hand.final9 m c).symm
    · exact (Cert.KernelInIdeal.Hand.final10 m c).symm
    · exact (Cert.KernelInIdeal.Hand.final11 m c).symm

end Cert.Pairs
-- ==== Proof.PoolWin.lean ====
/-
  Sums over a causal window as a kernel makes them, by doubling shifts, and as differences of running sums.
-/
module

public import proofs.«01_k».proof.Proof.Gen.KernelPoolIdeal.Value
public import proofs.«01_k».proof.Proof.Gen.ReferencePoolIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Pool

/-- The sum of the entries before `s`. -/
def pre (g : ℕ → ℝ) (s : ℕ) : ℝ := ∑ r ∈ Finset.range s, g r

/-- The sum of the entries from `s` on, below 2048. -/
def suf (g : ℕ → ℝ) (s : ℕ) : ℝ := ∑ r ∈ Finset.Ico s 2048, g r

theorem pre_one (g : ℕ → ℝ) (s : ℕ) : pre g (s + 1) - pre g (s + 1 - 1) = g s := by
  unfold pre; rw [Finset.sum_range_succ, Nat.add_sub_cancel]; ring

theorem suf_of_le (g : ℕ → ℝ) {s : ℕ} (h : 2048 ≤ s) : suf g s = 0 := by
  unfold suf; rw [Finset.Ico_eq_empty (by omega), Finset.sum_empty]

theorem suf_one (g : ℕ → ℝ) {s : ℕ} (h : s < 2048) : suf g s - suf g (s + 1) = g s := by
  unfold suf; rw [Finset.sum_eq_sum_Ico_succ_bot h]; ring

theorem pre_step (g : ℕ → ℝ) (k s : ℕ) : (pre g (s + 1) - pre g (s + 1 - k)) + (if k ≤ s then pre g (s - k + 1) - pre g (s - k + 1 - k) else 0)
    = pre g (s + 1) - pre g (s + 1 - 2 * k) := by
  split
  · rw [show s + 1 - k = s - k + 1 by omega, show s + 1 - 2 * k = s - k + 1 - k by omega]; ring
  · rw [show s + 1 - k = 0 by omega, show s + 1 - 2 * k = 0 by omega]; ring

theorem suf_step (g : ℕ → ℝ) (k s : ℕ) : (suf g s - suf g (s + k)) + (if s + k < 2048 then suf g (s + k) - suf g (s + k + k) else 0)
    = suf g s - suf g (s + 2 * k) := by
  split
  · rw [show s + 2 * k = s + k + k by omega]; ring
  · rw [suf_of_le g (s := s + k) (by omega), suf_of_le g (s := s + 2 * k) (by omega)]; ring

/-- A difference of entries a window apart, summed from `s` on, is the sum over the window. -/
theorem suf_diff (g : ℕ → ℝ) (w s : ℕ) (hw : w ≤ 2048) : suf (fun r => g r - if r + w < 2048 then g (r + w) else 0) s = suf g s - suf g (s + w) := by
  unfold suf
  rw [Finset.sum_sub_distrib]
  congr 1
  rw [← Finset.sum_filter]
  refine Finset.sum_nbij' (fun r => r + w) (fun r => r - w) ?_ ?_ ?_ ?_ ?_
  all_goals
    intro r hr
    simp only [Finset.mem_filter, Finset.mem_Ico] at *
    try omega

/-- A left fold of sums from a real, over reals. -/
theorem foldl_coe {ι : Type} (h : ι → ℝ) : ∀ (l : List ι) (z : ℝ), l.foldl (fun (r : EReal) n => r + (h n : EReal)) (z : EReal) = ((z + (l.map h).sum : ℝ) : EReal)
  | [], z => by simp
  | a :: l, z => by
    rw [List.foldl_cons, ← EReal.coe_add, foldl_coe h l, List.map_cons, List.sum_cons, add_assoc]

/-- A position of a window along the middle axis is its middle coordinate. -/
theorem mid {N : ℕ} (n : Fin (⟨3, ![1, N, 1]⟩ : Shape).numel) : (((⟨3, ![1, N, 1]⟩ : Shape).rowMajor.symm n) 1).val = n.val := by
  have e := Shape.rowMajor_val_three ((⟨3, ![1, N, 1]⟩ : Shape).rowMajor.symm n)
  rw [Equiv.apply_symm_apply] at e
  have h0 : (((⟨3, ![1, N, 1]⟩ : Shape).rowMajor.symm n) 0).val < 1 := (((⟨3, ![1, N, 1]⟩ : Shape).rowMajor.symm n) 0).isLt
  have h2 : (((⟨3, ![1, N, 1]⟩ : Shape).rowMajor.symm n) 2).val < 1 := (((⟨3, ![1, N, 1]⟩ : Shape).rowMajor.symm n) 2).isLt
  generalize (((⟨3, ![1, N, 1]⟩ : Shape).rowMajor.symm n) 0).val = p at *
  generalize (((⟨3, ![1, N, 1]⟩ : Shape).rowMajor.symm n) 2).val = q at *
  obtain rfl : p = 0 := by omega
  obtain rfl : q = 0 := by omega
  simpa using e.symm

/-- A window sum along the middle axis, of reals. -/
theorem window_at {A N C lo hi : ℕ} (x : (⟨3, ![A, N, C]⟩ : Shape).Idx → EReal) (g : ℕ → ℝ) (a : Fin A) (c : Fin C)
    (hx : ∀ s : Fin N, x (ix3 a s c) = (g s.val : EReal))
    (h : (⟨3, ![A, N, C]⟩ : Shape).ReduceWindows ![1, N, 1] ![1, 1, 1] ![0, lo, 0] ![0, hi, 0] (⟨3, ![A, N, C]⟩ : Shape)) (j : Fin N) :
    Ideal.hostReduceWindowAdd ![1, N, 1] ![1, 1, 1] ![0, lo, 0] ![0, hi, 0] h x 0 (ix3 a j c)
      = ((∑ n ∈ Finset.range N, if lo ≤ j.val + n ∧ j.val + n - lo < N then g (j.val + n - lo) else 0 : ℝ) : EReal) := by
  unfold Ideal.hostReduceWindowAdd Host.reduceWindow
  dsimp only
  have hn : (⟨3, ![1, N, 1]⟩ : Shape).numel = N := by simp [Shape.numel, Fin.prod_univ_three]
  refine Eq.trans (b := (List.finRange (⟨3, ![1, N, 1]⟩ : Shape).numel).foldl (fun (r : EReal) n => r + ((if lo ≤ j.val + n.val ∧ j.val + n.val - lo < N then g (j.val + n.val - lo) else 0 : ℝ) : EReal)) ((0 : ℝ) : EReal)) ?_ ?_
  · rw [EReal.coe_zero]
    congr 1
    funext r n
    congr 1
    have e := mid n
    by_cases hin : lo ≤ j.val + n.val ∧ j.val + n.val - lo < N
    · have e0 : (((⟨3, ![1, N, 1]⟩ : Shape).rowMajor.symm n) 0).val < 1 := (((⟨3, ![1, N, 1]⟩ : Shape).rowMajor.symm n) 0).isLt
      have e2 : (((⟨3, ![1, N, 1]⟩ : Shape).rowMajor.symm n) 2).val < 1 := (((⟨3, ![1, N, 1]⟩ : Shape).rowMajor.symm n) 2).isLt
      have ha := a.isLt
      have hc := c.isLt
      rw [if_pos hin, dif_pos]
      · refine (congrArg x (funext fun b => Fin.ext ?_)).trans (hx ⟨j.val + n.val - lo, hin.2⟩)
        match b with
        | ⟨0, _⟩ =>
          show a.val * 1 + (((⟨3, ![1, N, 1]⟩ : Shape).rowMajor.symm n) 0).val - 0 = a.val
          omega
        | ⟨1, _⟩ =>
          show j.val * 1 + (((⟨3, ![1, N, 1]⟩ : Shape).rowMajor.symm n) 1).val - lo = j.val + n.val - lo
          omega
        | ⟨2, _⟩ =>
          show c.val * 1 + (((⟨3, ![1, N, 1]⟩ : Shape).rowMajor.symm n) 2).val - 0 = c.val
          omega
      · intro b
        match b with
        | ⟨0, _⟩ =>
          show 0 ≤ a.val * 1 + (((⟨3, ![1, N, 1]⟩ : Shape).rowMajor.symm n) 0).val ∧ a.val * 1 + (((⟨3, ![1, N, 1]⟩ : Shape).rowMajor.symm n) 0).val - 0 < A
          omega
        | ⟨1, _⟩ =>
          show lo ≤ j.val * 1 + (((⟨3, ![1, N, 1]⟩ : Shape).rowMajor.symm n) 1).val ∧ j.val * 1 + (((⟨3, ![1, N, 1]⟩ : Shape).rowMajor.symm n) 1).val - lo < N
          omega
        | ⟨2, _⟩ =>
          show 0 ≤ c.val * 1 + (((⟨3, ![1, N, 1]⟩ : Shape).rowMajor.symm n) 2).val ∧ c.val * 1 + (((⟨3, ![1, N, 1]⟩ : Shape).rowMajor.symm n) 2).val - 0 < C
          omega
    · rw [if_neg hin, EReal.coe_zero, dif_neg]
      intro hh
      have h1 : lo ≤ j.val * 1 + (((⟨3, ![1, N, 1]⟩ : Shape).rowMajor.symm n) 1).val ∧ j.val * 1 + (((⟨3, ![1, N, 1]⟩ : Shape).rowMajor.symm n) 1).val - lo < N := hh 1
      rw [e] at h1
      exact hin (by omega)
  · rw [foldl_coe, zero_add, ← Fin.sum_univ_def, Fin.sum_univ_eq_sum_range (fun n => if lo ≤ j.val + n ∧ j.val + n - lo < N then g (j.val + n - lo) else 0), hn]

/-- A window padded low by all but one is a prefix. -/
theorem pre_window (g : ℕ → ℝ) (j : ℕ) (hj : j < 2048) :
    (∑ n ∈ Finset.range 2048, if 2047 ≤ j + n ∧ j + n - 2047 < 2048 then g (j + n - 2047) else 0) = pre g (j + 1) := by
  unfold pre
  rw [← Finset.sum_filter]
  refine Finset.sum_nbij' (fun n => j + n - 2047) (fun r => r + 2047 - j) ?_ ?_ ?_ ?_ ?_
  all_goals
    intro r hr
    simp only [Finset.mem_filter, Finset.mem_range] at *
    try omega

/-- A window padded high by all but one is a suffix. -/
theorem suf_window (g : ℕ → ℝ) (j : ℕ) (hj : j < 2048) :
    (∑ n ∈ Finset.range 2048, if 0 ≤ j + n ∧ j + n - 0 < 2048 then g (j + n - 0) else 0) = suf g j := by
  unfold suf
  rw [← Finset.sum_filter]
  refine Finset.sum_nbij' (fun n => j + n) (fun r => r - j) ?_ ?_ ?_ ?_ ?_
  all_goals
    intro r hr
    simp only [Finset.mem_filter, Finset.mem_range, Finset.mem_Ico] at *
    try omega
  rfl

end Cert.Pool

namespace Cert.KernelPoolIdeal.Hand

open Cert.KernelPoolIdeal Cert.KernelPoolIdeal.Gen Cert.Pool

/-- The rows' numbers. -/
abbrev rows : IVec S2048x128 32 := iota .tc S2048x128 32 [0] iota_S2048x128_d0_w32

theorem add_ite {p : Prop} [Decidable p] (a b : ℝ) : (a : EReal) + (if p then (b : EReal) else 0) = ((a + if p then b else 0 : ℝ) : EReal) := by
  split
  · rw [EReal.coe_add]
  · simp

theorem fwd_step (k : ℕ) (hk : k < 2048) (X : FVec Ideal S2048x128 .f32) (g : Fin 128 → ℕ → ℝ)
    (hX : ∀ s j, X (ix2 s j) = ((pre (g j) (s.val + 1) - pre (g j) (s.val + 1 - k) : ℝ) : EReal)) (s : Fin 2048) (j : Fin 128) :
    addf X (select (cmpi .sge rows (broadcast S2048x128 (BitVec.ofNat 32 k))) (dynamicRotate 0 (BitVec.ofNat 32 k) none X rotates_S2048x128_d0)
      (broadcast S2048x128 (Scalar.ofBits (F := Ideal) .f32 0x00000000#32))) (ix2 s j)
      = ((pre (g j) (s.val + 1) - pre (g j) (s.val + 1 - 2 * k) : ℝ) : EReal) := by
  have hs := s.isLt
  pointwise []
  rw [WordCmp.cmpi_sge_ofNat (by omega) (by omega), WordCmp.select_ofBool, hX, hX, ← pre_step, ← add_ite]
  simp only [decide_eq_true_eq, BitVec.toNat_ofNat]
  congr 1
  split
  · congr 3 <;> (congr 1; omega)
  · rfl

theorem bwd_step (k : ℕ) (hk : k < 2048) (X : FVec Ideal S2048x128 .f32) (g : Fin 128 → ℕ → ℝ)
    (hX : ∀ s j, X (ix2 s j) = ((suf (g j) s.val - suf (g j) (s.val + k) : ℝ) : EReal)) (s : Fin 2048) (j : Fin 128) :
    addf X (select (cmpi .slt rows (broadcast S2048x128 (BitVec.ofNat 32 (2048 - k)))) (dynamicRotate 0 (BitVec.ofNat 32 (2048 - k)) none X rotates_S2048x128_d0)
      (broadcast S2048x128 (Scalar.ofBits (F := Ideal) .f32 0x00000000#32))) (ix2 s j)
      = ((suf (g j) s.val - suf (g j) (s.val + 2 * k) : ℝ) : EReal) := by
  have hs := s.isLt
  pointwise []
  rw [WordCmp.cmpi_slt_ofNat (by omega) (by omega), WordCmp.select_ofBool, hX, hX, ← suf_step, ← add_ite]
  simp only [decide_eq_true_eq, BitVec.toNat_ofNat]
  congr 1
  by_cases h : s.val + k < 2048
  · rw [if_pos h, if_pos (by omega)]
    congr 3 <;> omega
  · rw [if_neg h, if_neg (by omega)]

/-- How many rows the window of `w` rows that ends at row `s` has. -/
def cnt (w s : ℕ) : ℝ := (min (s + 1) w : ℕ)

theorem cnt_pos (w s : ℕ) (hw : 0 < w) : 0 < cnt w s := by
  unfold cnt; exact_mod_cast (by omega : 0 < min (s + 1) w)

theorem count_at (w : ℕ) (hw : w < 2048) (s : ℕ) (hs : s < 2048) :
    FloatOps.sitofp (F := Ideal) .f32 (IntOp.minsi (IntOp.addi (BitVec.ofNat 32 s) 1#32) (BitVec.ofNat 32 w)) = ((cnt w s : ℝ) : EReal) := by
  have e : ∀ n : ℕ, n < 4096 → (BitVec.ofNat 32 n).toInt = (n : ℤ) := fun n hn => by
    rw [BitVec.toInt_eq_toNat_of_lt (by rw [BitVec.toNat_ofNat]; omega), BitVec.toNat_ofNat, Nat.mod_eq_of_lt (by omega)]
  change (((IntOp.minsi (BitVec.ofNat 32 s + 1#32) (BitVec.ofNat 32 w)).toInt : ℝ) : EReal) = _
  rw [← BitVec.ofNat_add, IntOp.minsi, BitVec.slt_eq_decide, e _ (by omega), e _ (by omega)]
  unfold cnt
  by_cases h : s + 1 < w
  · rw [if_pos (by simpa using by exact_mod_cast h), e _ (by omega), min_eq_left (by omega)]; norm_cast
  · rw [if_neg (by simpa using by exact_mod_cast (not_lt.mp h)), e _ (by omega), min_eq_right (by omega)]; norm_cast

end Cert.KernelPoolIdeal.Hand
-- ==== Proof.PoolRef.lean ====
/-
  The pooling reference, entry by entry, on finite arguments: window means as differences of running sums.
-/
module

public import proofs.«01_k».proof.Proof.PoolWin

@[expose] public section

set_option maxRecDepth 16384

noncomputable section

open Idealize.ShloMosaic Idealize.ShloMosaic.TcCoe Idealize.SL.Sem
open Idealize.ShloMosaic.Pipeline (Dat)

namespace Cert.KernelPoolIdeal.Hand

open Cert.KernelPoolIdeal Cert.KernelPoolIdeal.Gen Cert.Pool
open Cert.ReferencePoolIdeal.Read

variable (x0 x1 : FVec Ideal S4096x512 .f32) (x2 : FVec Ideal S1x4x128x128 .f32) (x3 : FVec Ideal S1x512 .f32)

/-- Every entry is a real number. -/
abbrev Fin' {s : Shape} (x : FVec Ideal s .f32) : Prop := ∀ i, ((x i : EReal).toReal : EReal) = x i

/-- Column `ch` of sequence `b`, as a function of the row's number. -/
def col (b : Fin 2) (ch : Fin 512) (s : ℕ) : ℝ :=
  if h : s < 2048 then (x0 (ix2 ⟨b.val * 2048 + s, by have := b.isLt; omega⟩ ch) : EReal).toReal else 0

/-- The window of group `q`. -/
def win (q : Fin 4) : ℕ := 2 ^ (q.val + 1)

/-- The channel of lane `c` in group `q`. -/
def chan (q : Fin 4) (c : Fin 128) : Fin 512 := ⟨q.val * 128 + c.val, by have := q.isLt; have := c.isLt; omega⟩

theorem div_coe (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]

variable (h0 : Fin' x0)
include h0

theorem v4_at (b : Fin 2) (s : Fin 2048) (ch : Fin 512) :
    val_main_v4 (F := Ideal) x0 (ix3 b s ch) = ((pre (col x0 b ch) (s.val + 1) : ℝ) : EReal) := by
  unfold val_main_v4 Host.reduceWindowAdd
  simp only [Ideal.hostReduceWindowAdd_def]
  have hz : val_main_call0_call0_v0 (F := Ideal) (Shape.Idx.first Cert.ReferencePoolIdeal.Gen.h_S_) = 0 := by
    pointwise [val_main_call0_call0_v0, val_main_call0_call0_cst]
  rw [hz]
  refine (window_at (val_main_v0 (F := Ideal) x0) (col x0 b ch) b ch (fun t => ?_) _ s).trans ?_
  · pointwise [val_main_v0]
    unfold col
    rw [dif_pos t.isLt]
    exact (h0 _).symm
  · rw [pre_window _ _ s.isLt]

theorem v5_at (b : Fin 2) (s : Fin 2049) (ch : Fin 512) :
    val_main_v5 (F := Ideal) x0 (ix3 b s ch) = ((pre (col x0 b ch) s.val : ℝ) : EReal) := by
  pointwise [val_main_v5, val_main_v3, val_main_cst]
  have hs := s.isLt
  split
  · rw [show s.val = 0 by omega]; simp [pre]
  · rw [v4_at x0 h0]
    simp only
    rw [Nat.sub_add_cancel (by omega)]

set_option maxHeartbeats 1000000 in
omit h0 in
theorem mean_ref (b : Fin 2) (s : Fin 2048) (q : Fin 4) (c : Fin 128) (g : ℕ → ℝ)
     (h5 : ∀ (s : Fin 2049) (ch : Fin 512), ch.val = q.val * 128 + c.val → val_main_v5 (F := Ideal) x0 (ix3 b s ch) = ((pre g s.val : ℝ) : EReal)) :
    val_main_v76 (F := Ideal) x0 (ix4 b s q c) = (((pre g (s.val + 1) - pre g (s.val + 1 - win q)) / cnt (win q) s.val : ℝ) : EReal) := by
  have hs := s.isLt
  have key : ∀ (w : ℕ) (t : Fin 2049) (ch : Fin 512) (t' : ¬ s.val < w → Fin 2049) (ch' : ¬ s.val < w → Fin 512), w + 1 = win q → t.val = 1 + s.val →
      ch.val = q.val * 128 + c.val → (∀ h, (t' h).val = s.val - w) → (∀ h, (ch' h).val = q.val * 128 + c.val) →
      Ideal.div ((val_main_v5 (F := Ideal) x0 (ix3 b t ch) : EReal) - if h : s.val < w then (0 : EReal) else val_main_v5 (F := Ideal) x0 (ix3 b (t' h) (ch' h)))
        (FloatOps.sitofp (F := Ideal) .f32 (IntOp.minsi (IntOp.addi (BitVec.ofNat 32 s.val) 1#32) (BitVec.ofNat 32 (w + 1))))
        = (((pre g (s.val + 1) - pre g (s.val + 1 - win q)) / cnt (win q) s.val : ℝ) : EReal) := by
    intro w t ch t' ch' hw ht hch ht' hch'
    have hq : win q < 2048 := by
      have : win q ≤ 2 ^ 4 := Nat.pow_le_pow_right (by norm_num) (by have := q.isLt; omega)
      omega
    have hlow : (if h : s.val < w then (0 : EReal) else val_main_v5 (F := Ideal) x0 (ix3 b (t' h) (ch' h))) = ((pre g (s.val + 1 - win q) : ℝ) : EReal) := by
      by_cases h : s.val < w
      · rw [dif_pos h, show s.val + 1 - win q = 0 by omega]; simp [pre]
      · rw [dif_neg h, h5 _ _ (hch' h), ht' h, show s.val - w = s.val + 1 - win q by omega]
    rw [h5 _ _ hch, hlow, ht, Nat.add_comm 1 s.val, hw, count_at _ hq _ hs, ← EReal.coe_sub, div_coe _ (cnt_pos _ _ (by omega)).ne']
  match q, key with
  | 0, key | 1, key | 2, key | 3, key =>
    pointwise [val_main_v76, val_main_v72, val_main_v73, val_main_v74, val_main_v75, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_cst_0, val_main_cst_1, val_main_cst_2, val_main_cst_4, val_main_cst_5, val_main_cst_8, val_main_cst_9, val_main_cst_12, val_main_cst_13, val_main_c, val_main_c_3, val_main_c_6, val_main_c_7, val_main_c_10, val_main_c_11, val_main_c_14, val_main_c_15]
    refine key _ _ _ _ _ ?_ ?_ ?_ ?_ ?_ <;> intros <;> simp [win]

/-- The difference of the window's mean and the row, over the reals. -/
def dif (b : Fin 2) (q : Fin 4) (c : Fin 128) (s : ℕ) : ℝ :=
  (pre (col x0 b (chan q c)) (s + 1) - pre (col x0 b (chan q c)) (s + 1 - win q)) / cnt (win q) s - col x0 b (chan q c) s

theorem v78_at (b : Fin 2) (s : Fin 2048) (q : Fin 4) (c : Fin 128) :
    val_main_v78 (F := Ideal) x0 (ix4 b s q c) = ((dif x0 b q c s.val : ℝ) : EReal) := by
  have hm := mean_ref x0 b s q c (col x0 b (chan q c)) fun t ch h => by rw [v5_at x0 h0, show ch = chan q c from Fin.ext h]
  have hu : val_main_v77 (F := Ideal) x0 (ix4 b s q c) = ((col x0 b (chan q c) s.val : ℝ) : EReal) := by
    pointwise [val_main_v77, val_main_v0]
    unfold col
    rw [dif_pos s.isLt, h0]
    rfl
  unfold val_main_v78
  rw [show ∀ a b : FVec Ideal Cert.ReferencePoolIdeal.S2x2048x4x128 .f32, ∀ i, subf a b i = (a i : EReal) - b i from fun _ _ _ => rfl, hm, hu, ← EReal.coe_sub]
  rfl

set_option maxHeartbeats 1000000 in
omit h0 in
/-- The cotangent of the running sums, one row on: what a row takes from its own window, less what it gives to a later one. -/
theorem pads_at (b : Fin 2) (s : Fin 2048) (q : Fin 4) (c : Fin 128) (e : ℕ → ℝ)
    (he : ∀ (s : Fin 2048), val_main_v95 (F := Ideal) x1 x2 x3 (ix4 b s q c) = ((e s.val : ℝ) : EReal)) :
    val_main_v148 (F := Ideal) x1 x2 x3 (ix3 b s (chan q c))
      = ((e s.val / cnt (win q) s.val - if s.val + win q < 2048 then e (s.val + win q) / cnt (win q) (s.val + win q) else 0 : ℝ) : EReal) := by
  have hs := s.isLt
  have hc := c.isLt
  have hw : 0 < win q := by unfold win; positivity
  have hE : ∀ (w : ℕ) (r : Fin 2048) (c' : Fin 128), w = win q → w < 2048 → c'.val = c.val → Ideal.div (val_main_v95 (F := Ideal) x1 x2 x3 (ix4 b r q c'))
      (FloatOps.sitofp (F := Ideal) .f32 (IntOp.minsi (IntOp.addi (BitVec.ofNat 32 r.val) 1#32) (BitVec.ofNat 32 w))) = ((e r.val / cnt (win q) r.val : ℝ) : EReal) := by
    rintro w r c' rfl hw2 h
    rw [show c' = c from Fin.ext h, he, count_at _ hw2 _ r.isLt, div_coe _ (cnt_pos _ _ hw).ne']
  have key : ∀ (v w : ℕ) (P : Prop) (dec : Decidable P) (r : P → Fin 2048) (ch : P → Fin 128), v = win q → w = win q →
      w < 2048 → (P ↔ s.val + win q < 2048) → (∀ h, (r h).val = s.val + win q) → (∀ h, (ch h).val = c.val) →
      (if h : P then -(Ideal.div (val_main_v95 (F := Ideal) x1 x2 x3 (ix4 b (r h) q (ch h)))
        (FloatOps.sitofp (F := Ideal) .f32 (IntOp.minsi (IntOp.addi (BitVec.ofNat 32 (r h).val) 1#32) (BitVec.ofNat 32 v))) : EReal) else 0)
      + (Ideal.div (val_main_v95 (F := Ideal) x1 x2 x3 (ix4 b s q c))
        (FloatOps.sitofp (F := Ideal) .f32 (IntOp.minsi (IntOp.addi (BitVec.ofNat 32 s.val) 1#32) (BitVec.ofNat 32 w))) : EReal)
        = ((e s.val / cnt (win q) s.val - if s.val + win q < 2048 then e (s.val + win q) / cnt (win q) (s.val + win q) else 0 : ℝ) : EReal) := by
    intro v w P dec r ch hv hw2 hlt hP hr hc1
    rw [hE _ _ _ hw2 hlt rfl]
    by_cases h : P
    · rw [dif_pos h, hE _ _ _ hv (by omega) (hc1 h), hr h, if_pos (hP.1 h), ← EReal.coe_neg, ← EReal.coe_add, neg_add_eq_sub]
    · rw [dif_neg h, if_neg (fun g => h (hP.2 g)), zero_add, sub_zero]
  obtain rfl | rfl | rfl | rfl : q = 0 ∨ q = 1 ∨ q = 2 ∨ q = 3 := by omega
  all_goals
    pointwise [val_main_v148, val_main_v146, val_main_v145, val_main_v136, val_main_v135, val_main_v126, val_main_v125, val_main_v116, val_main_cst_20, val_main_cst_23, val_main_cst_26, val_main_cst_29, chan]
    simp (disch := omega) only [dif_pos, dif_neg, zero_add, add_zero]
    pointwise [val_main_v137, val_main_v138, val_main_v139, val_main_v140, val_main_v141, val_main_v142, val_main_v143, val_main_v144, val_main_v127, val_main_v128, val_main_v129, val_main_v130, val_main_v131, val_main_v132, val_main_v133, val_main_v134, val_main_v117, val_main_v118, val_main_v119, val_main_v120, val_main_v121, val_main_v122, val_main_v123, val_main_v124, val_main_v100, val_main_v101, val_main_v102, val_main_v103, val_main_v104, val_main_v105, val_main_v106, val_main_v107, val_main_v108, val_main_v109, val_main_v110, val_main_v111, val_main_v112, val_main_v113, val_main_v114, val_main_v115, val_main_v63, val_main_v64, val_main_v65, val_main_v66, val_main_v67, val_main_v68, val_main_v47, val_main_v48, val_main_v49, val_main_v50, val_main_v51, val_main_v52, val_main_v31, val_main_v32, val_main_v33, val_main_v34, val_main_v35, val_main_v36, val_main_v15, val_main_v16, val_main_v17, val_main_v18, val_main_v19, val_main_v20, val_main_v7, val_main_cst_18, val_main_cst_19, val_main_cst_21, val_main_cst_22, val_main_cst_24, val_main_cst_25, val_main_cst_27, val_main_cst_28, val_main_c, val_main_c_3, val_main_c_6, val_main_c_7, val_main_c_10, val_main_c_11, val_main_c_14, val_main_c_15]
    try simp only [and_false, false_and, ↓reduceDIte, add_zero, zero_add]
    refine key _ _ _ _ _ _ ?_ ?_ ?_ ?_ ?_ ?_
    all_goals intros
    all_goals simp [win]
    all_goals omega

omit h0 in
/-- The cotangent of the window's mean, over the reals. -/
def dmix (b : Fin 2) (q : Fin 4) (c : Fin 128) (s : ℕ) : ℝ :=
  ∑ d : Fin 128, col x1 b (chan q d) s * (x3 (ix2 0 (chan q d)) : EReal).toReal * (x2 (ix4 0 q c d) : EReal).toReal

variable (h1 : Fin' x1) (h2 : Fin' x2) (h3 : Fin' x3)

omit h0 in
theorem coe_sum {n : ℕ} (f : Fin n → ℝ) : ((∑ i, f i : ℝ) : EReal) = ∑ i, (f i : EReal) :=
  map_sum (⟨⟨fun r : ℝ => (r : EReal), EReal.coe_zero⟩, EReal.coe_add⟩ : ℝ →+ EReal) f Finset.univ

omit h0 in
theorem col_at (x : FVec Ideal S4096x512 .f32) (h : Fin' x) (b : Fin 2) (s : Fin 2048) (ch : Fin 512) (i : Fin 4096) (hi : i.val = b.val * 2048 + s.val) :
    ((col x b ch s.val : ℝ) : EReal) = x (ix2 i ch) := by
  unfold col
  rw [dif_pos s.isLt, h, show (⟨b.val * 2048 + s.val, _⟩ : Fin 4096) = i from Fin.ext hi.symm]

include h1 h2 h3 in
omit h0 in
theorem v95_at (b : Fin 2) (s : Fin 2048) (q : Fin 4) (c : Fin 128) :
    val_main_v95 (F := Ideal) x1 x2 x3 (ix4 b s q c) = ((dmix x1 x2 x3 b q c s.val : ℝ) : EReal) := by
  pointwise [val_main_v95, val_main_v94, val_main_v93, val_main_v92, val_main_v90, val_main_v85, val_main_v89, val_main_v82, val_main_v2, val_main_v1]
  rw [dmix, coe_sum]
  refine Finset.sum_congr rfl fun d _ => ?_
  rw [EReal.coe_mul, EReal.coe_mul, h2, h3, col_at x1 h1 b s (chan q d) ⟨b.val * 2048 + s.val, by have := b.isLt; omega⟩ rfl]
  rfl

include h1 h2 h3 in
omit h0 in
/-- What the reference returns for the pooled rows. -/
theorem v154_at (b : Fin 2) (s : Fin 2048) (q : Fin 4) (c : Fin 128) (i : Fin 4096) (hi : i.val = b.val * 2048 + s.val) :
    val_main_v154 (F := Ideal) x1 x2 x3 (ix2 i (chan q c))
      = ((-dmix x1 x2 x3 b q c s.val + (suf (fun r => dmix x1 x2 x3 b q c r / cnt (win q) r) s.val - suf (fun r => dmix x1 x2 x3 b q c r / cnt (win q) r) (s.val + win q)) : ℝ) : EReal) := by
  have hw : win q ≤ 2048 := (Nat.pow_le_pow_right (by norm_num) (by have := q.isLt; omega)).trans (show 2 ^ 4 ≤ 2048 by norm_num)
  have hz : val_main_call1_call0_v0 (F := Ideal) (Shape.Idx.first Cert.ReferencePoolIdeal.Gen.h_S_) = 0 := by
    pointwise [val_main_call1_call0_v0, val_main_call1_call0_cst]
  have h149 : val_main_v149 (F := Ideal) x1 x2 x3 (ix3 b s (chan q c)) = ((suf (fun r => dmix x1 x2 x3 b q c r / cnt (win q) r) s.val - suf (fun r => dmix x1 x2 x3 b q c r / cnt (win q) r) (s.val + win q) : ℝ) : EReal) := by
    unfold val_main_v149 Host.reduceWindowAdd
    simp only [Ideal.hostReduceWindowAdd_def]
    rw [hz]
    refine (window_at (val_main_v148 (F := Ideal) x1 x2 x3) (a := b) (c := chan q c) (g := fun r => dmix x1 x2 x3 b q c r / cnt (win q) r - if r + win q < 2048 then dmix x1 x2 x3 b q c (r + win q) / cnt (win q) (r + win q) else 0) (fun t => pads_at x1 x2 x3 b t q c _ (fun s => v95_at x1 x2 x3 h1 h2 h3 b s q c)) _ s).trans ?_
    rw [← suf_diff _ _ _ hw]
    exact congrArg Real.toEReal (suf_window (fun r => dmix x1 x2 x3 b q c r / cnt (win q) r - if r + win q < 2048 then dmix x1 x2 x3 b q c (r + win q) / cnt (win q) (r + win q) else 0) _ s.isLt)
  rw [EReal.coe_add, ← h149, EReal.coe_neg, ← v95_at x1 x2 x3 h1 h2 h3]
  have hb : i = ⟨b.val * 2048 + s.val, hi ▸ i.isLt⟩ := Fin.ext hi
  rw [hb]
  pointwise [val_main_v154, val_main_v153, val_main_v150, val_main_v98, val_main_v99, chan]

include h0 in
/-- What the reference returns for the pooling weights. -/
theorem v155_at (q : Fin 4) (c d : Fin 128) :
    val_main_v155 (F := Ideal) x0 x1 x3 (ix3 q c d)
      = ∑ b : Fin 2, ∑ s : Fin 2048, ((x1 (ix2 ⟨b.val * 2048 + s.val, by have := b.isLt; omega⟩ (chan q d)) : EReal) * x3 (ix2 0 (chan q d))) * ((dif x0 b q c s.val : ℝ) : EReal) := by
  pointwise [val_main_v155, val_main_v152, val_main_v97, val_main_v96]
  refine Finset.sum_congr rfl fun b _ => Finset.sum_congr rfl fun s _ => ?_
  rw [v78_at x0 h0]
  pointwise [val_main_v93, val_main_v92, val_main_v90, val_main_v85, val_main_v89, val_main_v82, val_main_v2, chan]

omit h0 in
/-- A host sum over two leading axes. -/
theorem sum_two {A N C : ℕ} (h : (⟨3, ![A, N, C]⟩ : Shape).ReducesTo [0, 1] ⟨1, ![C]⟩) (v : (⟨3, ![A, N, C]⟩ : Shape).Idx → EReal) (c : Fin C) :
    Ideal.hostReduceAdd h v 0 (ix1 c) = ∑ a : Fin A, ∑ n : Fin N, v (ix3 a n c) := by
  unfold Ideal.hostReduceAdd
  rw [zero_add, ← Fintype.sum_prod_type' (fun a n => v (ix3 a n c))]
  refine Finset.sum_filter_eq_sum_of_fiber _ (fun p : Fin A × Fin N => ix3 p.1 p.2 c) (fun p p' e => Prod.ext (congrFun e 0) (congrFun e 1)) (fun i => ?_) v
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

include h0 in
/-- What the reference returns for the output scale. -/
theorem v151_at (q : Fin 4) (d : Fin 128) :
    val_main_v151 (F := Ideal) x0 x1 x2 (ix2 0 (chan q d))
      = ∑ b : Fin 2, ∑ s : Fin 2048, (∑ c : Fin 128, (x2 (ix4 0 q c d) : EReal) * ((dif x0 b q c s.val : ℝ) : EReal)) * x1 (ix2 ⟨b.val * 2048 + s.val, by have := b.isLt; omega⟩ (chan q d)) := by
  have h91 : val_main_v151 (F := Ideal) x0 x1 x2 (ix2 0 (chan q d)) = val_main_v87 (F := Ideal) x0 x1 x2 (ix1 (chan q d)) := by
    pointwise [val_main_v151]
    unfold val_main_v91 Host.reduceAdd
    simp only [Ideal.hostReduceAdd_def]
    rw [show val_main_cst_17 (F := Ideal) (Shape.Idx.first Cert.ReferencePoolIdeal.Gen.h_S_) = 0 by pointwise [val_main_cst_17]]
    refine Eq.trans (sum_two _ _ _) ?_
    rw [Fin.sum_univ_one, Fin.sum_univ_one]
    pointwise [val_main_v88]
  rw [h91]
  unfold val_main_v87 Host.reduceAdd
  simp only [Ideal.hostReduceAdd_def]
  rw [show val_main_cst_16 (F := Ideal) (Shape.Idx.first Cert.ReferencePoolIdeal.Gen.h_S_) = 0 by pointwise [val_main_cst_16]]
  refine Eq.trans (sum_two _ _ _) ?_
  refine Finset.sum_congr rfl fun b _ => Finset.sum_congr rfl fun s _ => ?_
  pointwise [val_main_v86, val_main_v81, val_main_v80, val_main_v79, val_main_v85, val_main_v1, chan]
  exact congrArg (fun t : EReal => t * _) (Finset.sum_congr rfl fun c _ => congrArg (fun t : EReal => _ * t) (v78_at x0 h0 b s q c))

end Cert.KernelPoolIdeal.Hand
-- ==== Proof.PoolPay.lean ====
/-
  The pooling kernel's payloads, entry by entry, on rows of real numbers.
-/
module

public import proofs.«01_k».proof.Proof.PoolRef

@[expose] public section

set_option maxRecDepth 16384

noncomputable section

open Idealize.ShloMosaic Idealize.ShloMosaic.TcCoe Idealize.SL.Sem
open Idealize.ShloMosaic.Pipeline (Dat)

namespace Cert.KernelPoolIdeal.Hand

open Cert.KernelPoolIdeal Cert.KernelPoolIdeal.Gen Cert.Pool

/-- The mean over the window ending at `s`, less the row's own entry. -/
def mean (w : ℕ) (g : ℕ → ℝ) (s : ℕ) : ℝ := (pre g (s + 1) - pre g (s + 1 - w)) / cnt w s - g s

theorem inv_at (w : ℕ) (hw : w < 2048) (h0 : 0 < w) (s : Fin 2048) (j : Fin 128) :
    divf (broadcast S2048x128 (Scalar.ofBits (F := Ideal) .f32 0x3F800000#32)) (sitofp .f32 (minsi (addi rows (broadcast S2048x128 1#32)) (broadcast S2048x128 (BitVec.ofNat 32 w)))) (ix2 s j)
      = ((1 / cnt w s.val : ℝ) : EReal) := by
  pointwise []
  rw [count_at _ hw _ s.isLt, ← EReal.coe_one, div_coe _ (cnt_pos _ _ h0).ne']

theorem mean_at (w : ℕ) (X V U : FVec Ideal S2048x128 .f32) (g : Fin 128 → ℕ → ℝ) (s : Fin 2048) (j : Fin 128)
    (hX : X (ix2 s j) = ((pre (g j) (s.val + 1) - pre (g j) (s.val + 1 - w) : ℝ) : EReal)) (hV : V (ix2 s j) = ((1 / cnt w s.val : ℝ) : EReal))
    (hU : U (ix2 s j) = ((g j s.val : ℝ) : EReal)) : subf (mulf X V) U (ix2 s j) = ((mean w (g j) s.val : ℝ) : EReal) := by
  pointwise []
  rw [hX, hV, hU, ← EReal.coe_mul, ← EReal.coe_sub, mul_one_div]
  rfl

section diffs
variable (U : FVec Ideal S2048x128 .f32) (g : Fin 128 → ℕ → ℝ) (hU : ∀ s j, U (ix2 s j) = ((g j s.val : ℝ) : EReal))
include hU

theorem fwd0 (s : Fin 2048) (j : Fin 128) : U (ix2 s j) = ((pre (g j) (s.val + 1) - pre (g j) (s.val + 1 - 1) : ℝ) : EReal) := by
  rw [pre_one, hU]

theorem diff0 (s : Fin 2048) (j : Fin 128) : k0_pay5 (F := Ideal) U (ix2 s j) = ((mean 2 (g j) s.val : ℝ) : EReal) :=
  mean_at 2 _ _ _ g s j (fwd_step 1 (by omega) U g (fwd0 U g hU) s j) (inv_at 2 (by omega) (by omega) s j) (hU s j)

theorem diff1 (s : Fin 2048) (j : Fin 128) : k0_pay15 (F := Ideal) U (k0_pay12 rows) (k0_pay13 rows U) (k0_pay14 rows) (ix2 s j) = ((mean 4 (g j) s.val : ℝ) : EReal) :=
  mean_at 4 _ _ _ g s j (fwd_step 2 (by omega) _ g (fwd_step 1 (by omega) U g (fwd0 U g hU)) s j) (inv_at 4 (by omega) (by omega) s j) (hU s j)

theorem diff2 (s : Fin 2048) (j : Fin 128) : k0_pay26 (F := Ideal) U (k0_pay24 rows) (k0_pay25 rows U) (ix2 s j) = ((mean 8 (g j) s.val : ℝ) : EReal) :=
  mean_at 8 _ _ _ g s j (fwd_step 4 (by omega) _ g (fwd_step 2 (by omega) _ g (fwd_step 1 (by omega) U g (fwd0 U g hU))) s j) (inv_at 8 (by omega) (by omega) s j) (hU s j)

theorem diff3 (s : Fin 2048) (j : Fin 128) :
    k0_pay38 (F := Ideal) rows U (k0_pay34 rows) (k0_pay35 rows U) (k0_pay36 rows) (k0_pay37 rows U) (FloatOps.ofBits .f32 0#32) (ix2 s j) = ((mean 16 (g j) s.val : ℝ) : EReal) :=
  mean_at 16 _ _ _ g s j (fwd_step 8 (by omega) _ g (fwd_step 4 (by omega) _ g (fwd_step 2 (by omega) _ g (fwd_step 1 (by omega) U g (fwd0 U g hU)))) s j)
    (inv_at 16 (by omega) (by omega) s j) (hU s j)

end diffs

/-- The scale's gradient of one group and one sequence, added to what is there. -/
theorem scale_of (X : FVec Ideal S2048x128 .bf16) (W : FVec Ideal S1x128x128 .bf16) (Y : FVec Ideal S2048x128 .f32) (A : FVec Ideal S1x128 .f32) (j : Fin 128) :
    addf (shapeCast S1x128 A shapeCasts_S1x128_S1x128) (shapeCast S1x128 (multiReduction (F := Ideal) .add [0] S128
      (mulf Y (matmul dot_S2048x128_S128x128_S2048x128_1_0_0_1_n_n none X (shapeCast S128x128 W shapeCasts_S1x128x128_S128x128) (constant S2048x128 .f32 0x00000000#32)))
      0x00000000#32 reduces_S2048x128_S128 (.inl rfl) rfl) shapeCasts_S128_S1x128) (ix2 0 j)
      = A (ix2 0 j) + ∑ s : Fin 2048, (Y (ix2 s j) : EReal) * ∑ c : Fin 128, (X (ix2 s c) : EReal) * W (ix3 0 c j) := by
  pointwise []

/-- The weights' gradient of one group and one sequence, added to what is there. -/
theorem weight_of (X M : FVec Ideal S2048x128 .bf16) (A : FVec Ideal S1x128x128 .f32) (c d : Fin 128) :
    shapeCast S1x128x128 (addf (shapeCast S128x128 A shapeCasts_S1x128x128_S128x128) (matmul dot_S2048x128_S2048x128_S128x128_0_0_1_1_n_n none X M (constant (F := Ideal) S128x128 .f32 0x00000000#32)))
      shapeCasts_S128x128_S1x128x128 (ix3 0 c d) = A (ix3 0 c d) + ∑ s : Fin 2048, (X (ix2 s c) : EReal) * M (ix2 s d) := by
  pointwise []

/-- The cotangent under the scale. -/
abbrev under (Y : FVec Ideal S2048x128 .f32) (P : FVec Ideal S1x128 .f32) : FVec Ideal S2048x128 .bf16 :=
  truncf .bf16 (mulf Y (broadcastTo S2048x128 P broadcasts_S1x128_S2048x128)) bitsLt_bf16_f32

theorem under_at (Y : FVec Ideal S2048x128 .f32) (P : FVec Ideal S1x128 .f32) (s : Fin 2048) (d : Fin 128) : under Y P (ix2 s d) = (Y (ix2 s d) : EReal) * P (ix2 0 d) := by
  pointwise []

/-- The cotangent of the difference. -/
abbrev back (Y : FVec Ideal S2048x128 .f32) (P : FVec Ideal S1x128 .f32) (W : FVec Ideal S1x128x128 .bf16) : FVec Ideal S2048x128 .f32 :=
  matmul dot_S2048x128_S128x128_S2048x128_1_1_0_0_n_n none (under Y P) (shapeCast S128x128 W shapeCasts_S1x128x128_S128x128 : FVec Ideal S128x128 .bf16) (constant S2048x128 .f32 0x00000000#32)

theorem back_at (Y : FVec Ideal S2048x128 .f32) (P : FVec Ideal S1x128 .f32) (W : FVec Ideal S1x128x128 .bf16) (s : Fin 2048) (c : Fin 128) :
    back Y P W (ix2 s c) = ∑ d : Fin 128, (Y (ix2 s d) : EReal) * P (ix2 0 d) * W (ix3 0 c d) := by
  pointwise []

/-- What a row is given by the windows that hold it, less what its own entry takes. -/
def gain (w : ℕ) (e : ℕ → ℝ) (s : ℕ) : ℝ := (suf (fun r => e r / cnt w r) s - suf (fun r => e r / cnt w r) (s + w)) - e s

section backs
variable (Y : FVec Ideal S2048x128 .f32) (P : FVec Ideal S1x128 .f32) (W : FVec Ideal S1x128x128 .bf16) (e : Fin 128 → ℕ → ℝ)
  (hE : ∀ s j, back Y P W (ix2 s j) = ((e j s.val : ℝ) : EReal))
include hE

theorem bwd0 (w : ℕ) (V : FVec Ideal S2048x128 .f32) (hV : ∀ s j, V (ix2 s j) = ((1 / cnt w s.val : ℝ) : EReal)) (s : Fin 2048) (j : Fin 128) :
    mulf (back Y P W) V (ix2 s j) = ((suf (fun r => e j r / cnt w r) s.val - suf (fun r => e j r / cnt w r) (s.val + 1) : ℝ) : EReal) := by
  rw [suf_one _ s.isLt]
  refine Eq.trans (congrArg₂ (fun a b : EReal => a * b) (hE s j) (hV s j)) ?_
  rw [← EReal.coe_mul, mul_one_div]

theorem gain_at (w : ℕ) (X : FVec Ideal S2048x128 .f32) (s : Fin 2048) (j : Fin 128)
    (hX : X (ix2 s j) = ((suf (fun r => e j r / cnt w r) s.val - suf (fun r => e j r / cnt w r) (s.val + w) : ℝ) : EReal)) :
    subf X (back Y P W) (ix2 s j) = ((gain w (e j) s.val : ℝ) : EReal) := by
  refine Eq.trans (congrArg₂ (fun a b : EReal => a - b) hX (hE s j)) ?_
  rw [← EReal.coe_sub]
  rfl

theorem gain0 (s : Fin 2048) (j : Fin 128) : k0_pay11 (F := Ideal) rows k0_pay4 (k0_pay6 W) Y (k0_pay8 P) (ix2 s j) = ((gain 2 (e j) s.val : ℝ) : EReal) :=
  gain_at Y P W e hE 2 _ s j (bwd_step 1 (by omega) _ (fun j r => e j r / cnt 2 r) (bwd0 Y P W e hE 2 _ (inv_at 2 (by omega) (by omega))) s j)

theorem gain1 (s : Fin 2048) (j : Fin 128) :
    k0_pay23 (F := Ideal) rows (k0_pay20 W Y P) (k0_pay21 (k0_pay12 rows) W Y P) (k0_pay22 rows) 2047#32 (ix2 s j) = ((gain 4 (e j) s.val : ℝ) : EReal) :=
  gain_at Y P W e hE 4 _ s j (bwd_step 2 (by omega) _ (fun j r => e j r / cnt 4 r) (bwd_step 1 (by omega) _ (fun j r => e j r / cnt 4 r)
    (bwd0 Y P W e hE 4 _ (inv_at 4 (by omega) (by omega)))) s j)

theorem gain2 (s : Fin 2048) (j : Fin 128) :
    k0_pay33 (F := Ideal) rows (k0_pay31 W Y P) (k0_pay32 rows (k0_pay24 rows) W Y P) 2046#32 (ix2 s j) = ((gain 8 (e j) s.val : ℝ) : EReal) :=
  gain_at Y P W e hE 8 _ s j (bwd_step 4 (by omega) _ (fun j r => e j r / cnt 8 r) (bwd_step 2 (by omega) _ (fun j r => e j r / cnt 8 r)
    (bwd_step 1 (by omega) _ (fun j r => e j r / cnt 8 r) (bwd0 Y P W e hE 8 _ (inv_at 8 (by omega) (by omega))))) s j)

theorem gain3 (s : Fin 2048) (j : Fin 128) :
    k0_pay1 (F := Ideal) rows (k0_pay34 rows) (k0_pay39 W) (k0_pay41 Y P) (constant S2048x128 .f32 0x00000000#32) (ix2 s j) = ((gain 16 (e j) s.val : ℝ) : EReal) :=
  gain_at Y P W e hE 16 _ s j (bwd_step 8 (by omega) _ (fun j r => e j r / cnt 16 r) (bwd_step 4 (by omega) _ (fun j r => e j r / cnt 16 r)
    (bwd_step 2 (by omega) _ (fun j r => e j r / cnt 16 r) (bwd_step 1 (by omega) _ (fun j r => e j r / cnt 16 r)
    (bwd0 Y P W e hE 16 _ (inv_at 16 (by omega) (by omega)))))) s j)

end backs

end Cert.KernelPoolIdeal.Hand
-- ==== Proof.PoolValue.lean ====
/-
  The pooling's backward call: what a grid point reads, and the result whose blocks its grid tiles.
-/
module

public import proofs.«01_k».proof.Proof.PoolPay
public import proofs.«01_k».proof.Proof.Stores

@[expose] public section

set_option maxRecDepth 16384

noncomputable section

open Idealize.ShloMosaic Idealize.ShloMosaic.TcCoe Idealize.SL.Sem
open Idealize.ShloMosaic.Pipeline (Dat)

namespace Cert.KernelPoolIdeal.Hand

open Cert.KernelPoolIdeal Cert.KernelPoolIdeal.Gen Cert.Pool
open Cert.ReferencePoolIdeal.Read (val_main_v151 val_main_v154 val_main_v155)

variable (m : (ℓ : Loc nD τ sig) → Buf (Elt Ideal) ℓ)

/-- Argument arrays at their literal types. -/
abbrev a0 (c : Dev nD) : FVec Ideal S4096x512 .f32 := m ((c.tc : Thread nD τ).loc main_arg0)
abbrev a1 (c : Dev nD) : FVec Ideal S4096x512 .f32 := m ((c.tc : Thread nD τ).loc main_arg1)
abbrev a2 (c : Dev nD) : FVec Ideal S1x4x128x128 .f32 := m ((c.tc : Thread nD τ).loc main_arg2)
abbrev a3 (c : Dev nD) : FVec Ideal S1x512 .f32 := m ((c.tc : Thread nD τ).loc main_arg3)

theorem idx : ∀ t : Fin cfg0.N, win0_0.index t = ![t.val, 0] ∧ win0_1.index t = ![t.val, 0] ∧ win0_2.index t = ![0, 0, 0]
    ∧ win0_3.index t = ![0, 0] ∧ win0_4.index t = ![t.val, 0] ∧ win0_5.index t = ![0, 0, 0] ∧ win0_6.index t = ![0, 0] :=
  (by decide +kernel : ∀ t : Fin grid0.N, _)

/-- The sequence of a grid point. -/
abbrev seq (t : Fin cfg0.N) : Fin 2 := ⟨t.val, t.isLt.trans_eq N_0⟩

theorem row_lt (t : Fin cfg0.N) (s : Fin 2048) : (seq t).val * 2048 + s.val < 4096 := by
  have := (seq t).isLt
  have := s.isLt
  omega

theorem blk0 (c : Dev nD) (t : Fin cfg0.N) : iblk m c 0 t = fun y : S2048x512.Idx => a0 m c (ix2 ⟨(seq t).val * 2048 + (y 0).val, row_lt t (y 0)⟩ (y 1)) := by
  funext y
  blk_ext [iblk, V, idx t]

theorem blk1 (c : Dev nD) (t : Fin cfg0.N) : iblk m c 1 t = fun y : S2048x512.Idx => a1 m c (ix2 ⟨(seq t).val * 2048 + (y 0).val, row_lt t (y 0)⟩ (y 1)) := by
  funext y
  blk_ext [iblk, V, idx t]

theorem blk2 (c : Dev nD) (t : Fin cfg0.N) : iblk m c 2 t = fun y : S4x128x128.Idx => a2 m c (ix4 0 (y 0) (y 1) (y 2)) := by
  funext y
  idx_vars y
  blk_ext! [iblk, V, idx t]

theorem blk3 (c : Dev nD) (t : Fin cfg0.N) : iblk m c 3 t = a3 m c := by
  blk_ext! [iblk, V, idx t]

section loads
variable (c : Dev nD) (t : Fin cfg0.N) (q : Fin 4) (s : Fin 2048) (j k : Fin 128)

theorem ld0 (off : ℕ) (inb) (h : off = q.val * 128) :
    (View.ld (iblk m c 0 t) (Rect.unit ![0, off] ![2048, 128] inb) : FVec Ideal S2048x128 .f32) (ix2 s j)
      = a0 m c (ix2 ⟨(seq t).val * 2048 + s.val, row_lt t s⟩ (chan q j)) := by
  subst h
  rw [blk0]
  pointwise [chan]

theorem ld1 (off : ℕ) (inb) (h : off = q.val * 128) :
    (View.ld (iblk m c 1 t) (Rect.unit ![0, off] ![2048, 128] inb) : FVec Ideal S2048x128 .f32) (ix2 s j)
      = a1 m c (ix2 ⟨(seq t).val * 2048 + s.val, row_lt t s⟩ (chan q j)) := by
  subst h
  rw [blk1]
  pointwise [chan]

theorem ld3 (off : ℕ) (inb) (h : off = q.val * 128) :
    (View.ld (iblk m c 3 t) (Rect.unit ![0, off] ![1, 128] inb) : FVec Ideal S1x128 .f32) (ix2 0 j) = a3 m c (ix2 0 (chan q j)) := by
  subst h
  rw [blk3]
  pointwise [chan]

theorem ld2 (off : ℕ) (inb) (h : off = q.val) :
    (View.ld (iblk m c 2 t) (Rect.unit ![off, 0, 0] ![1, 128, 128] inb) : FVec Ideal S1x128x128 .bf16) (ix3 0 j k) = a2 m c (ix4 0 q j k) := by
  subst h
  rw [blk2]
  pointwise []

end loads

section finite
variable (c : Dev nD) (h0 : Fin' (a0 m c)) (h1 : Fin' (a1 m c)) (h2 : Fin' (a2 m c)) (h3 : Fin' (a3 m c)) (t : Fin cfg0.N) (q : Fin 4)

/-- The rows of a group, as columns of real numbers. -/
abbrev uu (j : Fin 128) : ℕ → ℝ := col (a0 m c) (seq t) (chan q j)

/-- The cotangent of the difference of a group, as columns of real numbers. -/
abbrev ee (j : Fin 128) : ℕ → ℝ := dmix (a1 m c) (a2 m c) (a3 m c) (seq t) q j

include h0 in
theorem real0 (off : ℕ) (inb) (h : off = q.val * 128) (s : Fin 2048) (j : Fin 128) :
    (View.ld (iblk m c 0 t) (Rect.unit ![0, off] ![2048, 128] inb) : FVec Ideal S2048x128 .f32) (ix2 s j) = ((uu m c t q j s.val : ℝ) : EReal) := by
  rw [ld0 m c t q s j off inb h, col_at (a0 m c) h0 (seq t) s (chan q j) ⟨(seq t).val * 2048 + s.val, row_lt t s⟩ rfl]

include h1 h2 h3 in
theorem realE (off off' : ℕ) (inb) (inb') (inb'') (h : off = q.val * 128) (h' : off' = q.val) (s : Fin 2048) (j : Fin 128) :
    back (View.ld (iblk m c 1 t) (Rect.unit ![0, off] ![2048, 128] inb)) (View.ld (iblk m c 3 t) (Rect.unit ![0, off] ![1, 128] inb'))
      (View.ld (iblk m c 2 t) (Rect.unit ![off', 0, 0] ![1, 128, 128] inb'')) (ix2 s j) = ((ee m c t q j s.val : ℝ) : EReal) := by
  rw [back_at]
  simp only [ee, dmix, coe_sum]
  refine Finset.sum_congr rfl fun d _ => ?_
  rw [EReal.coe_mul, EReal.coe_mul, h2, h3, col_at (a1 m c) h1 (seq t) s (chan q d) ⟨(seq t).val * 2048 + s.val, row_lt t s⟩ rfl]
  exact congrArg₂ (fun a b : EReal => a * b) (congrArg₂ (fun a b : EReal => a * b) (ld1 m c t q s d off inb h) (ld3 m c t q d off inb' h)) (ld2 m c t q j d off' inb'' h')

include h1 h2 h3 in
/-- A gain is what the reference returns at the block's place. -/
theorem gain_ref (s : Fin 2048) (j : Fin 128) (y : S2048x512.Idx) (y0 : (y 0).val = s.val) (y1 : (y 1).val = q.val * 128 + j.val) :
    ((gain (win q) (ee m c t q j) s.val : ℝ) : EReal)
      = val_main_v154 (F := Ideal) (a1 m c) (a2 m c) (a3 m c) (((cfg0.win 4).blk t).view.emb y) := by
  have he : (((cfg0.win 4).blk t).view.emb y : S4096x512.Idx) = ix2 ⟨(seq t).val * 2048 + s.val, row_lt t s⟩ (chan q j) := by
    blk_ext [idx t, chan]
  rw [he, v154_at (a1 m c) (a2 m c) (a3 m c) h1 h2 h3 (seq t) s q j _ rfl]
  refine congrArg _ ?_
  rw [gain]
  ring

include h1 h2 h3 in
theorem gains (pay : FVec Ideal S2048x128 .bf16) (h : ∀ s j, pay (ix2 s j) = ((gain (win q) (ee m c t q j) s.val : ℝ) : EReal))
    (x : S2048x128.Idx) (y : S2048x512.Idx) (y0 : (y 0).val = (x 0).val) (y1 : (y 1).val = q.val * 128 + (x 1).val) :
    pay x = val_main_v154 (F := Ideal) (a1 m c) (a2 m c) (a3 m c) (((cfg0.win 4).blk t).view.emb y) := by
  refine Eq.trans ?_ (gain_ref m c h1 h2 h3 t q (x 0) (x 1) y y0 y1)
  exact (congrArg pay (eq_ix2 x)).trans (h (x 0) (x 1))

theorem cover4 (p q r u) (j : S2048x512.Idx) :
    ∃ P ∈ [(⟨Rect.unit ![0, 384] ![2048, 128] inb_S2048x512_S2048x128_0_384, p⟩ : View.Piece (Elt Ideal) S2048x512 .bf16),
      ⟨Rect.unit ![0, 256] ![2048, 128] inb_S2048x512_S2048x128_0_256, q⟩, ⟨Rect.unit ![0, 128] ![2048, 128] inb_S2048x512_S2048x128_0_128, r⟩,
      ⟨Rect.unit ![0, 0] ![2048, 128] inb_S2048x512_S2048x128_0_0, u⟩], j ∈ P.1.set := by
  have h0 : (j 0).val < 2048 := (j 0).isLt
  have h1 : (j 1).val < 512 := (j 1).isLt
  simp only [List.mem_cons, List.not_mem_nil, or_false, exists_eq_or_imp, exists_eq_left, Rect.mem_set_unit, Fin.forall_fin_two]
  simp
  omega

include h1 h2 h3 in
theorem final4 : (dats m 0 c).arrAt 4 (cfgs 0).N = val_main_v154 (F := Ideal) (a1 m c) (a2 m c) (a3 m c) := by
  refine (dats m 0 c).arrAt_eq_of_covers 4 _ (by decide +kernel) fun t _ y => ?_
  blk_simp
  rw [after0_4]
  by_cases h : t.val % 2 = 0
  case' pos => rw [outsAt0_A m c t h]
  case' neg => rw [outsAt0_B m c t h]
  all_goals
    frame_out
    canon_tiles x r using cover4 _ _ _ _ y
    · exact gains m c h1 h2 h3 t 3 _ (gain3 _ _ _ (ee m c t 3) (realE m c h1 h2 h3 t 3 _ _ _ _ _ rfl rfl)) x y r0 r1
    · exact gains m c h1 h2 h3 t 2 _ (gain2 _ _ _ (ee m c t 2) (realE m c h1 h2 h3 t 2 _ _ _ _ _ rfl rfl)) x y r0 r1
    · exact gains m c h1 h2 h3 t 1 _ (gain1 _ _ _ (ee m c t 1) (realE m c h1 h2 h3 t 1 _ _ _ _ _ rfl rfl)) x y r0 r1
    · exact gains m c h1 h2 h3 t 0 _ (gain0 _ _ _ (ee m c t 0) (realE m c h1 h2 h3 t 0 _ _ _ _ _ rfl rfl)) x y r0 (r1.trans (zero_add _).symm)

end finite

end Cert.KernelPoolIdeal.Hand
-- ==== Proof.PoolSums.lean ====
/-
  The pooling's backward call: the results its grid accumulates.
-/
module

public import proofs.«01_k».proof.Proof.PoolValue
public import proofs.«01_k».proof.Proof.Stores

@[expose] public section

set_option maxRecDepth 16384

noncomputable section

open Idealize.ShloMosaic Idealize.ShloMosaic.TcCoe Idealize.SL.Sem
open Idealize.ShloMosaic.Pipeline (Dat)

namespace Cert.KernelPoolIdeal.Hand

open Cert.KernelPoolIdeal Cert.KernelPoolIdeal.Gen Cert.Pool
open Cert.ReferencePoolIdeal.Read (val_main_v151 val_main_v154 val_main_v155)

variable (m : (ℓ : Loc nD τ sig) → Buf (Elt Ideal) ℓ)

/-- The group and the lane of a channel. -/
abbrev grp (i : Fin 512) : Fin 4 := ⟨i.val / 128, by omega⟩
abbrev lane (i : Fin 512) : Fin 128 := ⟨i.val % 128, by omega⟩

theorem chan_of (i : Fin 512) : i = chan (grp i) (lane i) := Fin.ext (by show i.val = i.val / 128 * 128 + i.val % 128; omega)

theorem grp_eq (q : Fin 4) (d : Fin 128) (i : Fin 512) (h : i.val = q.val * 128 + d.val) : grp i = q := Fin.ext (by show i.val / 128 = q.val; omega)

theorem lane_eq (q : Fin 4) (d : Fin 128) (i : Fin 512) (h : i.val = q.val * 128 + d.val) : lane i = d := Fin.ext (by show i.val % 128 = d.val; omega)

section finite
variable (c : Dev nD) (h0 : Fin' (a0 m c)) (t : Fin cfg0.N)

/-- What one sequence adds to the weights' gradient. -/
abbrev part5 (t : Fin cfg0.N) (y : S4x128x128.Idx) : EReal :=
  ∑ s : Fin 2048, ((a1 m c (ix2 ⟨(seq t).val * 2048 + s.val, row_lt t s⟩ (chan (y 0) (y 2))) : EReal) * a3 m c (ix2 0 (chan (y 0) (y 2))))
    * ((dif (a0 m c) (seq t) (y 0) (y 1) s.val : ℝ) : EReal)

theorem cover5 (p q r u) (j : S4x128x128.Idx) :
    ∃ P ∈ [(⟨Rect.unit ![3, 0, 0] ![1, 128, 128] inb_S4x128x128_S1x128x128_3_0_0, p⟩ : View.Piece (Elt Ideal) S4x128x128 .f32),
      ⟨Rect.unit ![2, 0, 0] ![1, 128, 128] inb_S4x128x128_S1x128x128_2_0_0, q⟩, ⟨Rect.unit ![1, 0, 0] ![1, 128, 128] inb_S4x128x128_S1x128x128_1_0_0, r⟩,
      ⟨Rect.unit ![0, 0, 0] ![1, 128, 128] inb_S4x128x128_S1x128x128_0_0_0, u⟩], j ∈ P.1.set := by
  have h0 : (j 0).val < 4 := (j 0).isLt
  have h1 : (j 1).val < 128 := (j 1).isLt
  have h2 : (j 2).val < 128 := (j 2).isLt
  simp only [List.mem_cons, List.not_mem_nil, or_false, exists_eq_or_imp, exists_eq_left, Rect.mem_set_unit, Fin.forall_fin_succ]
  simp
  omega

theorem adds5 (q : Fin 4) (pay A : FVec Ideal S1x128x128 .f32) (D : FVec Ideal S2048x128 .bf16) (off : ℕ) (inb) (inb')
    (hpay : ∀ k d, pay (ix3 0 k d) = A (ix3 0 k d) + ∑ s : Fin 2048, (D (ix2 s k) : EReal)
      * under (View.ld (iblk m c 1 t) (Rect.unit ![0, off] ![2048, 128] inb)) (View.ld (iblk m c 3 t) (Rect.unit ![0, off] ![1, 128] inb')) (ix2 s d))
    (h : off = q.val * 128) (hD : ∀ s j, D (ix2 s j) = ((dif (a0 m c) (seq t) q j s.val : ℝ) : EReal)) (B : EReal)
    (x : S1x128x128.Idx) (y : S4x128x128.Idx) (hA : A x = B)
    (y0 : (y 0).val = q.val + (x 0).val) (y1 : (y 1).val = (x 1).val) (y2 : (y 2).val = (x 2).val) :
    pay x = B + part5 m c t y := by
  have hx : x = ix3 0 (x 1) (x 2) := by
    have hx0 : (x 0).val < 1 := (x 0).isLt
    idx_ext
  have e0 : y 0 = q := Fin.ext (by have : (x 0).val < 1 := (x 0).isLt; omega)
  have key : ∀ k d : Fin 128, pay (ix3 0 k d) = A (ix3 0 k d) + ∑ s : Fin 2048,
      ((a1 m c (ix2 ⟨(seq t).val * 2048 + s.val, row_lt t s⟩ (chan q d)) : EReal) * a3 m c (ix2 0 (chan q d))) * ((dif (a0 m c) (seq t) q k s.val : ℝ) : EReal) := by
    intro k d
    rw [hpay]
    refine congrArg _ (Finset.sum_congr rfl fun s _ => ?_)
    rw [hD, under_at]
    exact (mul_comm _ _).trans (congrArg (fun a : EReal => a * _) (congrArg₂ (fun a b : EReal => a * b) (ld1 m c t q s d off inb h) (ld3 m c t q d off inb' h)))
  refine ((congrArg pay hx).trans (key (x 1) (x 2))).trans ?_
  refine congrArg₂ (fun a b : EReal => a + b) ((congrArg A hx.symm).trans hA) ?_
  rw [part5, e0, show y 1 = x 1 from Fin.ext y1, show y 2 = x 2 from Fin.ext y2]

include h0 in
theorem fresh5 (h : t.val % 2 = 0) (j) : (outsAt0 m c t.val t.isLt).2.1 j = 0 + part5 m c t j := by
  rw [outsAt0_A m c t h]; frame_out
  simp (disch := decide) only [↓ View.readCov_skip, ↓ View.readCov_fill]
  refine (canon_append_covered [_] [_, _, _, _] j (cover5 _ _ _ _ j)).trans ?_
  canon_tiles x r using cover5 _ _ _ _ j
  · refine adds5 m c t 3 _ _ _ _ _ _ (weight_of _ _ _) rfl (diff3 _ (uu m c t 3) (real0 m c h0 t 3 _ _ rfl)) _ x j (by pointwise [k0_pay2]) r0 r1 r2
  · refine adds5 m c t 2 _ _ _ _ _ _ (weight_of _ _ _) rfl (diff2 _ (uu m c t 2) (real0 m c h0 t 2 _ _ rfl)) _ x j (by pointwise [k0_pay2]) r0 r1 r2
  · refine adds5 m c t 1 _ _ _ _ _ _ (weight_of _ _ _) rfl (diff1 _ (uu m c t 1) (real0 m c h0 t 1 _ _ rfl)) _ x j (by pointwise [k0_pay2]) r0 r1 r2
  · refine adds5 m c t 0 _ _ _ _ _ _ (weight_of _ _ _) rfl (diff0 _ (uu m c t 0) (real0 m c h0 t 0 _ _ rfl)) _ x j (by pointwise [k0_pay2]) (r0.trans (zero_add _).symm) r1 r2

include h0 in
theorem step5 (h : ¬ t.val % 2 = 0) (j) : (outsAt0 m c t.val t.isLt).2.1 j
     = (outsAt0 m c (t.val - 1) (by have := t.isLt; omega)).2.1 j + part5 m c t j := by
  rw [outsAt0_B m c t h]; frame_out
  canon_tiles x r using cover5 _ _ _ _ j
  · refine adds5 m c t 3 _ _ _ _ _ _ (weight_of _ _ _) rfl (diff3 _ (uu m c t 3) (real0 m c h0 t 3 _ _ rfl)) _ x j ?_ r0 r1 r2
    exact congrArg (outsAt0 m c (t.val - 1) _).2.1 (by idx_ext)
  · refine adds5 m c t 2 _ _ _ _ _ _ (weight_of _ _ _) rfl (diff2 _ (uu m c t 2) (real0 m c h0 t 2 _ _ rfl)) _ x j ?_ r0 r1 r2
    exact congrArg (outsAt0 m c (t.val - 1) _).2.1 (by idx_ext)
  · refine adds5 m c t 1 _ _ _ _ _ _ (weight_of _ _ _) rfl (diff1 _ (uu m c t 1) (real0 m c h0 t 1 _ _ rfl)) _ x j ?_ r0 r1 r2
    exact congrArg (outsAt0 m c (t.val - 1) _).2.1 (by idx_ext)
  · refine adds5 m c t 0 _ _ _ _ _ _ (weight_of _ _ _) rfl (diff0 _ (uu m c t 0) (real0 m c h0 t 0 _ _ rfl)) _ x j ?_ (r0.trans (zero_add _).symm) r1 r2
    exact congrArg (outsAt0 m c (t.val - 1) _).2.1 (by idx_ext)

include h0 in
theorem final5 : (dats m 0 c).arrAt 5 (cfgs 0).N = val_main_v155 (F := Ideal) (a0 m c) (a1 m c) (a3 m c) := by
  refine (dats m 0 c).arrAt_eq_of_after_last 5 t0_1 (by decide +kernel) _ fun j => ?_
  blk_simp
  rw [after0_5, Pipeline.eq_sum_fin_of_reset_step_apply_last (fun n h => (outsAt0 m c n h).2.1) 2 (fun _ => 0) (part5 m c)
    (fun t h j => fresh5 m c h0 t h j) (fun t h j => step5 m c h0 t h j) (le_of_eq N_0) t0_1 rfl j, zero_add]
  refine Eq.trans ?_ ((v155_at (a0 m c) (a1 m c) (a3 m c) h0 (j 0) (j 1) (j 2)).symm.trans (congrArg _ (eq_ix3 j).symm))
  rfl

/-- What one sequence adds to the scale's gradient. -/
abbrev part6 (t : Fin cfg0.N) (y : S1x512.Idx) : EReal :=
  ∑ s : Fin 2048, (∑ k : Fin 128, (a2 m c (ix4 0 (grp (y 1)) k (lane (y 1))) : EReal) * ((dif (a0 m c) (seq t) (grp (y 1)) k s.val : ℝ) : EReal))
    * a1 m c (ix2 ⟨(seq t).val * 2048 + s.val, row_lt t s⟩ (y 1))

theorem cover6 (p q r u) (j : S1x512.Idx) :
    ∃ P ∈ [(⟨Rect.unit ![0, 384] ![1, 128] inb_S1x512_S1x128_0_384, p⟩ : View.Piece (Elt Ideal) S1x512 .f32),
      ⟨Rect.unit ![0, 256] ![1, 128] inb_S1x512_S1x128_0_256, q⟩, ⟨Rect.unit ![0, 128] ![1, 128] inb_S1x512_S1x128_0_128, r⟩,
      ⟨Rect.unit ![0, 0] ![1, 128] inb_S1x512_S1x128_0_0, u⟩], j ∈ P.1.set := by
  have h0 : (j 0).val < 1 := (j 0).isLt
  have h1 : (j 1).val < 512 := (j 1).isLt
  simp only [List.mem_cons, List.not_mem_nil, or_false, exists_eq_or_imp, exists_eq_left, Rect.mem_set_unit, Fin.forall_fin_two]
  simp
  omega

theorem adds6 (q : Fin 4) (pay A : FVec Ideal S1x128 .f32) (D : FVec Ideal S2048x128 .bf16) (W : FVec Ideal S1x128x128 .bf16) (Y : FVec Ideal S2048x128 .f32)
    (hpay : ∀ d, pay (ix2 0 d) = A (ix2 0 d) + ∑ s : Fin 2048, (Y (ix2 s d) : EReal) * ∑ k : Fin 128, (D (ix2 s k) : EReal) * W (ix3 0 k d))
    (hY : ∀ s d, Y (ix2 s d) = a1 m c (ix2 ⟨(seq t).val * 2048 + s.val, row_lt t s⟩ (chan q d))) (hW : ∀ k d, W (ix3 0 k d) = a2 m c (ix4 0 q k d))
    (hD : ∀ s j, D (ix2 s j) = ((dif (a0 m c) (seq t) q j s.val : ℝ) : EReal)) (B : EReal)
    (x : S1x128.Idx) (y : S1x512.Idx) (hA : A x = B) (y0 : (y 0).val = (x 0).val) (y1 : (y 1).val = q.val * 128 + (x 1).val) :
    pay x = B + part6 m c t y := by
  have hx : x = ix2 0 (x 1) := by
    have hx0 : (x 0).val < 1 := (x 0).isLt
    idx_ext
  have key : ∀ d : Fin 128, pay (ix2 0 d) = A (ix2 0 d) + ∑ s : Fin 2048,
      (∑ k : Fin 128, (a2 m c (ix4 0 q k d) : EReal) * ((dif (a0 m c) (seq t) q k s.val : ℝ) : EReal))
        * a1 m c (ix2 ⟨(seq t).val * 2048 + s.val, row_lt t s⟩ (chan q d)) := by
    intro d
    rw [hpay]
    refine congrArg _ (Finset.sum_congr rfl fun s _ => (mul_comm _ _).trans ?_)
    rw [hY]
    refine congrArg (fun a : EReal => a * _) (Finset.sum_congr rfl fun k _ => ?_)
    rw [hD, hW, mul_comm]
  refine ((congrArg pay hx).trans (key (x 1))).trans ?_
  refine congrArg₂ (fun a b : EReal => a + b) ((congrArg A hx.symm).trans hA) ?_
  rw [part6, grp_eq q (x 1) (y 1) y1, lane_eq q (x 1) (y 1) y1, show y 1 = chan q (x 1) from Fin.ext y1]

include h0 in
theorem fresh6 (h : t.val % 2 = 0) (j) : (outsAt0 m c t.val t.isLt).2.2 j = 0 + part6 m c t j := by
  rw [outsAt0_A m c t h]; frame_out
  simp (disch := decide) only [↓ View.readCov_skip, ↓ View.readCov_fill]
  refine (canon_append_covered [_] [_, _, _, _] j (cover6 _ _ _ _ j)).trans ?_
  canon_tiles x r using cover6 _ _ _ _ j
  · refine adds6 m c t 3 _ _ _ _ _ (scale_of _ _ _ _) (fun s d => ld1 m c t 3 s d _ _ rfl) (fun k d => ld2 m c t 3 k d _ _ rfl) (diff3 _ (uu m c t 3) (real0 m c h0 t 3 _ _ rfl)) _ x j (by pointwise [k0_pay3]) r0 r1
  · refine adds6 m c t 2 _ _ _ _ _ (scale_of _ _ _ _) (fun s d => ld1 m c t 2 s d _ _ rfl) (fun k d => ld2 m c t 2 k d _ _ rfl) (diff2 _ (uu m c t 2) (real0 m c h0 t 2 _ _ rfl)) _ x j (by pointwise [k0_pay3]) r0 r1
  · refine adds6 m c t 1 _ _ _ _ _ (scale_of _ _ _ _) (fun s d => ld1 m c t 1 s d _ _ rfl) (fun k d => ld2 m c t 1 k d _ _ rfl) (diff1 _ (uu m c t 1) (real0 m c h0 t 1 _ _ rfl)) _ x j (by pointwise [k0_pay3]) r0 r1
  · refine adds6 m c t 0 _ _ _ _ _ (scale_of _ _ _ _) (fun s d => ld1 m c t 0 s d _ _ rfl) (fun k d => ld2 m c t 0 k d _ _ rfl) (diff0 _ (uu m c t 0) (real0 m c h0 t 0 _ _ rfl)) _ x j (by pointwise [k0_pay3]) r0 (r1.trans (zero_add _).symm)

include h0 in
theorem step6 (h : ¬ t.val % 2 = 0) (j) : (outsAt0 m c t.val t.isLt).2.2 j
     = (outsAt0 m c (t.val - 1) (by have := t.isLt; omega)).2.2 j + part6 m c t j := by
  rw [outsAt0_B m c t h]; frame_out
  canon_tiles x r using cover6 _ _ _ _ j
  · refine adds6 m c t 3 _ _ _ _ _ (scale_of _ _ _ _) (fun s d => ld1 m c t 3 s d _ _ rfl) (fun k d => ld2 m c t 3 k d _ _ rfl) (diff3 _ (uu m c t 3) (real0 m c h0 t 3 _ _ rfl)) _ x j ?_ r0 r1
    exact congrArg (outsAt0 m c (t.val - 1) _).2.2 (by idx_ext)
  · refine adds6 m c t 2 _ _ _ _ _ (scale_of _ _ _ _) (fun s d => ld1 m c t 2 s d _ _ rfl) (fun k d => ld2 m c t 2 k d _ _ rfl) (diff2 _ (uu m c t 2) (real0 m c h0 t 2 _ _ rfl)) _ x j ?_ r0 r1
    exact congrArg (outsAt0 m c (t.val - 1) _).2.2 (by idx_ext)
  · refine adds6 m c t 1 _ _ _ _ _ (scale_of _ _ _ _) (fun s d => ld1 m c t 1 s d _ _ rfl) (fun k d => ld2 m c t 1 k d _ _ rfl) (diff1 _ (uu m c t 1) (real0 m c h0 t 1 _ _ rfl)) _ x j ?_ r0 r1
    exact congrArg (outsAt0 m c (t.val - 1) _).2.2 (by idx_ext)
  · refine adds6 m c t 0 _ _ _ _ _ (scale_of _ _ _ _) (fun s d => ld1 m c t 0 s d _ _ rfl) (fun k d => ld2 m c t 0 k d _ _ rfl) (diff0 _ (uu m c t 0) (real0 m c h0 t 0 _ _ rfl)) _ x j ?_ r0 (r1.trans (zero_add _).symm)
    exact congrArg (outsAt0 m c (t.val - 1) _).2.2 (by idx_ext)

include h0 in
theorem final6 : (dats m 0 c).arrAt 6 (cfgs 0).N = val_main_v151 (F := Ideal) (a0 m c) (a1 m c) (a2 m c) := by
  refine (dats m 0 c).arrAt_eq_of_after_last 6 t0_1 (by decide +kernel) _ fun j => ?_
  blk_simp
  rw [after0_6, Pipeline.eq_sum_fin_of_reset_step_apply_last (fun n h => (outsAt0 m c n h).2.2) 2 (fun _ => 0) (part6 m c)
    (fun t h j => fresh6 m c h0 t h j) (fun t h j => step6 m c h0 t h j) (le_of_eq N_0) t0_1 rfl j, zero_add]
  have hj : j = ix2 0 (chan (grp (j 1)) (lane (j 1))) := by
    have hj0 : (j 0).val < 1 := (j 0).isLt
    rw [← chan_of (j 1)]
    idx_ext
  refine Eq.trans ?_ ((v151_at (a0 m c) (a1 m c) (a2 m c) h0 (grp (j 1)) (lane (j 1))).symm.trans (congrArg _ hj.symm))
  rw [← chan_of (j 1)]
  rfl

end finite

end Cert.KernelPoolIdeal.Hand
-- ==== Proof.PoolPair.lean ====
/-
  The feed-forward's backward call: its value claim.
-/
module

public import proofs.«01_k».proof.Defs
public import proofs.«01_k».proof.Proof.Gen.KernelPoolIdeal
public import proofs.«01_k».proof.Proof.Gen.ReferencePoolIdeal
public import proofs.«01_k».proof.Proof.Gen.ReferencePoolIdeal.Run
public import proofs.«01_k».proof.Proof.PoolSums
public import Idealize.ShloMosaic.Lib.Quiescent
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Pairs

open Cert.KernelPoolIdeal.Hand (Fin')

/-- The precondition's shape relations. -/
theorem finite_pool : Cert.Pre_finite_pool.Facts := ⟨by decide, by decide, by decide⟩

/-- An array whose magnitudes compare below infinity is an array of real numbers. -/
theorem real_of_below {s : Shape} (x : FVec Ideal s .f32) (h : ∀ i, FloatOps.cmpf .olt (FloatOps.hostAbsf (x i)) (FloatOps.ofBits (F := Ideal) .f32 0x7F800000#32) = 1#1) : Fin' x := by
  intro i
  have hi := h i
  rw [← Ideal.xori_weird_eq_hostAbsf_olt_inf] at hi
  by_cases hw : (x i : EReal) = ⊤ ∨ (x i : EReal) = ⊥
  · exact absurd hi (by
      show IntOp.xori (BitVec.ofBool (decide ((x i : EReal) = ⊤ ∨ (x i : EReal) = ⊥))) 1#1 ≠ 1#1
      simp [hw, IntOp.xori])
  · push Not at hw
    exact EReal.coe_toReal hw.1 hw.2

open Cert.ReferencePoolIdeal in
/-- The reference's run with its three results named by the stages that compute them. -/
theorem run_poolR (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v154) = Read.val_main_v154 (F := Ideal)
        (m (c.tc.loc main_arg1)) (m (c.tc.loc main_arg2)) (m (c.tc.loc main_arg3))
      ∧ r.2.mem ((c.tc : Thread nD τ).loc main_v155) = Read.val_main_v155 (F := Ideal)
        (m (c.tc.loc main_arg0)) (m (c.tc.loc main_arg1)) (m (c.tc.loc main_arg3))
      ∧ r.2.mem ((c.tc : Thread nD τ).loc main_v151) = Read.val_main_v151 (F := Ideal)
        (m (c.tc.loc main_arg0)) (m (c.tc.loc main_arg1)) (m (c.tc.loc main_arg2)) :=
  (θ_run _ _ _).mono (fun _ h c => ⟨(h c).1.trans (Read.val_main_v154_eq _),
    (h c).2.1.trans (Read.val_main_v155_eq _),
    (h c).2.2.1.trans (Read.val_main_v151_eq _)⟩) (Value.run m g)

theorem pair_pool : Cert.algebraic_KernelPoolIdeal_ReferencePoolIdeal_pre_finite_pool (hPre_finite_pool := finite_pool) := by
  pair_intro
  · run_from Cert.KernelPoolIdeal.Value.run_blocks m g
  · have f0 (c) := real_of_below _ (congrFun (hpre c).1)
    have f1 (c) := real_of_below _ (congrFun (hpre c).2.1)
    have f2 (c) := real_of_below _ (congrFun (hpre c).2.2.1)
    have f3 (c) := real_of_below _ (congrFun (hpre c).2.2.2)
    run_from Cert.Pairs.run_poolR m' g' & Cert.ReferencePoolIdeal.Value.run m' g'
    · exact (Cert.KernelPoolIdeal.Hand.final4 m c (f1 c) (f2 c) (f3 c)).symm
    · exact (Cert.KernelPoolIdeal.Hand.final5 m c (f0 c)).symm
    · exact (Cert.KernelPoolIdeal.Hand.final6 m c (f0 c)).symm

end Cert.Pairs
-- ==== Proof.MlpBase.lean ====
/-
  The feed-forward's backward call: the saved activation and the feed-forward's output, as a point of its
  grid has them.
-/
module

public import proofs.«01_k».proof.Proof.Gen.KernelMlpIdeal.Value
public import proofs.«01_k».proof.Proof.Gen.ReferenceMlpIdeal.Read
public import proofs.«01_k».proof.Proof.Rms
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMlpIdeal.Hand

open Cert.KernelMlpIdeal Cert.KernelMlpIdeal.Gen
open Cert.ReferenceMlpIdeal.Read

variable (m : (ℓ : Loc nD τ sig) → Buf (Elt Ideal) ℓ)

/-- Argument arrays at their literal types. -/
abbrev a0 (c : Dev nD) : FVec Ideal S4096x1024 .f32 := m ((c.tc : Thread nD τ).loc main_arg0)
abbrev a1 (c : Dev nD) : FVec Ideal S4096x1024 .f32 := m ((c.tc : Thread nD τ).loc main_arg1)
abbrev a2 (c : Dev nD) : FVec Ideal S1x1024 .f32 := m ((c.tc : Thread nD τ).loc main_arg2)
abbrev a3 (c : Dev nD) : FVec Ideal S1x1024x4096 .f32 := m ((c.tc : Thread nD τ).loc main_arg3)
abbrev a4 (c : Dev nD) : FVec Ideal S1x4096x1024 .f32 := m ((c.tc : Thread nD τ).loc main_arg4)
abbrev a5 (c : Dev nD) : FVec Ideal S1x1024 .f32 := m ((c.tc : Thread nD τ).loc main_arg5)

theorem idx : ∀ t : Fin cfg0.N, win0_0.index t = ![t.val, 0] ∧ win0_1.index t = ![t.val, 0] ∧ win0_2.index t = ![t.val, 0]
    ∧ win0_3.index t = ![0, 0, 0] ∧ win0_4.index t = ![0, 0, 0] ∧ win0_5.index t = ![0, 0] ∧ win0_6.index t = ![0, 0]
    ∧ win0_7.index t = ![t.val, 0] ∧ win0_8.index t = ![t.val, 0] ∧ win0_9.index t = ![t.val, 0] ∧ win0_10.index t = ![0, 0]
    ∧ win0_11.index t = ![0, 0] ∧ win0_12.index t = ![0, 0] :=
  (by decide +kernel : ∀ t : Fin grid0.N, _)

/-- A sum over 4096 lanes by its eight chunks of 512. -/
theorem sum8 (f : Fin 4096 → EReal) : ∑ k, f k
    = (∑ k : Fin 512, f ⟨k.val, by omega⟩)
      + (∑ k : Fin 512, f ⟨512 + k.val, by omega⟩)
      + (∑ k : Fin 512, f ⟨1024 + k.val, by omega⟩)
      + (∑ k : Fin 512, f ⟨1536 + k.val, by omega⟩)
      + (∑ k : Fin 512, f ⟨2048 + k.val, by omega⟩)
      + (∑ k : Fin 512, f ⟨2560 + k.val, by omega⟩)
      + (∑ k : Fin 512, f ⟨3072 + k.val, by omega⟩)
      + (∑ k : Fin 512, f ⟨3584 + k.val, by omega⟩) := by
  rw [← Fin.sum_mul_add_fin 8 512 f, Fin.sum_univ_eight]
  simp

/-- The saved activation is the squared rectifier of the rows. -/
theorem act_at (c : Dev nD) (i) : (V m c main_v19) i
    = val_main_v23 (F := Ideal) (a0 m c) (a2 m c) (a3 m c) i := by
  unfold V
  entry_read
  pointwise [val_main_v23, val_main_v19, val_main_v18, val_main_v17, val_main_v16, val_main_v15, val_main_v14, val_main_v13, val_main_v12, val_main_v0, val_main_v1, val_main_v2, val_main_v3, val_main_v4, val_main_v5, val_main_v6, val_main_v7, val_main_v8, val_main_cst, val_main_cst_0, val_main_cst_1, val_main_call0_v0, val_main_call0_cst]

theorem blk1 (c : Dev nD) (t : Fin cfg0.N) : iblk m c 1 t
    = fun y : S256x4096.Idx => val_main_v23 (F := Ideal) (a0 m c) (a2 m c) (a3 m c)
        (ix2 (((cfg0.win 0).blk t).view.emb (ix2 (y 0) 0) 0) (y 1)) := by
  funext y
  refine (act_at m c _).trans (congrArg _ ?_)
  blk_ext [idx t]

/-- The first weight's block is the weight by chunks of columns. -/
theorem blk3 (c : Dev nD) (t : Fin cfg0.N) : iblk m c 3 t
    = fun y : S8x1024x512.Idx => val_main_v17 (F := Ideal) (a3 m c)
        (ix2 (y 1) ⟨(y 0).val * 512 + (y 2).val, by have := (y 0).isLt; have := (y 2).isLt; simp at *; omega⟩) := by
  funext y
  idx_vars y
  blk_simp [iblk, V, idx t]
  entry_read
  pointwise [val_main_v17]
  blk_ext [idx t]

/-- The second weight's block is the weight by chunks of rows. -/
theorem blk4 (c : Dev nD) (t : Fin cfg0.N) : iblk m c 4 t
    = fun y : S8x512x1024.Idx => val_main_v26 (F := Ideal) (a4 m c)
        (ix2 ⟨(y 0).val * 512 + (y 1).val, by have := (y 0).isLt; have := (y 1).isLt; simp at *; omega⟩ (y 2)) := by
  funext y
  idx_vars y
  blk_simp [iblk, V, idx t]
  entry_read
  pointwise [val_main_v26]
  blk_ext [idx t]

/-- The feed-forward's output, as a point computes it. -/
abbrev ffK (c : Dev nD) (t : Fin cfg0.N) : FVec Ideal S256x1024 .f32 := k0_pay5 (k0_pay4
      (View.ld (iblk m c 1 t) (Rect.unit ![0, 0] ![256, 512] inb_S256x4096_S256x512_0_0)) (View.ld (iblk m c 4 t) (Rect.unit ![0, 0, 0] ![1, 512, 1024] inb_S8x512x1024_S1x512x1024_0_0_0))
      (View.ld (iblk m c 1 t) (Rect.unit ![0, 512] ![256, 512] inb_S256x4096_S256x512_0_512)) (View.ld (iblk m c 4 t) (Rect.unit ![1, 0, 0] ![1, 512, 1024] inb_S8x512x1024_S1x512x1024_1_0_0))
      (View.ld (iblk m c 1 t) (Rect.unit ![0, 1024] ![256, 512] inb_S256x4096_S256x512_0_1024)) (View.ld (iblk m c 4 t) (Rect.unit ![2, 0, 0] ![1, 512, 1024] inb_S8x512x1024_S1x512x1024_2_0_0))
      (View.ld (iblk m c 1 t) (Rect.unit ![0, 1536] ![256, 512] inb_S256x4096_S256x512_0_1536)) (View.ld (iblk m c 4 t) (Rect.unit ![3, 0, 0] ![1, 512, 1024] inb_S8x512x1024_S1x512x1024_3_0_0)))
    (View.ld (iblk m c 1 t) (Rect.unit ![0, 2048] ![256, 512] inb_S256x4096_S256x512_0_2048)) (View.ld (iblk m c 4 t) (Rect.unit ![4, 0, 0] ![1, 512, 1024] inb_S8x512x1024_S1x512x1024_4_0_0))
    (View.ld (iblk m c 1 t) (Rect.unit ![0, 2560] ![256, 512] inb_S256x4096_S256x512_0_2560)) (View.ld (iblk m c 4 t) (Rect.unit ![5, 0, 0] ![1, 512, 1024] inb_S8x512x1024_S1x512x1024_5_0_0))
    (View.ld (iblk m c 1 t) (Rect.unit ![0, 3072] ![256, 512] inb_S256x4096_S256x512_0_3072)) (View.ld (iblk m c 4 t) (Rect.unit ![6, 0, 0] ![1, 512, 1024] inb_S8x512x1024_S1x512x1024_6_0_0))
    (View.ld (iblk m c 1 t) (Rect.unit ![0, 3584] ![256, 512] inb_S256x4096_S256x512_0_3584)) (View.ld (iblk m c 4 t) (Rect.unit ![7, 0, 0] ![1, 512, 1024] inb_S8x512x1024_S1x512x1024_7_0_0))

theorem ff_at (c : Dev nD) (t : Fin cfg0.N) (y : S256x1024.Idx) :
    ffK m c t y = val_main_v27 (F := Ideal) (a0 m c) (a2 m c) (a3 m c) (a4 m c) (((cfg0.win 0).blk t).view.emb y) := by
  unfold ffK
  rw [blk1, blk4]
  pointwise [k0_pay5, k0_pay4, val_main_v27, sum8]
  blk_point [idx t]

end Cert.KernelMlpIdeal.Hand
-- ==== Proof.MlpRows.lean ====
/-
  The feed-forward's backward call: what a point of its grid computes from the cotangent, each value the reference's at
  the rows of the point's block.
-/
module

public import proofs.«01_k».proof.Proof.MlpBase

@[expose] public section

set_option maxRecDepth 16384

noncomputable section

open Idealize.ShloMosaic Idealize.ShloMosaic.TcCoe Idealize.SL.Sem
open Idealize.ShloMosaic.Pipeline (Dat)

namespace Cert.KernelMlpIdeal.Hand

open Cert.KernelMlpIdeal Cert.KernelMlpIdeal.Gen
open Cert.ReferenceMlpIdeal.Read

variable (m : (ℓ : Loc nD τ sig) → Buf (Elt Ideal) ℓ)

/-- The reciprocal root mean square of the output's rows. -/
abbrev rK (c : Dev nD) (t : Fin cfg0.N) : FVec Ideal S256x1 .f32 := k0_pay6 (k0_pay4
      (View.ld (iblk m c 1 t) (Rect.unit ![0, 0] ![256, 512] inb_S256x4096_S256x512_0_0)) (View.ld (iblk m c 4 t) (Rect.unit ![0, 0, 0] ![1, 512, 1024] inb_S8x512x1024_S1x512x1024_0_0_0))
      (View.ld (iblk m c 1 t) (Rect.unit ![0, 512] ![256, 512] inb_S256x4096_S256x512_0_512)) (View.ld (iblk m c 4 t) (Rect.unit ![1, 0, 0] ![1, 512, 1024] inb_S8x512x1024_S1x512x1024_1_0_0))
      (View.ld (iblk m c 1 t) (Rect.unit ![0, 1024] ![256, 512] inb_S256x4096_S256x512_0_1024)) (View.ld (iblk m c 4 t) (Rect.unit ![2, 0, 0] ![1, 512, 1024] inb_S8x512x1024_S1x512x1024_2_0_0))
      (View.ld (iblk m c 1 t) (Rect.unit ![0, 1536] ![256, 512] inb_S256x4096_S256x512_0_1536)) (View.ld (iblk m c 4 t) (Rect.unit ![3, 0, 0] ![1, 512, 1024] inb_S8x512x1024_S1x512x1024_3_0_0)))
    (View.ld (iblk m c 1 t) (Rect.unit ![0, 2048] ![256, 512] inb_S256x4096_S256x512_0_2048)) (View.ld (iblk m c 4 t) (Rect.unit ![4, 0, 0] ![1, 512, 1024] inb_S8x512x1024_S1x512x1024_4_0_0))
    (View.ld (iblk m c 1 t) (Rect.unit ![0, 2560] ![256, 512] inb_S256x4096_S256x512_0_2560)) (View.ld (iblk m c 4 t) (Rect.unit ![5, 0, 0] ![1, 512, 1024] inb_S8x512x1024_S1x512x1024_5_0_0))
    (View.ld (iblk m c 1 t) (Rect.unit ![0, 3072] ![256, 512] inb_S256x4096_S256x512_0_3072)) (View.ld (iblk m c 4 t) (Rect.unit ![6, 0, 0] ![1, 512, 1024] inb_S8x512x1024_S1x512x1024_6_0_0))
    (View.ld (iblk m c 1 t) (Rect.unit ![0, 3584] ![256, 512] inb_S256x4096_S256x512_0_3584)) (View.ld (iblk m c 4 t) (Rect.unit ![7, 0, 0] ![1, 512, 1024] inb_S8x512x1024_S1x512x1024_7_0_0))

/-- The same along the rows. -/
abbrev rbK (c : Dev nD) (t : Fin cfg0.N) : FVec Ideal S256x1024 .f32 := k0_pay7 (k0_pay4
      (View.ld (iblk m c 1 t) (Rect.unit ![0, 0] ![256, 512] inb_S256x4096_S256x512_0_0)) (View.ld (iblk m c 4 t) (Rect.unit ![0, 0, 0] ![1, 512, 1024] inb_S8x512x1024_S1x512x1024_0_0_0))
      (View.ld (iblk m c 1 t) (Rect.unit ![0, 512] ![256, 512] inb_S256x4096_S256x512_0_512)) (View.ld (iblk m c 4 t) (Rect.unit ![1, 0, 0] ![1, 512, 1024] inb_S8x512x1024_S1x512x1024_1_0_0))
      (View.ld (iblk m c 1 t) (Rect.unit ![0, 1024] ![256, 512] inb_S256x4096_S256x512_0_1024)) (View.ld (iblk m c 4 t) (Rect.unit ![2, 0, 0] ![1, 512, 1024] inb_S8x512x1024_S1x512x1024_2_0_0))
      (View.ld (iblk m c 1 t) (Rect.unit ![0, 1536] ![256, 512] inb_S256x4096_S256x512_0_1536)) (View.ld (iblk m c 4 t) (Rect.unit ![3, 0, 0] ![1, 512, 1024] inb_S8x512x1024_S1x512x1024_3_0_0)))
    (View.ld (iblk m c 1 t) (Rect.unit ![0, 2048] ![256, 512] inb_S256x4096_S256x512_0_2048)) (View.ld (iblk m c 4 t) (Rect.unit ![4, 0, 0] ![1, 512, 1024] inb_S8x512x1024_S1x512x1024_4_0_0))
    (View.ld (iblk m c 1 t) (Rect.unit ![0, 2560] ![256, 512] inb_S256x4096_S256x512_0_2560)) (View.ld (iblk m c 4 t) (Rect.unit ![5, 0, 0] ![1, 512, 1024] inb_S8x512x1024_S1x512x1024_5_0_0))
    (View.ld (iblk m c 1 t) (Rect.unit ![0, 3072] ![256, 512] inb_S256x4096_S256x512_0_3072)) (View.ld (iblk m c 4 t) (Rect.unit ![6, 0, 0] ![1, 512, 1024] inb_S8x512x1024_S1x512x1024_6_0_0))
    (View.ld (iblk m c 1 t) (Rect.unit ![0, 3584] ![256, 512] inb_S256x4096_S256x512_0_3584)) (View.ld (iblk m c 4 t) (Rect.unit ![7, 0, 0] ![1, 512, 1024] inb_S8x512x1024_S1x512x1024_7_0_0))

/-- The factor of the loss's gradient. -/
theorem scale (e : EReal) : e * Ideal.ofBits .f32 0x3A800000#32
    = Ideal.div (Ideal.ofBits .f32 0x3F000000#32) Rms.c1024 * (Ideal.ofBits .f32 0x40000000#32 * e) := by
  have h1 : Ideal.ofBits .f32 0x3A800000#32 = ((1024⁻¹ : ℝ) : EReal) := by
    simp [Ideal.ofBits, Ideal.ieee, -EReal.coe_mul]; norm_num
  have h2 : Ideal.ofBits .f32 0x3F000000#32 = ((2⁻¹ : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  rw [h1, h2, h3, Rms.div_1024, ← mul_assoc, mul_comm]
  congr 1
  norm_cast
  norm_num

theorem dy_at (c : Dev nD) (t : Fin cfg0.N) (y : S256x1024.Idx) :
    k0_pay10 (ffK m c t) (iblk m c 0 t) (rbK m c t) (iblk m c 6 t) (iblk m c 2 t) y
      = val_main_v60 (F := Ideal) (a0 m c) (a1 m c) (a2 m c) (a3 m c) (a4 m c) (a5 m c) (((cfg0.win 0).blk t).view.emb y) := by
  pointwise [k0_pay10, k0_pay8, k0_pay7, k0_pay6, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  simp only [ff_at, Fin.sum_univ_one, scale]
  blk_point [iblk, V, idx t]

/-- The cotangent of the feed-forward's output, as a point computes it. -/
abbrev dffK (c : Dev nD) (t : Fin cfg0.N) : FVec Ideal S256x1024 .bf16 :=
  k0_pay13 (ffK m c t) (iblk m c 0 t) (rK m c t) (rbK m c t) (iblk m c 6 t) (iblk m c 2 t) (iblk m c 6 t)

theorem dff_at (c : Dev nD) (t : Fin cfg0.N) (y : S256x1024.Idx) :
    dffK m c t y = val_main_v80 (F := Ideal) (a0 m c) (a1 m c) (a2 m c) (a3 m c) (a4 m c) (a5 m c) (((cfg0.win 0).blk t).view.emb y) := by
  idx_vars y
  pointwise [dffK, k0_pay13, k0_pay11, k0_pay6, val_main_v28, val_main_v29, val_main_v30, val_main_v31, val_main_v32, val_main_v33, val_main_v34, val_main_v35, val_main_v36, val_main_v37, val_main_v38, val_main_v39, val_main_v40, val_main_v41, val_main_v42, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  simp only [dy_at, ff_at, Fin.sum_univ_one]
  generalize val_main_v27 (F := Ideal) (a0 m c) (a2 m c) (a3 m c) (a4 m c) = ff
  generalize val_main_v60 (F := Ideal) (a0 m c) (a1 m c) (a2 m c) (a3 m c) (a4 m c) (a5 m c) = dy
  refine ((zero_add _).symm.trans (Rms.grad (n := 1024) (fun k => ff (((cfg0.win 0).blk t).view.emb (ix2 y0 k)))
    (fun k => dy (((cfg0.win 0).blk t).view.emb (ix2 y0 k)) * (iblk m c 6 t : FVec Ideal S1x1024 .f32) (ix2 0 k)) 0 y1)).trans ?_
  rw [zero_add]
  unfold Rms.rinv Rms.ms
  blk_point [iblk, V, idx t]
  congr 1 <;> blk_ext [iblk, V, idx t]

end Cert.KernelMlpIdeal.Hand
-- ==== Proof.MlpChunks.lean ====
/-
  The feed-forward's backward call: the cotangent of the activations, chunk by chunk, and of the normed rows.
-/
module

public import proofs.«01_k».proof.Proof.MlpRows

@[expose] public section

set_option maxRecDepth 16384

noncomputable section

open Idealize.ShloMosaic Idealize.ShloMosaic.TcCoe Idealize.SL.Sem
open Idealize.ShloMosaic.Pipeline (Dat)

namespace Cert.KernelMlpIdeal.Hand

open Cert.KernelMlpIdeal Cert.KernelMlpIdeal.Gen
open Cert.ReferenceMlpIdeal.Read

variable (m : (ℓ : Loc nD τ sig) → Buf (Elt Ideal) ℓ)

/-- Twice the root of the squared rectifier is its derivative, against any cotangent. -/
theorem relu_back (w a : EReal) : w * (Ideal.ofBits .f32 0x40000000#32 * Ideal.sqrt (max a 0 * max a 0))
    = if 0 < a then w * (Ideal.ofBits .f32 0x40000000#32 * max a 0) else 0 := by
  split_ifs with h
  · rw [max_eq_left h.le]
    induction a with
    | bot => simp at h
    | top => rw [EReal.top_mul_top]; rfl
    | coe r =>
      have hr : (0 : ℝ) < r := by exact_mod_cast h
      have hs : Ideal.sqrt ((r : EReal) * r) = r := by
        rw [← EReal.coe_mul]
        change (if r * r < 0 then ⊥ else ((Real.sqrt (r * r) : ℝ) : EReal)) = _
        rw [if_neg (not_lt.2 (mul_self_nonneg r)), Real.sqrt_mul_self hr.le]
      rw [hs]
  · rw [max_eq_right (not_lt.1 h)]
    have : Ideal.sqrt (0 * 0) = 0 := by
      rw [mul_zero]; change (if (0 : ℝ) < 0 then ⊥ else ((Real.sqrt 0 : ℝ) : EReal)) = 0; simp
    rw [this, mul_zero, mul_zero]

theorem ld1 (c : Dev nD) (t : Fin cfg0.N) (o : ℕ) (ho : o ≤ 3584)
    (h1 : ∀ a, (![0, o] : Fin 2 → Nat) a + (![256, 512] : Fin 2 → Nat) a ≤ S256x4096.size a) (y : S256x512.Idx) :
    View.ld (iblk m c 1 t) (Rect.unit ![0, o] ![256, 512] h1) y = val_main_v23 (F := Ideal) (a0 m c) (a2 m c) (a3 m c)
        (ix2 (((cfg0.win 0).blk t).view.emb (ix2 (y 0) 0) 0) ⟨o + (y 1).val, by have : (y 1).val < 512 := (y 1).isLt; omega⟩) := by
  rw [blk1]
  generalize val_main_v23 (F := Ideal) (a0 m c) (a2 m c) (a3 m c) = A
  idx_vars y
  pointwise
  blk_ext [idx t]

theorem ld4 (c : Dev nD) (t : Fin cfg0.N) (j : ℕ) (hj : j < 8)
    (h4 : ∀ a, (![j, 0, 0] : Fin 3 → Nat) a + (![1, 512, 1024] : Fin 3 → Nat) a ≤ S8x512x1024.size a) (y : S1x512x1024.Idx) :
    View.ld (iblk m c 4 t) (Rect.unit ![j, 0, 0] ![1, 512, 1024] h4) y = val_main_v26 (F := Ideal) (a4 m c)
        (ix2 ⟨512 * j + (y 1).val, by have : (y 1).val < 512 := (y 1).isLt; omega⟩ (y 2)) := by
  rw [blk4]
  generalize val_main_v26 (F := Ideal) (a4 m c) = A
  idx_vars y
  pointwise
  blk_ext [idx t]

/-- A chunk of the activations' cotangent for any operands. -/
theorem pay14_at (d : FVec Ideal S256x1024 .bf16) (a : FVec Ideal S256x512 .bf16) (w : FVec Ideal S1x512x1024 .bf16) (y : S256x512.Idx) :
    k0_pay14 d a w y = (∑ k : Fin 1024, d (ix2 (y 0) k) * w (ix3 0 (y 1) k)) * (Ideal.ofBits .f32 0x40000000#32 * Ideal.sqrt (a (ix2 (y 0) (y 1)))) := by
  pointwise [k0_pay14]

theorem da_ref (c : Dev nD) (i : S4096x4096.Idx) : val_main_v85 (F := Ideal) (a0 m c) (a1 m c) (a2 m c) (a3 m c) (a4 m c) (a5 m c) i
    = (∑ k : Fin 1024, val_main_v80 (F := Ideal) (a0 m c) (a1 m c) (a2 m c) (a3 m c) (a4 m c) (a5 m c) (ix2 (i 0) k) * val_main_v26 (F := Ideal) (a4 m c) (ix2 (i 1) k))
      * (Ideal.ofBits .f32 0x40000000#32 * Ideal.sqrt (val_main_v23 (F := Ideal) (a0 m c) (a2 m c) (a3 m c) i)) := by
  pointwise [val_main_v85, val_main_v84, val_main_v83, val_main_v82, val_main_v25, val_main_v24, val_main_v23, val_main_v22, val_main_v21, val_main_v20, val_main_v19, val_main_call0_v0, val_main_call0_cst, val_main_cst_3, val_main_cst_4, val_main_cst_5, val_main_cst_20, val_main_cst_21, val_main_cst_22, val_main_cst_23, val_main_cst_24, val_main_cst_25, val_main_cst_26, val_main_cst_27, val_main_cst_28, val_main_cst_29]
  rw [relu_back]

/-- Every chunk of the activations' cotangent, at its columns `o …`. -/
theorem da_at (c : Dev nD) (t : Fin cfg0.N) (j o : ℕ) (ho : o = 512 * j) (hj : j < 8)
    (h1 : ∀ a, (![0, o] : Fin 2 → Nat) a + (![256, 512] : Fin 2 → Nat) a ≤ S256x4096.size a)
    (h4 : ∀ a, (![j, 0, 0] : Fin 3 → Nat) a + (![1, 512, 1024] : Fin 3 → Nat) a ≤ S8x512x1024.size a) (y : S256x512.Idx) :
    k0_pay14 (dffK m c t) (View.ld (iblk m c 1 t) (Rect.unit ![0, o] ![256, 512] h1))
        (View.ld (iblk m c 4 t) (Rect.unit ![j, 0, 0] ![1, 512, 1024] h4)) y
      = val_main_v85 (F := Ideal) (a0 m c) (a1 m c) (a2 m c) (a3 m c) (a4 m c) (a5 m c) (ix2 (((cfg0.win 0).blk t).view.emb (ix2 (y 0) 0) 0)
          ⟨o + (y 1).val, by have : (y 1).val < 512 := (y 1).isLt; omega⟩) := by
  subst ho
  rw [pay14_at, da_ref]
  refine congrArg₂ _ (Finset.sum_congr rfl fun k _ => congrArg₂ _ ?_ ?_) (congrArg _ (congrArg _ ?_))
  · refine (dff_at m c t _).trans (congrArg _ ?_)
    blk_ext [idx t]
  · exact ld4 m c t j hj h4 _
  · exact ld1 m c t _ (by omega) h1 _

theorem chunk_eqs : @k0_pay16 Ideal _ = k0_pay14 ∧ @k0_pay17 Ideal _ = k0_pay14 ∧ @k0_pay19 Ideal _ = k0_pay14
    ∧ @k0_pay20 Ideal _ = k0_pay14 ∧ @k0_pay22 Ideal _ = k0_pay14 ∧ @k0_pay23 Ideal _ = k0_pay14 ∧ @k0_pay25 Ideal _ = k0_pay14 :=
  ⟨rfl, rfl, rfl, rfl, rfl, rfl, rfl⟩

/-- The cotangent of the normed rows, its first seven chunks. -/
abbrev dh7K (c : Dev nD) (t : Fin cfg0.N) : FVec Ideal S256x1024 .f32 :=
  k0_pay24 (dffK m c t) (k0_pay21 (dffK m c t) (k0_pay18 (dffK m c t) (k0_pay15 (dffK m c t) (View.ld (iblk m c 1 t) (Rect.unit ![0, 0] ![256, 512] inb_S256x4096_S256x512_0_0)) (View.ld (iblk m c 4 t) (Rect.unit ![0, 0, 0] ![1, 512, 1024] inb_S8x512x1024_S1x512x1024_0_0_0)) (View.ld (iblk m c 3 t) (Rect.unit ![0, 0, 0] ![1, 1024, 512] inb_S8x1024x512_S1x1024x512_0_0_0)))
      (k0_pay16 (dffK m c t) (View.ld (iblk m c 1 t) (Rect.unit ![0, 512] ![256, 512] inb_S256x4096_S256x512_0_512)) (View.ld (iblk m c 4 t) (Rect.unit ![1, 0, 0] ![1, 512, 1024] inb_S8x512x1024_S1x512x1024_1_0_0))) (View.ld (iblk m c 3 t) (Rect.unit ![1, 0, 0] ![1, 1024, 512] inb_S8x1024x512_S1x1024x512_1_0_0))
      (View.ld (iblk m c 1 t) (Rect.unit ![0, 1024] ![256, 512] inb_S256x4096_S256x512_0_1024)) (View.ld (iblk m c 4 t) (Rect.unit ![2, 0, 0] ![1, 512, 1024] inb_S8x512x1024_S1x512x1024_2_0_0)) (View.ld (iblk m c 3 t) (Rect.unit ![2, 0, 0] ![1, 1024, 512] inb_S8x1024x512_S1x1024x512_2_0_0)))
      (k0_pay19 (dffK m c t) (View.ld (iblk m c 1 t) (Rect.unit ![0, 1536] ![256, 512] inb_S256x4096_S256x512_0_1536)) (View.ld (iblk m c 4 t) (Rect.unit ![3, 0, 0] ![1, 512, 1024] inb_S8x512x1024_S1x512x1024_3_0_0))) (View.ld (iblk m c 3 t) (Rect.unit ![3, 0, 0] ![1, 1024, 512] inb_S8x1024x512_S1x1024x512_3_0_0))
      (View.ld (iblk m c 1 t) (Rect.unit ![0, 2048] ![256, 512] inb_S256x4096_S256x512_0_2048)) (View.ld (iblk m c 4 t) (Rect.unit ![4, 0, 0] ![1, 512, 1024] inb_S8x512x1024_S1x512x1024_4_0_0)) (View.ld (iblk m c 3 t) (Rect.unit ![4, 0, 0] ![1, 1024, 512] inb_S8x1024x512_S1x1024x512_4_0_0)))
      (k0_pay22 (dffK m c t) (View.ld (iblk m c 1 t) (Rect.unit ![0, 2560] ![256, 512] inb_S256x4096_S256x512_0_2560)) (View.ld (iblk m c 4 t) (Rect.unit ![5, 0, 0] ![1, 512, 1024] inb_S8x512x1024_S1x512x1024_5_0_0))) (View.ld (iblk m c 3 t) (Rect.unit ![5, 0, 0] ![1, 1024, 512] inb_S8x1024x512_S1x1024x512_5_0_0))
      (View.ld (iblk m c 1 t) (Rect.unit ![0, 3072] ![256, 512] inb_S256x4096_S256x512_0_3072)) (View.ld (iblk m c 4 t) (Rect.unit ![6, 0, 0] ![1, 512, 1024] inb_S8x512x1024_S1x512x1024_6_0_0)) (View.ld (iblk m c 3 t) (Rect.unit ![6, 0, 0] ![1, 1024, 512] inb_S8x1024x512_S1x1024x512_6_0_0))

/-- All eight. -/
abbrev dhK (c : Dev nD) (t : Fin cfg0.N) : FVec Ideal S256x1024 .f32 :=
  k0_pay26 (dh7K m c t)
    (k0_pay25 (dffK m c t) (View.ld (iblk m c 1 t) (Rect.unit ![0, 3584] ![256, 512] inb_S256x4096_S256x512_0_3584)) (View.ld (iblk m c 4 t) (Rect.unit ![7, 0, 0] ![1, 512, 1024] inb_S8x512x1024_S1x512x1024_7_0_0)))
    (View.ld (iblk m c 3 t) (Rect.unit ![7, 0, 0] ![1, 1024, 512] inb_S8x1024x512_S1x1024x512_7_0_0))

theorem dh_at (c : Dev nD) (t : Fin cfg0.N) (y : S256x1024.Idx) :
    dhK m c t y = val_main_v86 (F := Ideal) (a0 m c) (a1 m c) (a2 m c) (a3 m c) (a4 m c) (a5 m c) (((cfg0.win 0).blk t).view.emb y) := by
  obtain ⟨e1, e2, e3, e4, e5, e6, e7⟩ := chunk_eqs
  unfold dhK dh7K
  rw [blk3]
  pointwise [k0_pay26, k0_pay24, k0_pay21, k0_pay18, k0_pay15, val_main_v86, sum8]
  simp only [e1, e2, e3, e4, e5, e6, e7, da_at m c t 0 0 rfl (by decide), da_at m c t 1 512 rfl (by decide), da_at m c t 2 1024 rfl (by decide), da_at m c t 3 1536 rfl (by decide), da_at m c t 4 2048 rfl (by decide), da_at m c t 5 2560 rfl (by decide), da_at m c t 6 3072 rfl (by decide), da_at m c t 7 3584 rfl (by decide)]
  blk_point [idx t]

end Cert.KernelMlpIdeal.Hand
-- ==== Proof.MlpValue.lean ====
/-
  The feed-forward's backward call: what its grid leaves in the three result arrays that hold a row block a point.
-/
module

public import proofs.«01_k».proof.Proof.MlpChunks

@[expose] public section

set_option maxRecDepth 16384

noncomputable section

open Idealize.ShloMosaic Idealize.ShloMosaic.TcCoe Idealize.SL.Sem
open Idealize.ShloMosaic.Pipeline (Dat)

namespace Cert.KernelMlpIdeal.Hand

open Cert.KernelMlpIdeal Cert.KernelMlpIdeal.Gen
open Cert.ReferenceMlpIdeal.Read

variable (m : (ℓ : Loc nD τ sig) → Buf (Elt Ideal) ℓ)

theorem final8 (c : Dev nD) : (dats m 0 c).arrAt 8 (cfgs 0).N = val_main_v126 (F := Ideal) (a0 m c) (a1 m c) (a2 m c) (a3 m c) (a4 m c) (a5 m c) := by
  refine (dats m 0 c).arrAt_eq_of_covers 8 _ (by decide +kernel) fun t _ y => ?_
  blk_simp
  rw [after0_8]
  by_cases h : t.val % 16 = 0
  · rw [outsAt0_A m c t h]; frame_out; exact dff_at m c t y
  · rw [outsAt0_B m c t h]; frame_out; exact dff_at m c t y

/-- The loss's gradient, as a point computes it. -/
abbrev dyK (c : Dev nD) (t : Fin cfg0.N) : FVec Ideal S256x1024 .f32 :=
  k0_pay10 (ffK m c t) (iblk m c 0 t) (rbK m c t) (iblk m c 6 t) (iblk m c 2 t)

theorem point9 (c : Dev nD) (t : Fin cfg0.N) (y : S256x1024.Idx) :
    k0_pay30 (iblk m c 0 t) (dyK m c t) (dh7K m c t)
    (k0_pay25 (dffK m c t) (View.ld (iblk m c 1 t) (Rect.unit ![0, 3584] ![256, 512] inb_S256x4096_S256x512_0_3584)) (View.ld (iblk m c 4 t) (Rect.unit ![7, 0, 0] ![1, 512, 1024] inb_S8x512x1024_S1x512x1024_7_0_0))) (View.ld (iblk m c 3 t) (Rect.unit ![7, 0, 0] ![1, 1024, 512] inb_S8x1024x512_S1x1024x512_7_0_0)) (iblk m c 5 t) y
      = val_main_v127 (F := Ideal) (a0 m c) (a1 m c) (a2 m c) (a3 m c) (a4 m c) (a5 m c) (((cfg0.win 0).blk t).view.emb y) := by
  idx_vars y
  have hd := dh_at m c t
  have hy := dy_at m c t
  unfold dhK at hd
  pointwise [k0_pay30, k0_pay28, k0_pay27, val_main_v127, val_main_v0, val_main_v1, val_main_v2, val_main_v3, val_main_v4, val_main_v5, val_main_v6, val_main_v7, val_main_v8, val_main_v9, val_main_v10, val_main_v11, val_main_v12, val_main_v13, val_main_v14, val_main_v15, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_cst, val_main_cst_0, val_main_cst_1, val_main_cst_2, val_main_cst_20, val_main_cst_21, val_main_cst_22, val_main_cst_23, val_main_cst_24, val_main_cst_25, val_main_cst_26, val_main_cst_27, val_main_cst_28, val_main_cst_29, val_main_cst_30, val_main_cst_31, val_main_cst_32]
  simp only [hd, hy, Fin.sum_univ_one]
  generalize val_main_v86 (F := Ideal) (a0 m c) (a1 m c) (a2 m c) (a3 m c) (a4 m c) (a5 m c) = dh
  generalize val_main_v60 (F := Ideal) (a0 m c) (a1 m c) (a2 m c) (a3 m c) (a4 m c) (a5 m c) = dy
  simp only [← add_assoc]
  refine (Rms.grad (n := 1024) (fun k => (iblk m c 0 t : FVec Ideal S256x1024 .f32) (ix2 y0 k))
    (fun k => dh (((cfg0.win 0).blk t).view.emb (ix2 y0 k)) * (iblk m c 5 t : FVec Ideal S1x1024 .f32) (ix2 0 k)) _ y1).trans ?_
  unfold Rms.rinv Rms.ms
  blk_point [iblk, V, idx t]
  congr 1 <;> blk_ext [iblk, V, idx t]

theorem final9 (c : Dev nD) : (dats m 0 c).arrAt 9 (cfgs 0).N = val_main_v127 (F := Ideal) (a0 m c) (a1 m c) (a2 m c) (a3 m c) (a4 m c) (a5 m c) := by
  refine (dats m 0 c).arrAt_eq_of_covers 9 _ (by decide +kernel) fun t _ y => ?_
  blk_simp
  rw [after0_9]
  by_cases h : t.val % 16 = 0
  · rw [outsAt0_A m c t h]; frame_out; exact point9 m c t y
  · rw [outsAt0_B m c t h]; frame_out; exact point9 m c t y

theorem cover7 (p0 p1 p2 p3 p4 p5 p6 p7) (j : S256x4096.Idx) :
    ∃ P ∈ [(⟨Rect.unit ![0, 3584] ![256, 512] inb_S256x4096_S256x512_0_3584, p7⟩ : View.Piece (Elt Ideal) S256x4096 .bf16),
      ⟨Rect.unit ![0, 3072] ![256, 512] inb_S256x4096_S256x512_0_3072, p6⟩,
      ⟨Rect.unit ![0, 2560] ![256, 512] inb_S256x4096_S256x512_0_2560, p5⟩,
      ⟨Rect.unit ![0, 2048] ![256, 512] inb_S256x4096_S256x512_0_2048, p4⟩,
      ⟨Rect.unit ![0, 1536] ![256, 512] inb_S256x4096_S256x512_0_1536, p3⟩,
      ⟨Rect.unit ![0, 1024] ![256, 512] inb_S256x4096_S256x512_0_1024, p2⟩,
      ⟨Rect.unit ![0, 512] ![256, 512] inb_S256x4096_S256x512_0_512, p1⟩,
      ⟨Rect.unit ![0, 0] ![256, 512] inb_S256x4096_S256x512_0_0, p0⟩], j ∈ P.1.set := by
  have h0 : (j 0).val < 256 := (j 0).isLt
  have h1 : (j 1).val < 4096 := (j 1).isLt
  simp only [List.mem_cons, List.not_mem_nil, or_false, exists_eq_or_imp, exists_eq_left, Rect.mem_set_unit, Fin.forall_fin_two]
  simp
  omega

theorem da_emb (c : Dev nD) (t : Fin cfg0.N) (j o : ℕ) (ho : o = 512 * j) (hj : j < 8)
    (h1 : ∀ a, (![0, o] : Fin 2 → Nat) a + (![256, 512] : Fin 2 → Nat) a ≤ S256x4096.size a)
    (h4 : ∀ a, (![j, 0, 0] : Fin 3 → Nat) a + (![1, 512, 1024] : Fin 3 → Nat) a ≤ S8x512x1024.size a)
    (x : S256x512.Idx) (y : S256x4096.Idx) (q0 : (y 0).val = (x 0).val) (q1 : (y 1).val = o + (x 1).val) :
    k0_pay14 (dffK m c t) (View.ld (iblk m c 1 t) (Rect.unit ![0, o] ![256, 512] h1))
        (View.ld (iblk m c 4 t) (Rect.unit ![j, 0, 0] ![1, 512, 1024] h4)) x
      = val_main_v125 (F := Ideal) (a0 m c) (a1 m c) (a2 m c) (a3 m c) (a4 m c) (a5 m c) (((cfg0.win 7).blk t).view.emb y) := by
  refine (da_at m c t j o ho hj h1 h4 x).trans (congrArg (val_main_v85 (F := Ideal) (a0 m c) (a1 m c) (a2 m c) (a3 m c) (a4 m c) (a5 m c)) ?_)
  blk_ext [idx t]

theorem final7 (c : Dev nD) : (dats m 0 c).arrAt 7 (cfgs 0).N = val_main_v125 (F := Ideal) (a0 m c) (a1 m c) (a2 m c) (a3 m c) (a4 m c) (a5 m c) := by
  refine (dats m 0 c).arrAt_eq_of_covers 7 _ (by decide +kernel) fun t _ y => ?_
  blk_simp
  rw [after0_7]
  by_cases h : t.val % 16 = 0
  case' pos => rw [outsAt0_A m c t h]
  case' neg => rw [outsAt0_B m c t h]
  all_goals
    frame_out
    canon_tiles x q using cover7 _ _ _ _ _ _ _ _ y
    · exact da_emb m c t 7 3584 rfl (by decide) _ _ x y q0 q1
    · exact da_emb m c t 6 3072 rfl (by decide) _ _ x y q0 q1
    · exact da_emb m c t 5 2560 rfl (by decide) _ _ x y q0 q1
    · exact da_emb m c t 4 2048 rfl (by decide) _ _ x y q0 q1
    · exact da_emb m c t 3 1536 rfl (by decide) _ _ x y q0 q1
    · exact da_emb m c t 2 1024 rfl (by decide) _ _ x y q0 q1
    · exact da_emb m c t 1 512 rfl (by decide) _ _ x y q0 q1
    · exact da_emb m c t 0 0 rfl (by decide) _ _ x y q0 (q1.trans (zero_add _).symm)

end Cert.KernelMlpIdeal.Hand
-- ==== Proof.MlpSums.lean ====
/-
  The feed-forward's backward call: the three results that its grid sums up over the row blocks.
-/
module

public import proofs.«01_k».proof.Proof.MlpValue

@[expose] public section

set_option maxRecDepth 16384

noncomputable section

open Idealize.ShloMosaic Idealize.ShloMosaic.TcCoe Idealize.SL.Sem
open Idealize.ShloMosaic.Pipeline (Dat)

namespace Cert.KernelMlpIdeal.Hand

open Cert.KernelMlpIdeal Cert.KernelMlpIdeal.Gen
open Cert.ReferenceMlpIdeal.Read

variable (m : (ℓ : Loc nD τ sig) → Buf (Elt Ideal) ℓ)

/-- One point's share of result 10: the column sums of its 256 rows. -/
abbrev part10 (c : Dev nD) (t : Fin cfg0.N) (j : S1x1024.Idx) : EReal :=
  ∑ k : Fin 256, val_main_v87 (F := Ideal) (a0 m c) (a1 m c) (a2 m c) (a3 m c) (a4 m c) (a5 m c) (((cfg0.win 0).blk t).view.emb (ix2 k (j 1)))

theorem step10 (c : Dev nD) (t : Fin cfg0.N) (acc : FVec Ideal S1x1024 .f32) (j : S1x1024.Idx) :
    k0_pay29 (iblk m c 0 t) (dh7K m c t)
    (k0_pay25 (dffK m c t) (View.ld (iblk m c 1 t) (Rect.unit ![0, 3584] ![256, 512] inb_S256x4096_S256x512_0_3584)) (View.ld (iblk m c 4 t) (Rect.unit ![7, 0, 0] ![1, 512, 1024] inb_S8x512x1024_S1x512x1024_7_0_0))) (View.ld (iblk m c 3 t) (Rect.unit ![7, 0, 0] ![1, 1024, 512] inb_S8x1024x512_S1x1024x512_7_0_0)) acc j = acc j + part10 m c t j := by
  have hd := dh_at m c t
  unfold dhK at hd
  pointwise [part10, k0_pay29, k0_pay28, k0_pay27, val_main_v87, val_main_v0, val_main_v1, val_main_v2, val_main_v3, val_main_v4, val_main_v5, val_main_v6, val_main_v7, val_main_v8, val_main_v9, val_main_v10, val_main_v11, val_main_v12, val_main_v13, val_main_cst, val_main_cst_0, val_main_cst_1, val_main_cst_2]
  simp only [hd, Fin.sum_univ_one]
  blk_point [iblk, V, idx t]

theorem ref10 (c : Dev nD) (j : S1x1024.Idx) : val_main_v107 (F := Ideal) (a0 m c) (a1 m c) (a2 m c) (a3 m c) (a4 m c) (a5 m c) j
    = ∑ _a : Fin 1, ∑ l : Fin 4096, val_main_v87 (F := Ideal) (a0 m c) (a1 m c) (a2 m c) (a3 m c) (a4 m c) (a5 m c) (ix2 l (j 1)) := by
  pointwise [val_main_v107, val_main_v92, val_main_v89, val_main_v88, val_main_cst_20, val_main_cst_21, val_main_cst_22, val_main_cst_23, val_main_cst_24, val_main_cst_25, val_main_cst_26, val_main_cst_27, val_main_cst_28]

theorem final10 (c : Dev nD) : (dats m 0 c).arrAt 10 (cfgs 0).N = val_main_v107 (F := Ideal) (a0 m c) (a1 m c) (a2 m c) (a3 m c) (a4 m c) (a5 m c) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0) (part10 m c)
    (fun t h j => by rw [outsAt0_A m c t h]; frame_out; refine (step10 m c t _ j).trans ?_; pointwise [k0_pay1, k0_pay2, k0_pay3])
    (fun t h j => by rw [outsAt0_B m c t h]; frame_out; exact step10 m c t _ j) (le_of_eq N_0) t0_15 rfl j, zero_add, ref10]
  refine Fin.sum_points_lanes_congr 16 fun t k ha hl => ?_
  blk_point [idx t]

/-- One point's share of result 11: the column sums of its 256 rows. -/
abbrev part11 (c : Dev nD) (t : Fin cfg0.N) (j : S1x1024.Idx) : EReal :=
  ∑ k : Fin 256, val_main_v61 (F := Ideal) (a0 m c) (a1 m c) (a2 m c) (a3 m c) (a4 m c) (a5 m c) (((cfg0.win 0).blk t).view.emb (ix2 k (j 1)))

theorem step11 (c : Dev nD) (t : Fin cfg0.N) (acc : FVec Ideal S1x1024 .f32) (j : S1x1024.Idx) :
    k0_pay12 (ffK m c t) (iblk m c 0 t) (rK m c t) (rbK m c t) (iblk m c 6 t) (iblk m c 2 t) acc j = acc j + part11 m c t j := by
  have hy := dy_at m c t
  pointwise [part11, k0_pay12, k0_pay11, k0_pay6, val_main_v61, val_main_v28, val_main_v29, val_main_v30, val_main_v31, val_main_v32, val_main_v33, val_main_v34, val_main_v35, val_main_v36, val_main_v37, val_main_v38, val_main_v39, val_main_v40, val_main_v41, val_main_cst_5, val_main_cst_6, val_main_cst_7, val_main_cst_8, val_main_cst_9, val_main_cst_10, val_main_cst_11]
  simp only [hy, ff_at, Fin.sum_univ_one]
  blk_point [iblk, V, idx t]

theorem ref11 (c : Dev nD) (j : S1x1024.Idx) : val_main_v81 (F := Ideal) (a0 m c) (a1 m c) (a2 m c) (a3 m c) (a4 m c) (a5 m c) j
    = ∑ _a : Fin 1, ∑ l : Fin 4096, val_main_v61 (F := Ideal) (a0 m c) (a1 m c) (a2 m c) (a3 m c) (a4 m c) (a5 m c) (ix2 l (j 1)) := by
  pointwise [val_main_v81, val_main_v66, val_main_v63, val_main_v62, val_main_cst_14, val_main_cst_15, val_main_cst_16, val_main_cst_17, val_main_cst_18, val_main_cst_19, val_main_cst_20, val_main_cst_21]

theorem final11 (c : Dev nD) : (dats m 0 c).arrAt 11 (cfgs 0).N = val_main_v81 (F := Ideal) (a0 m c) (a1 m c) (a2 m c) (a3 m c) (a4 m c) (a5 m c) := by
  refine (dats m 0 c).arrAt_eq_of_after_last 11 t0_15 (by decide +kernel) _ fun j => ?_
  blk_simp
  rw [after0_11, Pipeline.eq_sum_fin_of_reset_step_apply_last (fun n h => (outsAt0 m c n h).2.2.2.2.1) 16 (fun _ => 0) (part11 m c)
    (fun t h j => by rw [outsAt0_A m c t h]; frame_out; refine (step11 m c t _ j).trans ?_; pointwise [k0_pay1, k0_pay2, k0_pay3])
    (fun t h j => by rw [outsAt0_B m c t h]; frame_out; exact step11 m c t _ j) (le_of_eq N_0) t0_15 rfl j, zero_add, ref11]
  refine Fin.sum_points_lanes_congr 16 fun t k ha hl => ?_
  blk_point [idx t]

/-- One point's share of result 12: the column sums of its 256 rows. -/
abbrev part12 (c : Dev nD) (t : Fin cfg0.N) (j : S1x1024.Idx) : EReal :=
  ∑ k : Fin 256, val_main_v124 (F := Ideal) (a0 m c) (a1 m c) (a2 m c) (a3 m c) (a4 m c) (a5 m c) (((cfg0.win 0).blk t).view.emb (ix2 k (j 1)))

theorem step12 (c : Dev nD) (t : Fin cfg0.N) (acc : FVec Ideal S1x1024 .f32) (j : S1x1024.Idx) :
    k0_pay9 (ffK m c t) (iblk m c 0 t) (rbK m c t) (iblk m c 6 t) (iblk m c 2 t) acc j = acc j + part12 m c t j := by
  pointwise [part12, k0_pay9, k0_pay8, k0_pay7, k0_pay6, val_main_v108, val_main_v109, val_main_v110, val_main_v111, val_main_v112, val_main_v113, val_main_v114, val_main_v115, val_main_v116, val_main_v117, val_main_v118, val_main_v119, val_main_v120, val_main_v121, val_main_v122, val_main_v123, val_main_v124, val_main_cst_29, val_main_cst_30, val_main_cst_31]
  simp only [ff_at, Fin.sum_univ_one]
  blk_point [iblk, V, idx t]

theorem ref12 (c : Dev nD) (j : S1x1024.Idx) : val_main_v129 (F := Ideal) (a0 m c) (a1 m c) (a2 m c) (a3 m c) (a4 m c) (a5 m c) j
    = ∑ _a : Fin 1, ∑ l : Fin 4096, val_main_v124 (F := Ideal) (a0 m c) (a1 m c) (a2 m c) (a3 m c) (a4 m c) (a5 m c) (ix2 l (j 1)) := by
  pointwise [val_main_v129, val_main_v128, val_main_cst_32]
  exact (Fin.sum_univ_one (M := EReal) fun _ => ∑ l : Fin 4096, val_main_v124 (F := Ideal) (a0 m c) (a1 m c) (a2 m c) (a3 m c) (a4 m c) (a5 m c) (ix2 l (j 1))).symm

theorem final12 (c : Dev nD) : (dats m 0 c).arrAt 12 (cfgs 0).N = val_main_v129 (F := Ideal) (a0 m c) (a1 m c) (a2 m c) (a3 m c) (a4 m c) (a5 m c) := by
  refine (dats m 0 c).arrAt_eq_of_after_last 12 t0_15 (by decide +kernel) _ fun j => ?_
  blk_simp
  rw [after0_12, Pipeline.eq_sum_fin_of_reset_step_apply_last (fun n h => (outsAt0 m c n h).2.2.2.2.2) 16 (fun _ => 0) (part12 m c)
    (fun t h j => by rw [outsAt0_A m c t h]; frame_out; refine (step12 m c t _ j).trans ?_; pointwise [k0_pay1, k0_pay2, k0_pay3])
    (fun t h j => by rw [outsAt0_B m c t h]; frame_out; exact step12 m c t _ j) (le_of_eq N_0) t0_15 rfl j, zero_add, ref12]
  refine Fin.sum_points_lanes_congr 16 fun t k ha hl => ?_
  blk_point [idx t]

end Cert.KernelMlpIdeal.Hand
-- ==== Proof.MlpPair.lean ====
/-
  The feed-forward's backward call: its value claim.
-/
module

public import proofs.«01_k».proof.Defs
public import proofs.«01_k».proof.Proof.Gen.KernelMlpIdeal
public import proofs.«01_k».proof.Proof.Gen.ReferenceMlpIdeal
public import proofs.«01_k».proof.Proof.Gen.ReferenceMlpIdeal.Run
public import proofs.«01_k».proof.Proof.MlpSums
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Pairs

open Cert.ReferenceMlpIdeal in
/-- The reference's run with its six results named by the stages that compute them. -/
theorem run_mlpR (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v125) = Read.val_main_v125 (F := Ideal)
        (m (c.tc.loc main_arg0)) (m (c.tc.loc main_arg1)) (m (c.tc.loc main_arg2)) (m (c.tc.loc main_arg3)) (m (c.tc.loc main_arg4)) (m (c.tc.loc main_arg5))
      ∧ r.2.mem ((c.tc : Thread nD τ).loc main_v126) = Read.val_main_v126 (F := Ideal)
        (m (c.tc.loc main_arg0)) (m (c.tc.loc main_arg1)) (m (c.tc.loc main_arg2)) (m (c.tc.loc main_arg3)) (m (c.tc.loc main_arg4)) (m (c.tc.loc main_arg5))
      ∧ r.2.mem ((c.tc : Thread nD τ).loc main_v127) = Read.val_main_v127 (F := Ideal)
        (m (c.tc.loc main_arg0)) (m (c.tc.loc main_arg1)) (m (c.tc.loc main_arg2)) (m (c.tc.loc main_arg3)) (m (c.tc.loc main_arg4)) (m (c.tc.loc main_arg5))
      ∧ r.2.mem ((c.tc : Thread nD τ).loc main_v107) = Read.val_main_v107 (F := Ideal)
        (m (c.tc.loc main_arg0)) (m (c.tc.loc main_arg1)) (m (c.tc.loc main_arg2)) (m (c.tc.loc main_arg3)) (m (c.tc.loc main_arg4)) (m (c.tc.loc main_arg5))
      ∧ r.2.mem ((c.tc : Thread nD τ).loc main_v81) = Read.val_main_v81 (F := Ideal)
        (m (c.tc.loc main_arg0)) (m (c.tc.loc main_arg1)) (m (c.tc.loc main_arg2)) (m (c.tc.loc main_arg3)) (m (c.tc.loc main_arg4)) (m (c.tc.loc main_arg5))
      ∧ r.2.mem ((c.tc : Thread nD τ).loc main_v129) = Read.val_main_v129 (F := Ideal)
        (m (c.tc.loc main_arg0)) (m (c.tc.loc main_arg1)) (m (c.tc.loc main_arg2)) (m (c.tc.loc main_arg3)) (m (c.tc.loc main_arg4)) (m (c.tc.loc main_arg5)) :=
  (θ_run _ _ _).mono (fun _ h c => ⟨(h c).1.trans (Read.val_main_v125_eq _),
    (h c).2.1.trans (Read.val_main_v126_eq _),
    (h c).2.2.1.trans (Read.val_main_v127_eq _),
    (h c).2.2.2.1.trans (Read.val_main_v107_eq _),
    (h c).2.2.2.2.1.trans (Read.val_main_v81_eq _),
    (h c).2.2.2.2.2.1.trans (Read.val_main_v129_eq _)⟩) (Value.run m g)

theorem pair_mlp : Cert.algebraic_KernelMlpIdeal_ReferenceMlpIdeal := by
  pair_intro
  · run_from Cert.KernelMlpIdeal.Value.run_blocks m g
  · run_from Cert.Pairs.run_mlpR m' g' & Cert.ReferenceMlpIdeal.Value.run m' g'
    · exact (Cert.KernelMlpIdeal.Hand.final7 m c).symm
    · exact (Cert.KernelMlpIdeal.Hand.final8 m c).symm
    · exact (Cert.KernelMlpIdeal.Hand.final9 m c).symm
    · exact (Cert.KernelMlpIdeal.Hand.final10 m c).symm
    · exact (Cert.KernelMlpIdeal.Hand.final11 m c).symm
    · exact (Cert.KernelMlpIdeal.Hand.final12 m c).symm

end Cert.Pairs
-- ==== Proof.ProjValue.lean ====
/-
  The projection's forward call: the normed rows, the pooling channels, the values laid out once for every query head
  and the gates, as the grid leaves them, are what the reference writes.
-/
module

public import proofs.«01_k».proof.Proof.Gen.KernelProjIdeal.Value
public import proofs.«01_k».proof.Proof.Gen.ReferenceProjIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelProjIdeal.Hand

open Cert.KernelProjIdeal Cert.KernelProjIdeal.Gen
open Cert.ReferenceProjIdeal.Read

variable (m : (ℓ : Loc nD τ sig) → Buf (Elt Ideal) ℓ)

/-- Argument arrays at their literal types. -/
abbrev a0 (c : Dev nD) : FVec Ideal S4096x1024 .f32 := m ((c.tc : Thread nD τ).loc main_arg0)
abbrev a1 (c : Dev nD) : FVec Ideal S1x1024 .f32 := m ((c.tc : Thread nD τ).loc main_arg1)
abbrev a2 (c : Dev nD) : FVec Ideal S1x1024x3328 .f32 := m ((c.tc : Thread nD τ).loc main_arg2)
abbrev a3 (c : Dev nD) : FVec Ideal S1x3328 .f32 := m ((c.tc : Thread nD τ).loc main_arg3)

theorem idx : ∀ t : Fin cfg0.N, win0_0.index t = ![t.val, 0] ∧ win0_1.index t = ![0, 0] ∧ win0_2.index t = ![0, 0]
    ∧ win0_3.index t = ![0, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

theorem row_lt (t : Fin cfg0.N) (s : Fin 512) : t.val * 512 + s.val < 4096 := by
  have := t.isLt.trans_eq N_0
  have := s.isLt
  omega

/-- A row of a point's block, as a row of the whole array. -/
abbrev row (t : Fin cfg0.N) (s : Fin 512) : Fin 4096 := ⟨t.val * 512 + s.val, row_lt t s⟩

theorem blk0 (c : Dev nD) (t : Fin cfg0.N) : iblk m c 0 t = fun y : S512x1024.Idx => a0 m c (ix2 (row t (y 0)) (y 1)) := by
  funext y
  blk_ext [iblk, V, idx t]

theorem blk1 (c : Dev nD) (t : Fin cfg0.N) : iblk m c 1 t = a1 m c := by
  blk_ext! [iblk, V, idx t]

theorem blk2 (c : Dev nD) (t : Fin cfg0.N) : iblk m c 2 t = fun y : S3328x1024.Idx => a2 m c (ix3 0 (y 1) (y 0)) := by
  funext y
  idx_vars y
  blk_ext! [iblk, V, idx t]

theorem blk3 (c : Dev nD) (t : Fin cfg0.N) : iblk m c 3 t = a3 m c := by
  blk_ext! [iblk, V, idx t]

/-- The normed rows of a point. -/
abbrev hK (c : Dev nD) (t : Fin cfg0.N) : FVec Ideal S512x1024 .bf16 := k0_pay2 (iblk m c 0 t) (iblk m c 1 t)

theorem h_at (c : Dev nD) (t : Fin cfg0.N) (s : Fin 512) (k : Fin 1024) :
    hK m c t (ix2 s k) = val_main_v13 (F := Ideal) (a0 m c) (a1 m c) (ix2 (row t s) k) := by
  unfold hK
  rw [blk0, blk1]
  pointwise [k0_pay2, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The projected rows: a product with a slice of the weights plus the same slice of the bias. -/
theorem p_at (c : Dev nD) (r : Fin 4096) (e : Fin 3328) :
    val_main_v19 (F := Ideal) (a0 m c) (a1 m c) (a2 m c) (a3 m c) (ix2 r e)
    = (∑ k : Fin 1024, val_main_v13 (F := Ideal) (a0 m c) (a1 m c) (ix2 r k) * a2 m c (ix3 0 k e)) + a3 m c (ix2 0 e) := by
  pointwise [val_main_v19, val_main_v18, val_main_v17, val_main_v16, val_main_v15, val_main_v14]

/-- A slice of the weights and of the bias, as a point loads them. -/
theorem w_ld (c : Dev nD) (t : Fin cfg0.N) (off n : ℕ) (inb) (e : Fin n) (k : Fin 1024) (j : Fin 3328) (h : j.val = off + e.val) :
    (View.ld (iblk m c 2 t) (Rect.unit ![off, 0] ![n, 1024] inb) : FVec Ideal ⟨2, ![n, 1024]⟩ .bf16) (ix2 e k) = a2 m c (ix3 0 k j) := by
  obtain ⟨j, hj⟩ := j
  subst h
  rw [blk2]
  pointwise []

theorem b_ld (c : Dev nD) (t : Fin cfg0.N) (off n : ℕ) (inb) (e : Fin n) (j : Fin 3328) (h : j.val = off + e.val) :
    (View.ld (iblk m c 3 t) (Rect.unit ![0, off] ![1, n] inb) : FVec Ideal ⟨2, ![1, n]⟩ .f32) (ix2 0 e) = a3 m c (ix2 0 j) := by
  obtain ⟨j, hj⟩ := j
  subst h
  rw [blk3]
  pointwise []

/-- One entry of the product of a point's normed rows with a slice of the weights, plus the bias. -/
theorem proj_at (c : Dev nD) (t : Fin cfg0.N) (s : Fin 512) (j : Fin 3328) (w : Fin 1024 → EReal) (b : EReal)
    (hw : ∀ k, w k = a2 m c (ix3 0 k j)) (hb : b = a3 m c (ix2 0 j)) :
    (∑ k, hK m c t (ix2 s k) * w k) + b = val_main_v19 (F := Ideal) (a0 m c) (a1 m c) (a2 m c) (a3 m c) (ix2 (row t s) j) := by
  rw [p_at, hb]
  exact congrArg (· + _) (Finset.sum_congr rfl fun k _ => congrArg₂ (· * ·) (h_at m c t s k) (hw k))

theorem emb7 (t : Fin cfg0.N) (s : Fin 512) (k : Fin 1024) :
    ((View.whole main_v37_0).slice (win0_7.rect t)).emb (ix2 s k) = ix2 (row t s) k := by
  blk_point [idx t]

theorem emb8 (t : Fin cfg0.N) (s : Fin 512) (k : Fin 512) :
    ((View.whole main_v37_1).slice (win0_8.rect t)).emb (ix2 s k) = ix2 (row t s) k := by
  blk_point [idx t]

theorem emb11 (t : Fin cfg0.N) (s : Fin 512) (k : Fin 512) :
    ((View.whole main_v37_4).slice (win0_11.rect t)).emb (ix2 s k) = ix2 (row t s) k := by
  blk_point [idx t]

theorem emb12 (t : Fin cfg0.N) (s : Fin 512) (k : Fin 2048) :
    ((View.whole main_v37_5).slice (win0_12.rect t)).emb (ix2 s k) = ix2 (row t s) k := by
  blk_point [idx t]

theorem final7 (c : Dev nD) : (dats m 0 c).arrAt 7 (cfgs 0).N = val_main_v25 (F := Ideal) (a0 m c) (a1 m c) := by
  refine (dats m 0 c).arrAt_eq_of_covers 7 _ (by decide +kernel) fun t _ y => ?_
  blk_simp
  rw [after0_7]
  unfold_out out0_7
  frame_out
  idx_vars y
  rw [emb7]
  exact h_at m c t y0 y1

theorem u_at (c : Dev nD) (t : Fin cfg0.N) (s : Fin 512) (e : Fin 512) (w b) (j : Fin 3328)
    (hw : ∀ k, w (ix2 e k) = a2 m c (ix3 0 k j)) (hb : b (ix2 0 e) = a3 m c (ix2 0 j)) :
    k0_pay6 (F := Ideal) (iblk m c 0 t) (iblk m c 1 t) w b (ix2 s e)
    = val_main_v19 (F := Ideal) (a0 m c) (a1 m c) (a2 m c) (a3 m c) (ix2 (row t s) j) := by
  rw [← proj_at m c t s j _ _ hw hb]
  unfold k0_pay6
  pointwise []

theorem final8 (c : Dev nD) : (dats m 0 c).arrAt 8 (cfgs 0).N = val_main_v20 (F := Ideal) (a0 m c) (a1 m c) (a2 m c) (a3 m c) := by
  refine (dats m 0 c).arrAt_eq_of_covers 8 _ (by decide +kernel) fun t _ y => ?_
  blk_simp
  rw [after0_8]
  unfold_out out0_8
  frame_out
  idx_vars y
  rw [emb8]
  refine (u_at m c t y0 y1 _ _ ⟨y1.val, by omega⟩ (fun k => w_ld m c t 0 512 _ y1 k _ (zero_add _).symm)
    (b_ld m c t 0 512 _ y1 _ (zero_add _).symm)).trans ?_
  pointwise [val_main_v20]

/-- The gates: the logistic function of the last slice. -/
theorem g_at (c : Dev nD) (t : Fin cfg0.N) (s : Fin 512) (e : Fin 2048) (w b) (j : Fin 3328)
    (hw : ∀ k, w (ix2 e k) = a2 m c (ix3 0 k j)) (hb : b (ix2 0 e) = a3 m c (ix2 0 j)) (hj : j.val = 1280 + e.val) :
    k0_pay1 (F := Ideal) (k0_pay13 (hK m c t) w) (k0_pay14 b) (ix2 s e)
    = val_main_v36 (F := Ideal) (a0 m c) (a1 m c) (a2 m c) (a3 m c) (ix2 (row t s) e) := by
  have h : (∑ k, hK m c t (ix2 s k) * w (ix2 e k)) + b (ix2 0 e) = _ := proj_at m c t s j _ _ hw hb
  obtain ⟨j, hj'⟩ := j
  subst hj
  pointwise [k0_pay1, k0_pay13, k0_pay14, val_main_v36, val_main_v35, val_main_v34, val_main_v33, val_main_v32, val_main_v31, val_main_v30, val_main_v24, val_main_cst_2, val_main_cst_3]
  rw [h]
  rfl

theorem final12 (c : Dev nD) : (dats m 0 c).arrAt 12 (cfgs 0).N = val_main_v36 (F := Ideal) (a0 m c) (a1 m c) (a2 m c) (a3 m c) := by
  refine (dats m 0 c).arrAt_eq_of_covers 12 _ (by decide +kernel) fun t _ y => ?_
  blk_simp
  rw [after0_12]
  unfold_out out0_12
  frame_out
  idx_vars y
  rw [emb12]
  exact g_at m c t y0 y1 _ _ ⟨1280 + y1.val, by omega⟩ (fun k => w_ld m c t 1280 2048 _ y1 k _ rfl)
    (b_ld m c t 1280 2048 _ y1 _ rfl) rfl

end Cert.KernelProjIdeal.Hand
-- ==== Proof.ProjLanes.lean ====
/-
  The two lane arrangements of the projection's forward call, entry by entry: the rotation of a tile of two heads by
  three tables, and one key-value head laid out once for every query head that reads it.
-/
module

public import proofs.«01_k».proof.Proof.Gen.KernelProjIdeal.Skeleton
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.KernelProjIdeal.Hand

open Cert.KernelProjIdeal Cert.KernelProjIdeal.Gen

/-- Four tiles side by side, read at one lane. -/
theorem cat4_at (A B C D : FVec Ideal S512x128 .f32) (s l : Fin 512) :
    concatenate S512x512 1 [⟨S512x128, A⟩, ⟨S512x128, B⟩, ⟨S512x128, C⟩, ⟨S512x128, D⟩] concatenates_S512x128_S512x128_S512x128_S512x128_S512x512_d1 (ix2 s l)
    = if l.val / 128 = 0 then A (ix2 s ⟨l.val % 128, Nat.mod_lt _ (by decide)⟩) else if l.val / 128 = 1 then B (ix2 s ⟨l.val % 128, Nat.mod_lt _ (by decide)⟩)
      else if l.val / 128 = 2 then C (ix2 s ⟨l.val % 128, Nat.mod_lt _ (by decide)⟩) else D (ix2 s ⟨l.val % 128, Nat.mod_lt _ (by decide)⟩) := by
  pointwise []
  have hl := l.isLt
  have h0 : l.val / 128 = 0 ∨ l.val / 128 = 1 ∨ l.val / 128 = 2 ∨ l.val / 128 = 3 := by omega
  rcases h0 with h | h | h | h
  all_goals
    simp only [h]
    split_ifs <;> first | omega | (congr 2; ext; dsimp only; omega)

/-- Two heads laid side by side four times, as the kernel writes it. -/
def tile4 (X : FVec Ideal S512x128 .f32) : FVec Ideal S512x512 .f32 :=
  let R := dynamicRotate 1 64#32 none X rotates_S512x128_d1
  let low := cmpi .slt (iota .tc S512x128 32 [1] iota_S512x128_d1_w32) (broadcast S512x128 64#32)
  concatenate S512x512 1 [⟨S512x128, select low X R⟩, ⟨S512x128, select low X R⟩, ⟨S512x128, select low R X⟩, ⟨S512x128, select low R X⟩]
    concatenates_S512x128_S512x128_S512x128_S512x128_S512x512_d1

theorem pay12_eq (A : FVec Ideal S512x256 .f32) (b : Vec Ideal S1x256 .f32) :
    k0_pay12 A b = truncf .bf16 (tile4 (extractStridedSlice S512x128 ![0, 128] (k0_pay10 A b) slices_S512x256_o0_128_S512x128)) bitsLt_bf16_f32 := rfl

theorem tile4_at (X : FVec Ideal S512x128 .f32) (s l : Fin 512) :
    tile4 X (ix2 s l) = X (ix2 s ⟨l.val / 256 * 64 + l.val % 64, by omega⟩) := by
  unfold tile4
  rw [cat4_at]
  have h0 : l.val / 128 = 0 ∨ l.val / 128 = 1 ∨ l.val / 128 = 2 ∨ l.val / 128 = 3 := by omega
  rcases h0 with h | h | h | h
  all_goals
    simp only [h]
    pointwise []
    rw [WordCmp.cmpi_slt_ofNat (by omega) (by omega), WordCmp.select_ofBool]
    simp only [decide_eq_true_eq, BitVec.toNat_ofNat]
    split <;> (congr 2; ext; dsimp only; omega)

/-- A tile rotated by three tables, as the kernel writes it. -/
def rot (X c sa sb : FVec Ideal S512x128 .f32) : FVec Ideal S512x128 .f32 :=
  addf (addf (mulf X c) (mulf (dynamicRotate 1 120#32 none X rotates_S512x128_d1) sa)) (mulf (dynamicRotate 1 8#32 none X rotates_S512x128_d1) sb)

theorem rot_at (X c sa sb : FVec Ideal S512x128 .f32) (s : Fin 512) (l : Fin 128) :
    rot X c sa sb (ix2 s l) = X (ix2 s l) * c (ix2 s l) + X (ix2 s ⟨(l.val + 8) % 128, Nat.mod_lt _ (by decide)⟩) * sa (ix2 s l)
      + X (ix2 s ⟨(l.val + 120) % 128, Nat.mod_lt _ (by decide)⟩) * sb (ix2 s l) := by
  unfold rot
  pointwise []
  rw [show (⟨(l.val + 128 - 120) % 128, Nat.mod_lt _ (by decide)⟩ : Fin 128) = ⟨(l.val + 8) % 128, Nat.mod_lt _ (by decide)⟩ from Fin.ext (by dsimp only; omega),
    show (⟨(l.val + 128 - 8) % 128, Nat.mod_lt _ (by decide)⟩ : Fin 128) = ⟨(l.val + 120) % 128, Nat.mod_lt _ (by decide)⟩ from Fin.ext (by dsimp only; omega)]

theorem pay11_eq (c sa sb : FVec Ideal S512x128 .f32) (A : FVec Ideal S512x256 .f32) (b : Vec Ideal S1x256 .f32) :
    k0_pay11 c sa sb A b = truncf .bf16 (tile4 (rot (extractStridedSlice S512x128 ![0, 0] (k0_pay10 A b) slices_S512x256_o0_0_S512x128) c sa sb)) bitsLt_bf16_f32 := rfl

/-- One row of a table: sixteen lanes that turn, forty-eight that stay, the same for both heads. -/
def tbl (A B : FVec Ideal S2048x8 .f32) (Z : FVec Ideal S2048x48 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x8, A⟩, ⟨S2048x8, B⟩, ⟨S2048x48, Z⟩] concatenates_S2048x8_S2048x8_S2048x48_S2048x64_d1)
      shapeCasts_S2048x64_S1x2048x1x64)) shapeCasts_S1x2048x2x64_S2048x128

theorem tbl_at (A B : FVec Ideal S2048x8 .f32) (Z : FVec Ideal S2048x48 .f32) (r : Fin 2048) (l : Fin 128) :
    tbl A B Z (ix2 r l) = if h : l.val % 64 < 8 then A (ix2 r ⟨l.val % 64, h⟩) else if h' : l.val % 64 < 16 then B (ix2 r ⟨l.val % 64 - 8, by omega⟩)
      else Z (ix2 r ⟨l.val % 64 - 16, by omega⟩) := by
  unfold tbl
  pointwise []
  by_cases h : l.val % 64 < 8
  · rw [dif_pos h, dif_pos h]
  · rw [dif_neg h, dif_neg h]
    by_cases h' : l.val % 64 < 16
    · rw [dif_pos (by omega), dif_pos h']
    · rw [dif_neg (by omega), dif_neg h']
      congr 2

/-- Lane `l` of two heads turned by an angle: the first sixteen lanes of a head in pairs eight apart, the rest not at all. -/
def turn (C S : FVec Ideal S2048x8 .f32) (r : Fin 2048) (x : Fin 128 → EReal) (l : Fin 128) : EReal :=
  if h : l.val % 64 < 8 then x l * C (ix2 r ⟨l.val % 64, h⟩) - x ⟨l.val + 8, by omega⟩ * S (ix2 r ⟨l.val % 64, h⟩)
  else if h' : l.val % 64 < 16 then x l * C (ix2 r ⟨l.val % 64 - 8, by omega⟩) + x ⟨l.val - 8, by omega⟩ * S (ix2 r ⟨l.val % 64 - 8, by omega⟩)
  else x l

/-- A value that is given case by case, by the lane's place `d` in its head, is the turned lane. -/
theorem turn_mk (C S : FVec Ideal S2048x8 .f32) (r : Fin 2048) (x : Fin 128 → EReal) (l : Fin 128) (d : ℕ) (hd : d = l.val % 64) (v : EReal)
    (h1 : ∀ (h : d < 8) (k : Fin 128), k.val = l.val + 8 → v = x l * C (ix2 r ⟨d, h⟩) - x k * S (ix2 r ⟨d, h⟩))
    (h2 : ∀ (h : ¬ d < 8) (h' : d - 8 < 8) (k : Fin 128), k.val + 8 = l.val → v = x l * C (ix2 r ⟨d - 8, h'⟩) + x k * S (ix2 r ⟨d - 8, h'⟩))
    (h3 : ∀ (h : ¬ d < 8) (h' : ¬ d - 8 < 8), v = x l) : v = turn C S r x l := by
  subst hd
  unfold turn
  split_ifs with h h'
  · exact h1 h _ rfl
  · exact h2 h (by omega) _ (by dsimp only; omega)
  · exact h3 h (by omega)

/-- The three tables turn the lanes. -/
theorem rot_tbl_at (X c sa sb : FVec Ideal S512x128 .f32) (C S : FVec Ideal S2048x8 .f32) (s : Fin 512) (r : Fin 2048)
    (hc : ∀ l, c (ix2 s l) = tbl C C (fun _ => 1) (ix2 r l)) (ha : ∀ l, sa (ix2 s l) = tbl (fun i => -S i) (fun _ => 0) (fun _ => 0) (ix2 r l))
    (hb : ∀ l, sb (ix2 s l) = tbl (fun _ => 0) S (fun _ => 0) (ix2 r l)) (l : Fin 128) :
    rot X c sa sb (ix2 s l) = turn C S r (fun k => X (ix2 s k)) l := by
  unfold turn
  rw [rot_at, hc, ha, hb, tbl_at, tbl_at, tbl_at]
  have hl := l.isLt
  split_ifs with h h'
  · rw [mul_neg, mul_zero, add_zero, ← sub_eq_add_neg]
    congr 4
    ext; dsimp only; omega
  · rw [mul_zero, add_zero]
    congr 4
    ext; dsimp only; omega
  · rw [mul_zero, add_zero, mul_zero, add_zero, mul_one]

end Cert.KernelProjIdeal.Hand
-- ==== Proof.ProjTurn.lean ====
/-
  The reference's queries and keys, turned by their angles, and its values, entry by entry.
-/
module

public import proofs.«01_k».proof.Proof.Gen.ReferenceProjIdeal.Read
public import proofs.«01_k».proof.Proof.ProjLanes

@[expose] public section

set_option maxRecDepth 16384

noncomputable section

open Idealize.ShloMosaic Idealize.ShloMosaic.TcCoe Idealize.SL.Sem

namespace Cert.KernelProjIdeal.Hand

open Cert.KernelProjIdeal Cert.KernelProjIdeal.Gen
open Cert.ReferenceProjIdeal.Read

variable (x0 : FVec Ideal S4096x1024 .f32) (x1 : FVec Ideal S1x1024 .f32) (x2 : FVec Ideal S1x1024x3328 .f32) (x3 : FVec Ideal S1x3328 .f32)

/-- One entry of the packed projection, its column named twice. -/
theorem row19_at (r : Fin 4096) {n n' : ℕ} {hn : n < 3328} {hn' : n' < 3328} (e : n = n') :
    val_main_v19 (F := Ideal) x0 x1 x2 x3 (ix2 r ⟨n, hn⟩) = val_main_v19 (F := Ideal) x0 x1 x2 x3 (ix2 r ⟨n', hn'⟩) := by
  subst e; rfl

/-- The cosines and the sines of the angles, row by row. -/
abbrev cosT : FVec Ideal S2048x8 .f32 := val_main_v53 (F := Ideal)
abbrev sinT : FVec Ideal S2048x8 .f32 := val_main_v54 (F := Ideal)

theorem q_ref_at (r : Fin 4096) (j : Fin 512) :
    val_main_v92 (F := Ideal) x0 x1 x2 x3 (ix2 r j)
    = turn cosT sinT ⟨r.val % 2048, Nat.mod_lt _ (by decide)⟩
      (fun l => val_main_v19 (F := Ideal) x0 x1 x2 x3 (ix2 r ⟨512 + (j.val / 128 * 128 + l.val), by omega⟩)) ⟨j.val % 128, Nat.mod_lt _ (by decide)⟩
      * Scalar.ofBits (F := Ideal) .f32 0x3E000000#32 := by
  pointwise [val_main_v92, val_main_v91, val_main_v90, val_main_v89, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v21, val_main_cst_8]
  refine congrArg (· * _) ?_
  refine turn_mk _ _ _ _ _ (j.val % 64) (by dsimp only; omega) _ (fun h k hk => ?_) (fun h h' k hk => ?_) (fun h h' => ?_)
  · exact (dif_pos h).trans (congrArg₂ (· - ·) (congrArg₂ (· * ·) (row19_at x0 x1 x2 x3 r (by dsimp only; omega)) rfl)
      (congrArg₂ (· * ·) (row19_at x0 x1 x2 x3 r (by dsimp only at hk ⊢; omega)) rfl))
  · exact (dif_neg h).trans ((dif_pos h').trans (congrArg₂ (· + ·) (congrArg₂ (· * ·) (row19_at x0 x1 x2 x3 r (by dsimp only; omega)) rfl)
      (congrArg₂ (· * ·) (row19_at x0 x1 x2 x3 r (by dsimp only at hk ⊢; omega)) rfl)))
  · exact (dif_neg h).trans ((dif_neg h').trans (row19_at x0 x1 x2 x3 r (by dsimp only; omega)))

theorem k_ref_at (r : Fin 4096) (j : Fin 512) :
    val_main_v96 (F := Ideal) x0 x1 x2 x3 (ix2 r j)
    = turn cosT sinT ⟨r.val % 2048, Nat.mod_lt _ (by decide)⟩
      (fun l => val_main_v19 (F := Ideal) x0 x1 x2 x3 (ix2 r ⟨1024 + l.val, by omega⟩)) ⟨j.val / 256 * 64 + j.val % 64, by omega⟩ := by
  pointwise [val_main_v96, val_main_v95, val_main_v94, val_main_v93, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v22]
  refine turn_mk _ _ _ _ _ (j.val % 64) (by dsimp only; omega) _ (fun h k hk => ?_) (fun h h' k hk => ?_) (fun h h' => ?_)
  · exact (dif_pos h).trans (congrArg₂ (· - ·) (congrArg₂ (· * ·) (row19_at x0 x1 x2 x3 r rfl) rfl)
      (congrArg₂ (· * ·) (row19_at x0 x1 x2 x3 r (by dsimp only at hk ⊢; omega)) rfl))
  · exact (dif_neg h).trans ((dif_pos h').trans (congrArg₂ (· + ·) (congrArg₂ (· * ·) (row19_at x0 x1 x2 x3 r (by dsimp only; omega)) rfl)
      (congrArg₂ (· * ·) (row19_at x0 x1 x2 x3 r (by dsimp only at hk ⊢; omega)) rfl)))
  · exact (dif_neg h).trans ((dif_neg h').trans (row19_at x0 x1 x2 x3 r (by dsimp only; omega)))

theorem v_ref_at (r : Fin 4096) (j : Fin 512) :
    val_main_v29 (F := Ideal) x0 x1 x2 x3 (ix2 r j) = val_main_v19 (F := Ideal) x0 x1 x2 x3 (ix2 r ⟨1152 + (j.val / 256 * 64 + j.val % 64), by omega⟩) := by
  pointwise [val_main_v29, val_main_v28, val_main_v27, val_main_v26, val_main_v23]

end Cert.KernelProjIdeal.Hand
-- ==== Proof.ProjRot.lean ====
/-
  The projection's forward call: the queries and the keys turned by the positions' angles, and the keys and values laid
  out once for every query head, as the grid leaves them, are what the reference writes.
-/
module

public import proofs.«01_k».proof.Proof.ProjValue
public import proofs.«01_k».proof.Proof.ProjLanes
public import proofs.«01_k».proof.Proof.ProjTurn

@[expose] public section

set_option maxRecDepth 16384

noncomputable section

open Idealize.ShloMosaic Idealize.ShloMosaic.TcCoe Idealize.SL.Sem
open Idealize.ShloMosaic.Pipeline (Dat)

namespace Cert.KernelProjIdeal.Hand

open Cert.KernelProjIdeal Cert.KernelProjIdeal.Gen
open Cert.ReferenceProjIdeal.Read

variable (m : (ℓ : Loc nD τ sig) → Buf (Elt Ideal) ℓ)

theorem idxT : ∀ t : Fin cfg0.N, win0_4.index t = ![t.val % 4, 0] ∧ win0_5.index t = ![t.val % 4, 0] ∧ win0_6.index t = ![t.val % 4, 0] :=
  (by decide +kernel : ∀ t : Fin grid0.N, _)

/-- A row of a point's block, as a position in its sequence. -/
abbrev pos (t : Fin cfg0.N) (s : Fin 512) : Fin 2048 := ⟨t.val % 4 * 512 + s.val, by omega⟩

theorem row_pos (t : Fin cfg0.N) (s : Fin 512) : (⟨(row t s).val % 2048, Nat.mod_lt _ (by decide)⟩ : Fin 2048) = pos t s := by
  ext
  dsimp only
  omega

/-- The three tables, as the call's host lines fill them. -/
theorem tab4 (c : Dev nD) : (V m c main_v27 : FVec Ideal S2048x128 .f32)
    = tbl cosT cosT (broadcastInDim S2048x48 ![] bcast_S_S2048x48 (constant (F := Ideal) S_ .f32 0x3F800000#32 : FVec Ideal S_ .f32)) := rfl

theorem tab5 (c : Dev nD) : (V m c main_v30 : FVec Ideal S2048x128 .f32)
    = tbl (Host.negf sinT) (broadcastInDim S2048x8 ![] bcast_S_S2048x8 (constant (F := Ideal) S_ .f32 0x00000000#32 : FVec Ideal S_ .f32))
      (broadcastInDim S2048x48 ![] bcast_S_S2048x48 (constant (F := Ideal) S_ .f32 0x00000000#32 : FVec Ideal S_ .f32)) := rfl

theorem tab6 (c : Dev nD) : (V m c main_v33 : FVec Ideal S2048x128 .f32)
    = tbl (broadcastInDim S2048x8 ![] bcast_S_S2048x8 (constant (F := Ideal) S_ .f32 0x00000000#32 : FVec Ideal S_ .f32)) sinT
      (broadcastInDim S2048x48 ![] bcast_S_S2048x48 (constant (F := Ideal) S_ .f32 0x00000000#32 : FVec Ideal S_ .f32)) := rfl

theorem one48 : (broadcastInDim S2048x48 ![] bcast_S_S2048x48 (constant (F := Ideal) S_ .f32 0x3F800000#32 : FVec Ideal S_ .f32) : FVec Ideal S2048x48 .f32)
    = fun _ => 1 := by
  funext y
  pointwise []

theorem zero48 : (broadcastInDim S2048x48 ![] bcast_S_S2048x48 (constant (F := Ideal) S_ .f32 0x00000000#32 : FVec Ideal S_ .f32) : FVec Ideal S2048x48 .f32)
    = fun _ => 0 := by
  funext y
  pointwise []

theorem zero8 : (broadcastInDim S2048x8 ![] bcast_S_S2048x8 (constant (F := Ideal) S_ .f32 0x00000000#32 : FVec Ideal S_ .f32) : FVec Ideal S2048x8 .f32)
    = fun _ => 0 := by
  funext y
  pointwise []

theorem blk4 (c : Dev nD) (t : Fin cfg0.N) (s : Fin 512) (l : Fin 128) :
    (iblk m c 4 t : FVec Ideal S512x128 .f32) (ix2 s l) = (V m c main_v27 : FVec Ideal S2048x128 .f32) (ix2 (pos t s) l) := by
  blk_ext [iblk, idxT t]

theorem blk5 (c : Dev nD) (t : Fin cfg0.N) (s : Fin 512) (l : Fin 128) :
    (iblk m c 5 t : FVec Ideal S512x128 .f32) (ix2 s l) = (V m c main_v30 : FVec Ideal S2048x128 .f32) (ix2 (pos t s) l) := by
  blk_ext [iblk, idxT t]

theorem blk6 (c : Dev nD) (t : Fin cfg0.N) (s : Fin 512) (l : Fin 128) :
    (iblk m c 6 t : FVec Ideal S512x128 .f32) (ix2 s l) = (V m c main_v33 : FVec Ideal S2048x128 .f32) (ix2 (pos t s) l) := by
  blk_ext [iblk, idxT t]

theorem pay3_at (X : Vec Ideal S512x128 .f32) (y : S512x128.Idx) : k0_pay3 X y = X y := by
  idx_vars y
  pointwise [k0_pay3]

theorem pay4_at (X : Vec Ideal S512x128 .f32) (y : S512x128.Idx) : k0_pay4 X y = X y := by
  idx_vars y
  pointwise [k0_pay4]

theorem pay5_at (X : Vec Ideal S512x128 .f32) (y : S512x128.Idx) : k0_pay5 X y = X y := by
  idx_vars y
  pointwise [k0_pay5]

/-- A tile of two heads, turned by a point's tables. -/
theorem rot_blk (c : Dev nD) (t : Fin cfg0.N) (X : FVec Ideal S512x128 .f32) (s : Fin 512) (l : Fin 128) :
    rot X (k0_pay3 (iblk m c 4 t)) (k0_pay4 (iblk m c 5 t)) (k0_pay5 (iblk m c 6 t)) (ix2 s l)
    = turn cosT sinT (pos t s) (fun k => X (ix2 s k)) l := by
  refine rot_tbl_at X _ _ _ cosT sinT s (pos t s) (fun l => ?_) (fun l => ?_) (fun l => ?_) l
  · rw [pay3_at, blk4, tab4, one48]
  · rw [pay4_at, blk5, tab5, zero8, zero48]; rfl
  · rw [pay5_at, blk6, tab6, zero8, zero48]

theorem emb9 (t : Fin cfg0.N) (s : Fin 512) (k : Fin 512) :
    ((View.whole main_v37_2).slice (win0_9.rect t)).emb (ix2 s k) = ix2 (row t s) k := by
  blk_point [idx t]

theorem emb10 (t : Fin cfg0.N) (s : Fin 512) (k : Fin 512) :
    ((View.whole main_v37_3).slice (win0_10.rect t)).emb (ix2 s k) = ix2 (row t s) k := by
  blk_point [idx t]

/-- The projected keys and values. -/
theorem kv_at (c : Dev nD) (t : Fin cfg0.N) (s : Fin 512) (e : Fin 256) (w b) (j : Fin 3328)
    (hw : ∀ k, w (ix2 e k) = a2 m c (ix3 0 k j)) (hb : b (ix2 0 e) = a3 m c (ix2 0 j)) :
    k0_pay10 (F := Ideal) (k0_pay9 (hK m c t) w) b (ix2 s e)
    = val_main_v19 (F := Ideal) (a0 m c) (a1 m c) (a2 m c) (a3 m c) (ix2 (row t s) j) := by
  rw [← proj_at m c t s j _ _ hw hb]
  pointwise [k0_pay10, k0_pay9]

theorem final11 (c : Dev nD) : (dats m 0 c).arrAt 11 (cfgs 0).N = val_main_v29 (F := Ideal) (a0 m c) (a1 m c) (a2 m c) (a3 m c) := by
  refine (dats m 0 c).arrAt_eq_of_covers 11 _ (by decide +kernel) fun t _ y => ?_
  blk_simp
  rw [after0_11]
  unfold_out out0_11
  frame_out
  idx_vars y
  rw [emb11, v_ref_at, pay12_eq]
  refine (tile4_at _ y0 y1).trans ?_
  refine Eq.trans ?_ (kv_at m c t y0 ⟨128 + (y1.val / 256 * 64 + y1.val % 64), by omega⟩ (View.ld (iblk m c 2 t) r0_8) (View.ld (iblk m c 3 t) r0_9) _ (fun k => w_ld m c t 1024 256 _ _ k _ (by dsimp only; omega))
    (b_ld m c t 1024 256 _ _ _ (by dsimp only; omega)))
  pointwise []
  rfl

theorem final10 (c : Dev nD) : (dats m 0 c).arrAt 10 (cfgs 0).N = val_main_v96 (F := Ideal) (a0 m c) (a1 m c) (a2 m c) (a3 m c) := by
  refine (dats m 0 c).arrAt_eq_of_covers 10 _ (by decide +kernel) fun t _ y => ?_
  blk_simp
  rw [after0_10]
  unfold_out out0_10
  frame_out
  idx_vars y
  rw [emb10, k_ref_at, pay11_eq, row_pos]
  refine ((tile4_at _ y0 y1).trans (rot_blk m c t _ y0 _)).trans ?_
  refine congrArg (fun x => turn cosT sinT (pos t y0) x _) (funext fun k => ?_)
  refine Eq.trans ?_ (kv_at m c t y0 ⟨k.val, by omega⟩ (View.ld (iblk m c 2 t) r0_8) (View.ld (iblk m c 3 t) r0_9) _ (fun k' => w_ld m c t 1024 256 _ _ k' _ rfl)
    (b_ld m c t 1024 256 _ _ _ rfl))
  pointwise []
  rfl

/-- The queries before their scale: four tiles of two heads, each turned. -/
theorem pay8_eq (c sa sb : FVec Ideal S512x128 .f32) (A : FVec Ideal S512x512 .f32) (b : Vec Ideal S1x512 .f32) :
    k0_pay8 c sa sb A b
    = let Q := addf A (broadcastTo S512x512 b broadcasts_S1x512_S512x512)
      truncf .bf16 (mulf (concatenate S512x512 1
        [⟨S512x128, rot (extractStridedSlice S512x128 ![0, 0] Q slices_S512x512_o0_0_S512x128) c sa sb⟩,
         ⟨S512x128, rot (extractStridedSlice S512x128 ![0, 128] Q slices_S512x512_o0_128_S512x128) c sa sb⟩,
         ⟨S512x128, rot (extractStridedSlice S512x128 ![0, 256] Q slices_S512x512_o0_256_S512x128) c sa sb⟩,
         ⟨S512x128, rot (extractStridedSlice S512x128 ![0, 384] Q slices_S512x512_o0_384_S512x128) c sa sb⟩]
        concatenates_S512x128_S512x128_S512x128_S512x128_S512x512_d1)
        (broadcast S512x512 (Scalar.ofBits (F := Ideal) .f32 0x3E000000#32))) bitsLt_bf16_f32 := rfl

theorem q_at (c : Dev nD) (t : Fin cfg0.N) (s : Fin 512) (e : Fin 512) (w b) (j : Fin 3328)
    (hw : ∀ k, w (ix2 e k) = a2 m c (ix3 0 k j)) (hb : b (ix2 0 e) = a3 m c (ix2 0 j)) :
    addf (k0_pay7 (F := Ideal) (iblk m c 0 t) (iblk m c 1 t) w) (broadcastTo S512x512 b broadcasts_S1x512_S512x512) (ix2 s e)
    = val_main_v19 (F := Ideal) (a0 m c) (a1 m c) (a2 m c) (a3 m c) (ix2 (row t s) j) := by
  rw [← proj_at m c t s j _ _ hw hb]
  unfold k0_pay7
  pointwise []

/-- One of the four tiles, at one lane of the whole. -/
theorem grp (c : Dev nD) (t : Fin cfg0.N) (Q : FVec Ideal S512x512 .f32) (s l : Fin 512) (n : ℕ) (hn : l.val / 128 = n) (sl)
    (hQ : ∀ e : Fin 512, Q (ix2 s e) = val_main_v19 (F := Ideal) (a0 m c) (a1 m c) (a2 m c) (a3 m c) (ix2 (row t s) ⟨512 + e.val, by omega⟩)) :
    rot (extractStridedSlice S512x128 ![0, n * 128] Q sl) (k0_pay3 (iblk m c 4 t)) (k0_pay4 (iblk m c 5 t)) (k0_pay5 (iblk m c 6 t))
      (ix2 s ⟨l.val % 128, Nat.mod_lt _ (by decide)⟩)
    = turn cosT sinT (pos t s) (fun k => val_main_v19 (F := Ideal) (a0 m c) (a1 m c) (a2 m c) (a3 m c)
      (ix2 (row t s) ⟨512 + (l.val / 128 * 128 + k.val), by omega⟩)) ⟨l.val % 128, Nat.mod_lt _ (by decide)⟩ := by
  subst hn
  refine (rot_blk m c t _ s _).trans ?_
  refine congrArg (fun x => turn cosT sinT (pos t s) x _) (funext fun k => ?_)
  refine Eq.trans ?_ (hQ ⟨l.val / 128 * 128 + k.val, by omega⟩)
  pointwise []

theorem final9 (c : Dev nD) : (dats m 0 c).arrAt 9 (cfgs 0).N = val_main_v92 (F := Ideal) (a0 m c) (a1 m c) (a2 m c) (a3 m c) := by
  refine (dats m 0 c).arrAt_eq_of_covers 9 _ (by decide +kernel) fun t _ y => ?_
  blk_simp
  rw [after0_9]
  unfold_out out0_9
  frame_out
  idx_vars y
  rw [emb9, q_ref_at, pay8_eq, row_pos]
  refine congrArg (· * _) ((cat4_at _ _ _ _ y0 y1).trans ?_)
  have hQ : ∀ e : Fin 512, _ := fun e => q_at m c t y0 e (View.ld (iblk m c 2 t) r0_6) (View.ld (iblk m c 3 t) r0_7) ⟨512 + e.val, by omega⟩ (fun k => w_ld m c t 512 512 _ e k _ rfl)
    (b_ld m c t 512 512 _ e _ rfl)
  have h0 : y1.val / 128 = 0 ∨ y1.val / 128 = 1 ∨ y1.val / 128 = 2 ∨ y1.val / 128 = 3 := by omega
  split_ifs with h h' h''
  · exact grp m c t _ y0 y1 0 h _ hQ
  · exact grp m c t _ y0 y1 1 h' _ hQ
  · exact grp m c t _ y0 y1 2 h'' _ hQ
  · exact grp m c t _ y0 y1 3 (by omega) _ hQ

end Cert.KernelProjIdeal.Hand
-- ==== Proof.ProjPair.lean ====
/-
  The projection's forward call: its claims.
-/
module

public import proofs.«01_k».proof.Defs
public import proofs.«01_k».proof.Proof.Gen.KernelProj
public import proofs.«01_k».proof.Proof.Gen.KernelProj.Frame
public import proofs.«01_k».proof.Proof.Gen.KernelProjIdeal
public import proofs.«01_k».proof.Proof.Gen.ReferenceProjIdeal
public import proofs.«01_k».proof.Proof.Gen.ReferenceProjIdeal.Run
public import proofs.«01_k».proof.Proof.ProjRot
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Pairs

open Cert.ReferenceProjIdeal in
/-- The reference's run with its six results named by the stages that compute them. -/
theorem run_projR (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v25) = Read.val_main_v25 (F := Ideal) (m (c.tc.loc main_arg0)) (m (c.tc.loc main_arg1))
      ∧ r.2.mem ((c.tc : Thread nD τ).loc main_v20) = Read.val_main_v20 (F := Ideal) (m (c.tc.loc main_arg0)) (m (c.tc.loc main_arg1)) (m (c.tc.loc main_arg2)) (m (c.tc.loc main_arg3))
      ∧ r.2.mem ((c.tc : Thread nD τ).loc main_v92) = Read.val_main_v92 (F := Ideal) (m (c.tc.loc main_arg0)) (m (c.tc.loc main_arg1)) (m (c.tc.loc main_arg2)) (m (c.tc.loc main_arg3))
      ∧ r.2.mem ((c.tc : Thread nD τ).loc main_v96) = Read.val_main_v96 (F := Ideal) (m (c.tc.loc main_arg0)) (m (c.tc.loc main_arg1)) (m (c.tc.loc main_arg2)) (m (c.tc.loc main_arg3))
      ∧ r.2.mem ((c.tc : Thread nD τ).loc main_v29) = Read.val_main_v29 (F := Ideal) (m (c.tc.loc main_arg0)) (m (c.tc.loc main_arg1)) (m (c.tc.loc main_arg2)) (m (c.tc.loc main_arg3))
      ∧ r.2.mem ((c.tc : Thread nD τ).loc main_v36) = Read.val_main_v36 (F := Ideal) (m (c.tc.loc main_arg0)) (m (c.tc.loc main_arg1)) (m (c.tc.loc main_arg2)) (m (c.tc.loc main_arg3)) :=
  (θ_run _ _ _).mono (fun _ h c => ⟨(h c).1.trans (Read.val_main_v25_eq _ _),
    (h c).2.1.trans (Read.val_main_v20_eq _ _ _ _),
    (h c).2.2.1.trans (Read.val_main_v92_eq m c),
    (h c).2.2.2.1.trans (Read.val_main_v96_eq m c),
    (h c).2.2.2.2.1.trans (Read.val_main_v29_eq _ _ _ _),
    (h c).2.2.2.2.2.1.trans (Read.val_main_v36_eq _ _ _ _)⟩) (Value.run m g)

theorem pair_proj : Cert.algebraic_KernelProjIdeal_ReferenceProjIdeal := by
  pair_intro
  · run_from Cert.KernelProjIdeal.Value.run_blocks m g
  · run_from Cert.Pairs.run_projR m' g' & Cert.ReferenceProjIdeal.Value.run m' g'
    · exact (Cert.KernelProjIdeal.Hand.final7 m c).symm
    · exact (Cert.KernelProjIdeal.Hand.final8 m c).symm
    · exact (Cert.KernelProjIdeal.Hand.final9 m c).symm
    · exact (Cert.KernelProjIdeal.Hand.final10 m c).symm
    · exact (Cert.KernelProjIdeal.Hand.final11 m c).symm
    · exact (Cert.KernelProjIdeal.Hand.final12 m c).symm

end Cert.Pairs
-- ==== Proof.FwdSoft.lean ====
module

public import Idealize.ShloMosaic.Lib.Pipeline.ValueKit
public import Idealize.ShloMosaic.Lib.WordCmp

/-! Arithmetic of one softmax row with a sink: the value of a row as a sum over the 256 keys seen, in the form the
    kernel computes and in the form the reference does. -/

@[expose] public section

set_option maxRecDepth 16384

noncomputable section

namespace Cert.Soft

open Idealize.ShloMosaic

/-- The larger of the sink's score and every key's. -/
def top (s : Fin 256 → EReal) (z : EReal) : EReal := max (Finset.univ.fold max ⊥ s) z

/-- The row's normaliser: the exponentials of the keys' scores and of the sink's. -/
def norm (s : Fin 256 → EReal) (z : EReal) : EReal :=
  ∑ t, Ideal.exp (s t - top s z) + Ideal.exp (z - top s z)

/-- One entry of the attention's result: the values weighted by the softmax. -/
def att (s : Fin 256 → EReal) (z : EReal) (v : Fin 256 → EReal) : EReal :=
  ∑ t, Ideal.exp (s t - top s z) * Ideal.div 1 (norm s z) * v t

theorem top_le (s : Fin 256 → EReal) (z c : EReal) : top s z ≤ c ↔ (∀ t, s t ≤ c) ∧ z ≤ c := by
  simp [top, Finset.fold_max_le]

theorem top_perm (σ : Equiv.Perm (Fin 256)) (s s' : Fin 256 → EReal) (z : EReal) (h : ∀ t, s' (σ t) = s t) :
    top s' z = top s z := by
  refine eq_of_forall_ge_iff fun c => ?_
  rw [top_le, top_le]
  refine and_congr_left fun _ => ⟨fun H t => h t ▸ H (σ t), fun H t => ?_⟩
  have := H (σ.symm t)
  rwa [← h, σ.apply_symm_apply] at this

theorem norm_perm (σ : Equiv.Perm (Fin 256)) (s s' : Fin 256 → EReal) (z : EReal) (h : ∀ t, s' (σ t) = s t) :
    norm s' z = norm s z := by
  unfold norm
  rw [top_perm σ s s' z h, ← Equiv.sum_comp σ]
  simp only [h]

theorem exp_bot_sub (x : EReal) : Ideal.exp (⊥ - x) = 0 := by
  rw [sub_eq_add_neg, EReal.bot_add]; rfl

/-- Relabelling the keys, and changing the values of keys that are masked out, changes nothing. -/
theorem att_perm (σ : Equiv.Perm (Fin 256)) (s s' v v' : Fin 256 → EReal) (z : EReal) (h : ∀ t, s' (σ t) = s t)
    (hv : ∀ t, s t = ⊥ ∨ v' (σ t) = v t) : att s' z v' = att s z v := by
  unfold att
  rw [top_perm σ s s' z h, norm_perm σ s s' z h, ← Equiv.sum_comp σ]
  refine Finset.sum_congr rfl fun t _ => ?_
  rw [h]
  rcases hv t with e | e
  · rw [e, exp_bot_sub, zero_mul, zero_mul, zero_mul]
  · rw [e]

theorem fold_snoc (f : Fin 257 → EReal) :
    max ⊥ ((Finset.univ : Finset (Fin 257)).fold max ⊥ f) = top (fun t => f t.castSucc) (f (Fin.last 256)) := by
  refine eq_of_forall_ge_iff fun c => ?_
  rw [top_le, max_le_iff, Finset.fold_max_le]
  refine ⟨fun H => ⟨fun t => H.2.2 _ (Finset.mem_univ _), H.2.2 _ (Finset.mem_univ _)⟩,
    fun H => ⟨bot_le, bot_le, fun u _ => ?_⟩⟩
  rcases Fin.eq_castSucc_or_eq_last u with ⟨t, rfl⟩ | rfl
  · exact H.1 t
  · exact H.2

theorem exp_nonneg (x : EReal) : 0 ≤ Ideal.exp x := by
  induction x with
  | bot => exact le_rfl
  | top => exact le_top
  | coe r => exact EReal.coe_nonneg.2 (Real.exp_pos r).le

/-- With a real sink and no key's score infinite upwards, the normaliser is not zero. -/
theorem norm_ne (s : Fin 256 → EReal) (z : ℝ) (h : ∀ t, s t ≠ ⊤) : norm s z ≠ 0 := by
  have hlo : (z : EReal) ≤ top s z := le_max_right _ _
  have hhi : top s z ≠ ⊤ := by
    refine (max_lt ?_ (EReal.coe_lt_top z)).ne
    exact (Finset.fold_max_lt _).2 ⟨bot_lt_top, fun t _ => lt_top_iff_ne_top.2 (h t)⟩
  have hb : top s z ≠ ⊥ := fun e => absurd (e ▸ hlo) (by simp)
  lift top s z to ℝ using ⟨hhi, hb⟩ with M hM
  refine (lt_of_lt_of_le ?_ (le_add_of_nonneg_left (Finset.sum_nonneg fun t _ => exp_nonneg _))).ne'
  rw [← hM, ← EReal.coe_sub]
  exact EReal.coe_pos.2 (Real.exp_pos _)

/-- The reference's form of the entry: the scores and the sink laid side by side, each exponential divided by the sum. -/
theorem att_snoc (f : Fin 257 → EReal) (v : Fin 256 → EReal) (hz : norm (fun t => f t.castSucc) (f (Fin.last 256)) ≠ 0) :
    ∑ t : Fin 256, v t * Ideal.div (Ideal.exp (f t.castSucc - max ⊥ ((Finset.univ : Finset (Fin 257)).fold max ⊥ f)))
        (0 + ∑ u : Fin 257, Ideal.exp (f u - max ⊥ ((Finset.univ : Finset (Fin 257)).fold max ⊥ f)))
      = att (fun t => f t.castSucc) (f (Fin.last 256)) v := by
  rw [fold_snoc, Fin.sum_univ_castSucc (n := 256), zero_add]
  unfold att
  refine Finset.sum_congr rfl fun t _ => ?_
  change _ * Ideal.div _ (norm _ _) = _
  unfold Ideal.div
  rw [if_neg hz, if_neg hz, one_mul, mul_comm]

/-- The pattern of minus infinity. -/
theorem neg_inf : Ideal.ofBits FTy.f32 4286578688#32 = ⊥ := by
  simp [Ideal.ofBits, Ideal.ieee]

/-- A small number's word is itself. -/
theorem small (n : ℕ) (hn : n < 2 ^ 31) : (BitVec.ofNat 32 n).toInt = (n : ℤ) := by
  rw [BitVec.toInt_eq_toNat_of_lt (by rw [BitVec.toNat_ofNat]; omega), BitVec.toNat_ofNat]
  omega

/-- The words' band test, at offset 0 (the first block) and at offset 128 (the later ones). -/
theorem band (o : ℕ) (ho : o = 0 ∨ o = 128) (i : ℕ) (t : ℕ) (hi : i < 128) (ht : t < 256) :
    IntOp.andi (IntOp.cmpi .sge (IntOp.addi (IntOp.subi (BitVec.ofNat 32 i) (BitVec.ofNat 32 t)) (BitVec.ofNat 32 o)) 0#32)
       (IntOp.cmpi .slt (IntOp.addi (IntOp.subi (BitVec.ofNat 32 i) (BitVec.ofNat 32 t)) (BitVec.ofNat 32 o)) 128#32)
     = BitVec.ofBool (decide (t ≤ i + o ∧ i + o < t + 128)) := by
  have e : (IntOp.addi (IntOp.subi (BitVec.ofNat 32 i) (BitVec.ofNat 32 t)) (BitVec.ofNat 32 o)).toInt = (i : ℤ) - t + o := by
    show (BitVec.ofNat 32 i - BitVec.ofNat 32 t + BitVec.ofNat 32 o).toInt = _
    rw [BitVec.toInt_add, BitVec.toInt_sub, small i (by omega), small t (by omega), small o (by omega)]
    rcases ho with rfl | rfl <;> simp only [Int.bmod_def] <;> omega
  generalize IntOp.addi (IntOp.subi (BitVec.ofNat 32 i) (BitVec.ofNat 32 t)) (BitVec.ofNat 32 o) = w at e
  have h1 : IntOp.cmpi .sge w 0#32 = BitVec.ofBool (decide (t ≤ i + o)) := by
    show BitVec.ofBool (BitVec.sle 0#32 w) = _
    refine congrArg BitVec.ofBool ?_
    rw [BitVec.sle, e]
    exact decide_eq_decide.2 (by simp; omega)
  have h2 : IntOp.cmpi .slt w 128#32 = BitVec.ofBool (decide (i + o < t + 128)) := by
    show BitVec.ofBool (BitVec.slt w 128#32) = _
    refine congrArg BitVec.ofBool ?_
    rw [BitVec.slt, e]
    exact decide_eq_decide.2 (by simp; omega)
  rw [h1, h2, Bool.decide_and]
  generalize decide (t ≤ i + o) = x
  generalize decide (i + o < t + 128) = y
  cases x <;> cases y <;> rfl

end Cert.Soft

end

end
-- ==== Proof.FwdBlock.lean ====
module

public import proofs.«01_k».proof.Proof.Gen.KernelFwdIdeal.Frame
public import proofs.«01_k».proof.Proof.FwdSoft
public import Idealize.ShloMosaic.Lib.Pipeline.ValueKit
public import Idealize.ShloMosaic.Lib.WordCmp
public import Idealize.ShloMosaic.Lib.PackedFields

/-! One block of the attention kernel: 128 queries of one key head, whose four query heads lie beside each other in the
    lanes and are stacked into 512 rows, against 256 keys. -/

@[expose] public section

set_option maxRecDepth 16384

noncomputable section

open Idealize.ShloMosaic Idealize.ShloMosaic.TcCoe Idealize.SL.Sem

namespace Cert.KernelFwdIdeal.Hand

open Cert.KernelFwdIdeal Cert.KernelFwdIdeal.Gen

/-- The test that a small number shifted right is a given one. -/
theorem shifted (s k n : ℕ) (hs : s < 32) (hk : k < 2 ^ (31 - s)) (hn : n < 2 ^ 32) :
    IntOp.cmpi .eq (IntOp.shrsi ArithUnit.vector (BitVec.ofNat 32 n) (BitVec.ofNat 32 s)) (BitVec.ofNat 32 k)
     = BitVec.ofBool (decide (n / 2 ^ s = k)) := by
  have h := PackedFields.shrsi_eq_iff (u := ArithUnit.vector) (BitVec.ofNat 32 n) s k hs hk
  rw [BitVec.toNat_ofNat, Nat.mod_eq_of_lt hn] at h
  have h2 : n / 2 ^ s = k ↔ 2 ^ s * k ≤ n ∧ n < 2 ^ s * k + 2 ^ s := by
    rw [Nat.div_eq_iff (Nat.two_pow_pos s), mul_comm k]
    have := Nat.two_pow_pos s
    omega
  show BitVec.ofBool (decide (_ = _)) = _
  exact congrArg BitVec.ofBool (decide_eq_decide.2 (h.trans h2.symm))

/-- A lane belongs to the query head it lies in. -/
theorem lane (k : ℕ) (hk : k < 4) (l : Fin 256) :
    IntOp.cmpi .eq (IntOp.shrsi ArithUnit.vector (BitVec.ofNat 32 l.val) 6#32) (BitVec.ofNat 32 k)
     = BitVec.ofBool (decide (l.val / 64 = k)) := shifted 6 k l (by omega) (by omega) (by omega)

/-- A row belongs to the query head it lies in. -/
theorem row (k : ℕ) (hk : k < 4) (R : Fin 512) :
    IntOp.cmpi .eq (IntOp.shrsi ArithUnit.vector (BitVec.ofNat 32 R.val) 7#32) (BitVec.ofNat 32 k)
     = BitVec.ofBool (decide (R.val / 128 = k)) := shifted 7 k R (by omega) (by omega) (by omega)

/-- The stacked queries: a row keeps the lanes of its own head. -/
def stack (q : FVec Ideal S128x256 .bf16) (R : Fin 512) (l : Fin 256) : EReal :=
  if l.val / 64 = R.val / 128 then q (ix2 ⟨R.val % 128, by omega⟩ l) else 0

theorem stack_mk (q : FVec Ideal S128x256 .bf16) (R : Fin 512) (l : Fin 256) :
    (if h : R.val < 128 then if l.val / 64 = 0 then q (ix2 ⟨R.val, h⟩ l) else 0
     else if h : R.val - 128 < 128 then if l.val / 64 = 1 then q (ix2 ⟨R.val - 128, h⟩ l) else 0
     else if h : R.val - 128 - 128 < 128 then if l.val / 64 = 2 then q (ix2 ⟨R.val - 128 - 128, h⟩ l) else 0
     else if l.val / 64 = 3 then q (ix2 ⟨R.val - 128 - 128 - 128, by omega⟩ l) else 0) = stack q R l := by
  have hR := R.isLt
  unfold stack
  split_ifs <;> first | rfl | omega | exact congrArg q (congrArg (ix2 · l) (Fin.ext (by dsimp only; omega)))

/-- The score of a stacked row against a key. -/
def score (b : FVec Ideal S512x256 .f32) (q : FVec Ideal S128x256 .bf16) (k : FVec Ideal S256x256 .bf16) (R : Fin 512)
    (t : Fin 256) : EReal :=
  ∑ l : Fin 256, stack q R l * k (ix2 t l) + b (ix2 R t)

theorem soft_at (b : FVec Ideal S512x256 .f32) (z : FVec Ideal S512x1 .f32) (q : FVec Ideal S128x256 .bf16)
    (k v : FVec Ideal S256x256 .bf16) (R : Fin 512) (c : Fin 256) :
    k0_pay42 (F := Ideal) k0_pay34 b z q k v (ix2 R c)
     = Soft.att (score b q k R) (z (ix2 R 0)) fun t => v (ix2 t c) := by
  pointwise [k0_pay42, k0_pay34]
  simp only [lane 0 (by omega), lane 1 (by omega), lane 2 (by omega), lane 3 (by omega), WordCmp.select_ofBool, decide_eq_true_eq, stack_mk, Soft.neg_inf]
  rfl

/-- Of four terms, each kept only under its own number, one is left. -/
theorem sum4 (n : ℕ) (hn : n < 4) (a b c d r : EReal) (ha : n = 0 → a = r) (hb : n = 1 → b = r) (hc : n = 2 → c = r) (hd : n = 3 → d = r) :
    (if n = 0 then a else 0) + (if n = 1 then b else 0) + (if n = 2 then c else 0) + (if n = 3 then d else 0) = r := by
  have : n = 0 ∨ n = 1 ∨ n = 2 ∨ n = 3 := by omega
  rcases this with e | e | e | e
  · simp [e, ha e]
  · simp [e, hb e]
  · simp [e, hc e]
  · simp [e, hd e]

/-- The block's result: each lane is taken from its own head's rows. -/
theorem block_at (b : FVec Ideal S512x256 .f32) (z : FVec Ideal S512x1 .f32) (q : FVec Ideal S128x256 .bf16)
    (k v : FVec Ideal S256x256 .bf16) (i : Fin 128) (c : Fin 256) :
    k0_pay43 (F := Ideal) k0_pay34 (k0_pay42 (F := Ideal) k0_pay34 b z q k v) 0#32 (ix2 i c)
     = Soft.att (score b q k ⟨128 * (c.val / 64) + i.val, by omega⟩) (z (ix2 ⟨128 * (c.val / 64) + i.val, by omega⟩ 0)) fun t => v (ix2 t c) := by
  refine Eq.trans ?_ (soft_at b z q k v _ c)
  generalize k0_pay42 (F := Ideal) k0_pay34 b z q k v = x
  have hc := c.isLt
  pointwise [k0_pay43, k0_pay34]
  simp only [lane 0 (by omega), lane 1 (by omega), lane 2 (by omega), lane 3 (by omega), WordCmp.select_ofBool, decide_eq_true_eq]
  exact sum4 _ (by omega) _ _ _ _ _
    (fun e => congrArg x (congrArg (ix2 · c) (Fin.ext (by dsimp only; omega))))
    (fun e => congrArg x (congrArg (ix2 · c) (Fin.ext (by dsimp only; omega))))
    (fun e => congrArg x (congrArg (ix2 · c) (Fin.ext (by dsimp only; omega))))
    (fun e => congrArg x (congrArg (ix2 · c) (Fin.ext (by dsimp only; omega))))

/-- The mask's named value, at the exact instance. -/
theorem mask_bot : (Named.named Cert.KernelFwdIdeal.κ "mask" 4048155338#32 : Ideal .f32) = ⊥ :=
  IdealRules.named_const.ideal_named_scalar _ _ _ _ rfl

/-- A selection by the band's words is a selection by the band. -/
theorem banded (o : ℕ) (ho : o = 0 ∨ o = 128) (n m t : ℕ) (hn : n < 128) (ht : t < 256) (e : n = m) :
    Scalar.select (IntOp.andi
        (IntOp.cmpi .sge (IntOp.addi (IntOp.subi (BitVec.ofNat 32 n) (BitVec.ofNat 32 t)) (BitVec.ofNat 32 o)) 0#32)
        (IntOp.cmpi .slt (IntOp.addi (IntOp.subi (BitVec.ofNat 32 n) (BitVec.ofNat 32 t)) (BitVec.ofNat 32 o)) 128#32))
      (0 : EReal) ⊥ = if t ≤ m + o ∧ m + o < t + 128 then 0 else ⊥ := by
  rw [Soft.band o ho n t hn ht, WordCmp.select_ofBool, e]
  simp only [decide_eq_true_eq]

/-- What is added to a score: nothing inside the band of 128 keys up to the query's own, the mask outside. -/
def gate (o : ℕ) (R : Fin 512) (t : Fin 256) : EReal :=
  if t.val ≤ R.val % 128 + o ∧ R.val % 128 + o < t.val + 128 then 0 else ⊥

theorem first_at (R : Fin 512) (t : Fin 256) : k0_pay37 (F := Ideal) (ix2 R t) = gate 0 R t := by
  have hR := R.isLt
  pointwise [k0_pay37, k0_pay36]
  simp only [mask_bot]
  split_ifs <;> exact banded 0 (.inl rfl) _ _ t (by omega) t.isLt (by omega)

theorem later_at (R : Fin 512) (t : Fin 256) : k0_pay38 (F := Ideal) (ix2 R t) = gate 128 R t := by
  have hR := R.isLt
  pointwise [k0_pay38, k0_pay36]
  simp only [mask_bot]
  split_ifs <;> exact banded 128 (.inr rfl) _ _ t (by omega) t.isLt (by omega)

/-- Four nested selections by a row's head are the head's own value. -/
theorem pick4 (f : Fin 4 → EReal) (R : Fin 512) :
    (if R.val / 128 = 3 then f 3 else if R.val / 128 = 2 then f 2 else if R.val / 128 = 1 then f 1 else if R.val / 128 = 0 then f 0 else 0)
     = f ⟨R.val / 128, by omega⟩ := by
  have hR := R.isLt
  split_ifs <;> first | omega | exact congrArg f (Fin.ext (by simp; omega))

theorem sink0_at (f : Fin 4 → EReal) (R : Fin 512) :
    k0_pay40 (F := Ideal) k0_pay35 (k0_pay39 (f 0)) (f 1) (f 2) (f 3) (ix2 R 0) = f ⟨R.val / 128, by omega⟩ := by
  refine Eq.trans ?_ (pick4 f R)
  pointwise [k0_pay40, k0_pay35, k0_pay39]
  simp only [row 0 (by omega), row 1 (by omega), row 2 (by omega), row 3 (by omega), WordCmp.select_ofBool, decide_eq_true_eq]

theorem sink1_at (f : Fin 4 → EReal) (R : Fin 512) :
    k0_pay41 (F := Ideal) k0_pay35 (f 0) (f 1) (f 2) (f 3) (ix2 R 0) = f ⟨R.val / 128, by omega⟩ := by
  refine Eq.trans ?_ (pick4 f R)
  pointwise [k0_pay41, k0_pay35]
  simp only [row 0 (by omega), row 1 (by omega), row 2 (by omega), row 3 (by omega), WordCmp.select_ofBool, decide_eq_true_eq]

end Cert.KernelFwdIdeal.Hand

end

end
-- ==== Proof.FwdPieces.lean ====
module

public import proofs.«01_k».proof.Proof.FwdBlock
public import Idealize.ShloMosaic.Lib.WholeRead

/-! What one grid point of the attention kernel leaves in its output buffer: 2048 rows, written as 32 pieces, each of
    them the attention of one block of queries of one key head. -/

@[expose] public section

set_option maxRecDepth 16384

noncomputable section

open Idealize.ShloMosaic Idealize.ShloMosaic.TcCoe Idealize.SL.Sem

namespace Cert.KernelFwdIdeal.Hand

open Cert.KernelFwdIdeal Cert.KernelFwdIdeal.Gen

/-- A sum over 256 lanes that keeps one head's lanes is the sum over that head's 64. -/
theorem sum_lane (g : ℕ) (hg : g < 4) (a b : Fin 256 → EReal) :
    (∑ l : Fin 256, (if l.val / 64 = g then a l else 0) * b l)
     = ∑ d : Fin 64, a ⟨g * 64 + d.val, by omega⟩ * b ⟨g * 64 + d.val, by omega⟩ := by
  rw [← (finProdFinEquiv (m := 4) (n := 64)).sum_comp, Fintype.sum_prod_type, Finset.sum_eq_single ⟨g, hg⟩]
  · refine Finset.sum_congr rfl fun d _ => ?_
    have e : (finProdFinEquiv ((⟨g, hg⟩ : Fin 4), d) : Fin 256) = ⟨g * 64 + d.val, by omega⟩ :=
      Fin.ext (by simp [finProdFinEquiv]; omega)
    rw [e, if_pos (by dsimp only; omega)]
  · intro g' _ hne
    refine Finset.sum_eq_zero fun d _ => ?_
    have e : ((finProdFinEquiv (g', d) : Fin 256)).val = d.val + 64 * g'.val := by simp [finProdFinEquiv]
    rw [if_neg, zero_mul]
    rw [e]
    exact fun h => hne (Fin.ext (by dsimp only; omega))
  · exact fun h => absurd (Finset.mem_univ _) h

/-- The row of the key that a row's `t`-th score is taken against. -/
def keyRow (r : ℕ) (hr : r < 2048) (t : Fin 256) : Fin 2048 := ⟨128 * (r / 128 - 1) + t.val, by omega⟩

/-- One entry of the output buffer, from the sinks and the buffers of queries, keys and values. -/
def entry (f : Fin 8 → EReal) (X1 X2 X3 : FVec Ideal S2048x512 .bf16) (r : ℕ) (hr : r < 2048) (C : ℕ) (hC : C < 512) : EReal :=
  Soft.att
    (fun t => ∑ d : Fin 64, X1 (ix2 ⟨r, hr⟩ ⟨C / 64 * 64 + d.val, by omega⟩) * X2 (ix2 (keyRow r hr t) ⟨C / 64 * 64 + d.val, by omega⟩)
      + if t.val ≤ r % 128 + (if r / 128 = 0 then 0 else 128) ∧ r % 128 + (if r / 128 = 0 then 0 else 128) < t.val + 128 then 0 else ⊥)
    (f ⟨C / 64, by omega⟩) fun t => X3 (ix2 (keyRow r hr t) ⟨C, hC⟩)

/-- The output buffer. -/
def whole (f : Fin 8 → EReal) (X1 X2 X3 : FVec Ideal S2048x512 .bf16) (y : S2048x512.Idx) : EReal :=
  entry f X1 X2 X3 (y 0).val (y 0).isLt (y 1).val (y 1).isLt

/-- One piece, as the kernel computes it. -/
abbrev blk (b : FVec Ideal S512x256 .f32) (z : FVec Ideal S512x1 .f32) (q : FVec Ideal S128x256 .bf16)
    (k v : FVec Ideal S256x256 .bf16) : FVec Ideal S128x256 .bf16 :=
  k0_pay43 (F := Ideal) k0_pay34 (k0_pay42 (F := Ideal) k0_pay34 b z q k v) 0#32

theorem piece_ok (f : Fin 8 → EReal) (X1 X2 X3 : FVec Ideal S2048x512 .bf16) (n h : ℕ) (hn : n < 16) (hh : h < 2)
    (b : FVec Ideal S512x256 .f32) (z : FVec Ideal S512x1 .f32) (q : FVec Ideal S128x256 .bf16) (k v : FVec Ideal S256x256 .bf16)
    (yq : S128x256.Idx → S2048x512.Idx) (yk : S256x256.Idx → S2048x512.Idx)
    (hq0 : ∀ x, (yq x 0).val = 128 * n + (x 0).val) (hq1 : ∀ x, (yq x 1).val = 256 * h + (x 1).val)
    (hk0 : ∀ x, (yk x 0).val = 128 * (n - 1) + (x 0).val) (hk1 : ∀ x, (yk x 1).val = 256 * h + (x 1).val)
    (hq : ∀ x, q x = X1 (yq x)) (hk : ∀ x, k x = X2 (yk x)) (hv : ∀ x, v x = X3 (yk x))
    (hb : ∀ R t, b (ix2 R t) = gate (if n = 0 then 0 else 128) R t)
    (hz : ∀ R : Fin 512, z (ix2 R 0) = f ⟨4 * h + R.val / 128, by omega⟩) (x : S128x256.Idx) :
    blk b z q k v x = whole f X1 X2 X3 (yq x) := by
  obtain ⟨i, c, rfl⟩ : ∃ (i : Fin 128) (c : Fin 256), x = ix2 i c := ⟨x 0, x 1, by funext a; match a with | ⟨0, _⟩ => rfl | ⟨1, _⟩ => rfl⟩
  have e0 : (yq (ix2 i c) 0).val = 128 * n + i.val := hq0 _
  have e1 : (yq (ix2 i c) 1).val = 256 * h + c.val := hq1 _
  have er : (yq (ix2 i c) 0).val / 128 = n := by omega
  have em : (yq (ix2 i c) 0).val % 128 = i.val := by omega
  have ec : (yq (ix2 i c) 1).val / 64 = 4 * h + c.val / 64 := by omega
  have hi := i.isLt
  have hc := c.isLt
  have kq (l : Fin 256) (a : Fin 2048) (b' : Fin 512) (ha : a.val = 128 * n + i.val) (hb' : b'.val = 256 * h + l.val) : q (ix2 i l) = X1 (ix2 a b') := by
    rw [hq]
    exact congrArg X1 (funext fun u => Fin.ext (by match u with | ⟨0, _⟩ => exact (hq0 _).trans ha.symm | ⟨1, _⟩ => exact (hq1 _).trans hb'.symm))
  have kk (t l : Fin 256) (a : Fin 2048) (b' : Fin 512) (ha : a.val = 128 * (n - 1) + t.val) (hb' : b'.val = 256 * h + l.val) : yk (ix2 t l) = ix2 a b' :=
    funext fun u => Fin.ext (by match u with | ⟨0, _⟩ => exact (hk0 _).trans ha.symm | ⟨1, _⟩ => exact (hk1 _).trans hb'.symm)
  refine (block_at b z q k v i c).trans ?_
  unfold whole entry
  congr 1
  · funext t
    unfold score
    rw [hb]
    unfold gate stack
    dsimp only
    have eR : (128 * (c.val / 64) + i.val) / 128 = c.val / 64 := by omega
    have eM : (128 * (c.val / 64) + i.val) % 128 = i.val := by omega
    simp only [eR, eM, er, em]
    rw [sum_lane (c.val / 64) (by omega) (fun l => q (ix2 i l)) (fun l => k (ix2 t l))]
    congr 1
    refine Finset.sum_congr rfl fun d _ => ?_
    rw [hk, kq _ ⟨_, (yq (ix2 i c) 0).isLt⟩ ⟨(yq (ix2 i c) 1).val / 64 * 64 + d.val, by omega⟩ e0 (by dsimp only; omega),
      kk t _ (keyRow _ (yq (ix2 i c) 0).isLt t) ⟨(yq (ix2 i c) 1).val / 64 * 64 + d.val, by omega⟩ (by unfold keyRow; dsimp only; omega) (by dsimp only; omega)]
  · rw [hz]
    exact congrArg f (Fin.ext (by dsimp only; omega))
  · funext t
    rw [hv, kk t c (keyRow _ (yq (ix2 i c) 0).isLt t) ⟨_, (yq (ix2 i c) 1).isLt⟩ (by unfold keyRow; dsimp only; omega) e1]

/-- Where the loop's offsets point. -/
theorem off1 : ∀ (k : Fin k0_t1_loop.trips) (w : Fin 3), k0_off1 k (BitVec.ofNat 32 w.val) = ![128 * (1 + 3 * k.val + w.val), 256 * 0] := by decide +kernel
theorem off2 : ∀ (k : Fin k0_t1_loop.trips) (w : Fin 3), k0_off2 k (BitVec.ofNat 32 w.val) = ![128 * (1 + 3 * k.val + w.val - 1), 256 * 0] := by decide +kernel
theorem off3 : ∀ (k : Fin k0_t1_loop.trips) (w : Fin 3), k0_off3 k (BitVec.ofNat 32 w.val) = ![128 * (1 + 3 * k.val + w.val), 256 * 1] := by decide +kernel
theorem off4 : ∀ (k : Fin k0_t1_loop.trips) (w : Fin 3), k0_off4 k (BitVec.ofNat 32 w.val) = ![128 * (1 + 3 * k.val + w.val - 1), 256 * 1] := by decide +kernel

/-- A load of 128 rows and 256 lanes. -/
abbrev ldq (a : Memref sig .tc .vmem S2048x512 .bf16) (o : Fin 2 → ℕ) (h : ∀ a, o a + S128x256.size a ≤ S2048x512.size a) (X : BufTy.Contents (Elt Ideal) a.view.ty) : FVec Ideal S128x256 .bf16 :=
  View.readAt (Elt Ideal) a.view (Rect.unit (s := S2048x512) o S128x256.size h).toLoadRect X
/-- A load of 256 rows and 256 lanes. -/
abbrev ldk (a : Memref sig .tc .vmem S2048x512 .bf16) (o : Fin 2 → ℕ) (h : ∀ a, o a + S256x256.size a ≤ S2048x512.size a) (X : BufTy.Contents (Elt Ideal) a.view.ty) : FVec Ideal S256x256 .bf16 :=
  View.readAt (Elt Ideal) a.view (Rect.unit (s := S2048x512) o S256x256.size h).toLoadRect X

variable (c : Dev nD) (i : grid0.Coords) (arg1 : Memref sig .tc .smem S1x8 .f32) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole)
variable (b : FVec Ideal S512x256 .f32) (z0 z1 : FVec Ideal S512x1 .f32) (X2 : BufTy.Contents (Elt Ideal) arg2.view.ty) (X3 : BufTy.Contents (Elt Ideal) arg3.view.ty) (X4 : BufTy.Contents (Elt Ideal) arg4.view.ty) (k : Fin k0_t1_loop.trips)

/-- One trip's six pieces: three blocks of queries, and in each the two key heads. -/
theorem trip_pieces :
   tripL_k0_t1 (F := Ideal) Variants.none c none i arg1 harg1 arg2 harg2 arg3 harg3 arg4 harg4 arg5 harg5 k0_pay34 b z0 z1 X2 X3 X4 k
    = [⟨Rect.unit (s := S2048x512) (k0_off3 k 2#32) S128x256.size (k0_off3_inb k 2), blk b z1 (ldq arg2 (k0_off3 k 2#32) (k0_off3_inb k 2) X2) (ldk arg3 (k0_off4 k 2#32) (k0_off4_inb k 2) X3) (ldk arg4 (k0_off4 k 2#32) (k0_off4_inb k 2) X4)⟩,
       ⟨Rect.unit (s := S2048x512) (k0_off1 k 2#32) S128x256.size (k0_off1_inb k 2), blk b z0 (ldq arg2 (k0_off1 k 2#32) (k0_off1_inb k 2) X2) (ldk arg3 (k0_off2 k 2#32) (k0_off2_inb k 2) X3) (ldk arg4 (k0_off2 k 2#32) (k0_off2_inb k 2) X4)⟩,
       ⟨Rect.unit (s := S2048x512) (k0_off3 k 1#32) S128x256.size (k0_off3_inb k 1), blk b z1 (ldq arg2 (k0_off3 k 1#32) (k0_off3_inb k 1) X2) (ldk arg3 (k0_off4 k 1#32) (k0_off4_inb k 1) X3) (ldk arg4 (k0_off4 k 1#32) (k0_off4_inb k 1) X4)⟩,
       ⟨Rect.unit (s := S2048x512) (k0_off1 k 1#32) S128x256.size (k0_off1_inb k 1), blk b z0 (ldq arg2 (k0_off1 k 1#32) (k0_off1_inb k 1) X2) (ldk arg3 (k0_off2 k 1#32) (k0_off2_inb k 1) X3) (ldk arg4 (k0_off2 k 1#32) (k0_off2_inb k 1) X4)⟩,
       ⟨Rect.unit (s := S2048x512) (k0_off3 k 0#32) S128x256.size (k0_off3_inb k 0), blk b z1 (ldq arg2 (k0_off3 k 0#32) (k0_off3_inb k 0) X2) (ldk arg3 (k0_off4 k 0#32) (k0_off4_inb k 0) X3) (ldk arg4 (k0_off4 k 0#32) (k0_off4_inb k 0) X4)⟩,
       ⟨Rect.unit (s := S2048x512) (k0_off1 k 0#32) S128x256.size (k0_off1_inb k 0), blk b z0 (ldq arg2 (k0_off1 k 0#32) (k0_off1_inb k 0) X2) (ldk arg3 (k0_off2 k 0#32) (k0_off2_inb k 0) X3) (ldk arg4 (k0_off2 k 0#32) (k0_off2_inb k 0) X4)⟩] := by
  unfold tripL_k0_t1 trip_k0_t1
  rfl

/-- All the pieces of a point: the loop's, and the first block's two. -/
theorem first_pieces (x0 : Vec Ideal S1x8 .f32) (x1 x2 x3 : Vec Ideal S2048x512 .bf16) :
    (kernelRun0_A (F := Ideal) c i arg1 harg1 arg2 harg2 arg3 harg3 arg4 harg4 arg5 harg5 x0 x1 x2 x3).1
     = pb_k0_t1 (F := Ideal) Variants.none c none i arg1 harg1 arg2 harg2 arg3 harg3 arg4 harg4 arg5 harg5 k0_pay34 k0_pay38
         (kernelRun0_A.sl.r_9 c arg1 harg1 x0) (kernelRun0_A.sl.r_10 c arg1 harg1 x0) (harg2.unread x1) (harg3.unread x2) (harg4.unread x3)
         (Scf.trips 0#32 (Scalar.addi 0#32 5#32) 1#32)
       ++ [⟨Rect.unit (s := S2048x512) ![0, 256] S128x256.size inb_S2048x512_S128x256_0_256, blk k0_pay37 (kernelRun0_A.sl.r_10 c arg1 harg1 x0)
              (ldq arg2 ![0, 256] inb_S2048x512_S128x256_0_256 (harg2.unread x1)) (ldk arg3 ![0, 256] inb_S2048x512_S256x256_0_256 (harg3.unread x2))
              (ldk arg4 ![0, 256] inb_S2048x512_S256x256_0_256 (harg4.unread x3))⟩,
           ⟨Rect.unit (s := S2048x512) ![0, 0] S128x256.size inb_S2048x512_S128x256_0_0, blk k0_pay37 (kernelRun0_A.sl.r_9 c arg1 harg1 x0)
              (ldq arg2 ![0, 0] inb_S2048x512_S128x256_0_0 (harg2.unread x1)) (ldk arg3 ![0, 0] inb_S2048x512_S256x256_0_0 (harg3.unread x2))
              (ldk arg4 ![0, 0] inb_S2048x512_S256x256_0_0 (harg4.unread x3))⟩] := by
  unfold kernelRun0_A
  rfl

/-- A sink, loaded. -/
theorem sink_ld (x0 : Vec Ideal S1x8 .f32) (g : Fin 8) (h : ∀ a, (![0, g.val] : Fin 2 → ℕ) a + S1x1.size a ≤ S1x8.size a)
    (pf : 0 < (Rect.unit (s := S1x8) ![0, g.val] S1x1.size h).toLoadRect.shape.numel) :
    View.readAt (Elt Ideal) arg1.view (Rect.unit (s := S1x8) ![0, g.val] S1x1.size h).toLoadRect (harg1.unread x0) (Shape.Idx.first pf)
     = x0 (ix2 0 g) := by
  refine (harg1.readAt_unread x0 _ _).trans (congrArg x0 (funext fun a => Fin.ext ?_))
  have h0 : ((Shape.Idx.first pf) a).val < S1x1.size a := ((Shape.Idx.first pf) a).isLt
  match a with
  | ⟨0, _⟩ => exact (by change _ < 1 at h0; show 0 + 1 * _ = 0; omega)
  | ⟨1, _⟩ => exact (by change _ < 1 at h0; show g.val + 1 * _ = g.val; omega)

/-- The sinks as the rows see them: the first key head's, and the second's. -/
theorem sinks0 (x0 : Vec Ideal S1x8 .f32) (R : Fin 512) :
    kernelRun0_A.sl.r_9 (F := Ideal) c arg1 harg1 x0 (ix2 R 0) = x0 (ix2 0 ⟨4 * 0 + R.val / 128, by omega⟩) := by
  have e0 : kernelRun0_A.sl.r (F := Ideal) c arg1 harg1 x0 = x0 (ix2 0 0) := sink_ld arg1 harg1 x0 0 _ _
  have e1 : kernelRun0_A.sl.r_2 (F := Ideal) c arg1 harg1 x0 = x0 (ix2 0 1) := sink_ld arg1 harg1 x0 1 _ _
  have e2 : kernelRun0_A.sl.r_3 (F := Ideal) c arg1 harg1 x0 = x0 (ix2 0 2) := sink_ld arg1 harg1 x0 2 _ _
  have e3 : kernelRun0_A.sl.r_4 (F := Ideal) c arg1 harg1 x0 = x0 (ix2 0 3) := sink_ld arg1 harg1 x0 3 _ _
  unfold kernelRun0_A.sl.r_9 kernelRun0_A.sl.r_1
  rw [e0, e1, e2, e3]
  exact (sink0_at (fun g => x0 (ix2 0 ⟨4 * 0 + g.val, by omega⟩)) R)

theorem sinks1 (x0 : Vec Ideal S1x8 .f32) (R : Fin 512) :
    kernelRun0_A.sl.r_10 (F := Ideal) c arg1 harg1 x0 (ix2 R 0) = x0 (ix2 0 ⟨4 * 1 + R.val / 128, by omega⟩) := by
  have e0 : kernelRun0_A.sl.r_5 (F := Ideal) c arg1 harg1 x0 = x0 (ix2 0 4) := sink_ld arg1 harg1 x0 4 _ _
  have e1 : kernelRun0_A.sl.r_6 (F := Ideal) c arg1 harg1 x0 = x0 (ix2 0 5) := sink_ld arg1 harg1 x0 5 _ _
  have e2 : kernelRun0_A.sl.r_7 (F := Ideal) c arg1 harg1 x0 = x0 (ix2 0 6) := sink_ld arg1 harg1 x0 6 _ _
  have e3 : kernelRun0_A.sl.r_8 (F := Ideal) c arg1 harg1 x0 = x0 (ix2 0 7) := sink_ld arg1 harg1 x0 7 _ _
  unfold kernelRun0_A.sl.r_10
  rw [e0, e1, e2, e3]
  exact (sink1_at (fun g => x0 (ix2 0 ⟨4 * 1 + g.val, by omega⟩)) R)

theorem ldq_at (a : Memref sig .tc .vmem S2048x512 .bf16) (ha : a.IsWhole) (o : Fin 2 → ℕ) (h : ∀ a, o a + S128x256.size a ≤ S2048x512.size a)
    (X : Vec Ideal S2048x512 .bf16) (x : S128x256.Idx) : ldq a o h (ha.unread X) x = X ((Rect.unit (s := S2048x512) o S128x256.size h).emb x) :=
  ha.readAt_unread X (Rect.unit (s := S2048x512) o S128x256.size h).toLoadRect x

theorem ldk_at (a : Memref sig .tc .vmem S2048x512 .bf16) (ha : a.IsWhole) (o : Fin 2 → ℕ) (h : ∀ a, o a + S256x256.size a ≤ S2048x512.size a)
    (X : Vec Ideal S2048x512 .bf16) (x : S256x256.Idx) : ldk a o h (ha.unread X) x = X ((Rect.unit (s := S2048x512) o S256x256.size h).toLoadRect.idx x) :=
  ha.readAt_unread X (Rect.unit (s := S2048x512) o S256x256.size h).toLoadRect x

/-- A piece whose loads are at the offsets of block `n` and key head `h` is the output buffer's own entries there. -/
theorem load_ok (f : Fin 8 → EReal) (x1 x2 x3 : Vec Ideal S2048x512 .bf16) (n h : ℕ) (hn : n < 16) (hh : h < 2)
    (oq ok : Fin 2 → ℕ) (eq : oq = ![128 * n, 256 * h]) (ek : ok = ![128 * (n - 1), 256 * h])
    (bq : ∀ a, oq a + S128x256.size a ≤ S2048x512.size a) (bk : ∀ a, ok a + S256x256.size a ≤ S2048x512.size a)
    (hb : ∀ R t, b (ix2 R t) = gate (if n = 0 then 0 else 128) R t)
    (hz : ∀ R : Fin 512, z0 (ix2 R 0) = f ⟨4 * h + R.val / 128, by omega⟩) (x : S128x256.Idx) :
    blk b z0 (ldq arg2 oq bq (harg2.unread x1)) (ldk arg3 ok bk (harg3.unread x2)) (ldk arg4 ok bk (harg4.unread x3)) x
     = whole f x1 x2 x3 ((Rect.unit (s := S2048x512) oq S128x256.size bq).emb x) := by
  subst eq ek
  exact piece_ok f x1 x2 x3 n h hn hh b z0 _ _ _ _ (Rect.unit (s := S2048x512) _ S256x256.size bk).toLoadRect.idx
    (fun x => by show 128 * n + 1 * _ = _; rw [one_mul]) (fun x => by show 256 * h + 1 * _ = _; rw [one_mul])
    (fun x => by show 128 * (n - 1) + 1 * _ = _; rw [one_mul]) (fun x => by show 256 * h + 1 * _ = _; rw [one_mul])
    (ldq_at arg2 harg2 _ bq x1) (ldk_at arg3 harg3 _ bk x2) (ldk_at arg4 harg4 _ bk x3) hb hz x

variable (x0 : Vec Ideal S1x8 .f32) (x1 x2 x3 : Vec Ideal S2048x512 .bf16)

/-- The loop's pieces are the output buffer's own entries. -/
theorem trips_ok : ∀ N : ℕ, N ≤ 5 → ∀ p ∈ pb_k0_t1 (F := Ideal) Variants.none c none i arg1 harg1 arg2 harg2 arg3 harg3 arg4 harg4 arg5 harg5 k0_pay34 k0_pay38
         (kernelRun0_A.sl.r_9 c arg1 harg1 x0) (kernelRun0_A.sl.r_10 c arg1 harg1 x0) (harg2.unread x1) (harg3.unread x2) (harg4.unread x3) N,
      ∀ x : p.1.shape.Idx, p.2 x = whole (fun g => x0 (ix2 0 g)) x1 x2 x3 (p.1.emb x)
  | 0, _, p, hp => absurd hp List.not_mem_nil
  | N + 1, hN, p, hp => by
    have hk : N < k0_t1_loop.trips := lt_of_lt_of_eq (Nat.lt_of_succ_le hN) (by decide)
    rw [pb_k0_t1_succ Variants.none c none i arg1 harg1 arg2 harg2 arg3 harg3 arg4 harg4 arg5 harg5 k0_pay34 k0_pay38 _ _ _ _ _ ⟨N, hk⟩, trip_pieces] at hp
    rcases List.mem_append.1 hp with h | h
    · have hl (n : ℕ) (hn : n ≠ 0) (R : Fin 512) (t : Fin 256) : k0_pay38 (F := Ideal) (ix2 R t) = gate (if n = 0 then 0 else 128) R t := by
        rw [if_neg hn, later_at]
      simp only [List.mem_cons, List.not_mem_nil, or_false] at h
      rcases h with rfl | rfl | rfl | rfl | rfl | rfl
      · exact load_ok arg2 harg2 arg3 harg3 arg4 harg4 _ _ _ x1 x2 x3 (1 + 3 * N + 2) 1 (by omega) (by omega) _ _ (off3 ⟨N, hk⟩ 2) (off4 ⟨N, hk⟩ 2) _ _ (hl _ (by omega)) (sinks1 c arg1 harg1 x0)
      · exact load_ok arg2 harg2 arg3 harg3 arg4 harg4 _ _ _ x1 x2 x3 (1 + 3 * N + 2) 0 (by omega) (by omega) _ _ (off1 ⟨N, hk⟩ 2) (off2 ⟨N, hk⟩ 2) _ _ (hl _ (by omega)) (sinks0 c arg1 harg1 x0)
      · exact load_ok arg2 harg2 arg3 harg3 arg4 harg4 _ _ _ x1 x2 x3 (1 + 3 * N + 1) 1 (by omega) (by omega) _ _ (off3 ⟨N, hk⟩ 1) (off4 ⟨N, hk⟩ 1) _ _ (hl _ (by omega)) (sinks1 c arg1 harg1 x0)
      · exact load_ok arg2 harg2 arg3 harg3 arg4 harg4 _ _ _ x1 x2 x3 (1 + 3 * N + 1) 0 (by omega) (by omega) _ _ (off1 ⟨N, hk⟩ 1) (off2 ⟨N, hk⟩ 1) _ _ (hl _ (by omega)) (sinks0 c arg1 harg1 x0)
      · exact load_ok arg2 harg2 arg3 harg3 arg4 harg4 _ _ _ x1 x2 x3 (1 + 3 * N + 0) 1 (by omega) (by omega) _ _ (off3 ⟨N, hk⟩ 0) (off4 ⟨N, hk⟩ 0) _ _ (hl _ (by omega)) (sinks1 c arg1 harg1 x0)
      · exact load_ok arg2 harg2 arg3 harg3 arg4 harg4 _ _ _ x1 x2 x3 (1 + 3 * N + 0) 0 (by omega) (by omega) _ _ (off1 ⟨N, hk⟩ 0) (off2 ⟨N, hk⟩ 0) _ _ (hl _ (by omega)) (sinks0 c arg1 harg1 x0)
    · exact trips_ok N (by omega) p h

/-- Every piece is the output buffer's own entries. -/
theorem pieces_ok : ∀ p ∈ (kernelRun0_A (F := Ideal) c i arg1 harg1 arg2 harg2 arg3 harg3 arg4 harg4 arg5 harg5 x0 x1 x2 x3).1,
    ∀ x : p.1.shape.Idx, p.2 x = whole (fun g => x0 (ix2 0 g)) x1 x2 x3 (p.1.emb x) := by
  intro p hp
  rw [first_pieces] at hp
  rcases List.mem_append.1 hp with h | h
  · exact trips_ok c i arg1 harg1 arg2 harg2 arg3 harg3 arg4 harg4 arg5 harg5 x0 x1 x2 x3 _ (by decide) p h
  · have hf (R : Fin 512) (t : Fin 256) : k0_pay37 (F := Ideal) (ix2 R t) = gate (if 0 = 0 then 0 else 128) R t := first_at R t
    simp only [List.mem_cons, List.not_mem_nil, or_false] at h
    rcases h with rfl | rfl
    · exact load_ok arg2 harg2 arg3 harg3 arg4 harg4 _ _ _ x1 x2 x3 0 1 (by omega) (by omega) _ _ rfl rfl _ _ hf (sinks1 c arg1 harg1 x0)
    · exact load_ok arg2 harg2 arg3 harg3 arg4 harg4 _ _ _ x1 x2 x3 0 0 (by omega) (by omega) _ _ rfl rfl _ _ hf (sinks0 c arg1 harg1 x0)

/-- What the point leaves in the output buffer. -/
theorem out_at (y : S2048x512.Idx) :
    out0_A_4 (F := Ideal) c i arg1 harg1 arg2 harg2 arg3 harg3 arg4 harg4 arg5 harg5 x0 x1 x2 x3 y = whole (fun g => x0 (ix2 0 g)) x1 x2 x3 y := by
  unfold out0_A_4
  exact View.read_writes_apply_of_pieces _ _ _ _ (pieces_ok c i arg1 harg1 arg2 harg2 arg3 harg3 arg4 harg4 arg5 harg5 x0 x1 x2 x3) y
    (cover0_A_4 c i arg1 harg1 arg2 harg2 arg3 harg3 arg4 harg4 arg5 harg5 x0 x1 x2 x3 y)

end Cert.KernelFwdIdeal.Hand

end

end
-- ==== Proof.FwdRef.lean ====
module

public import proofs.«01_k».proof.Proof.Gen.ReferenceFwdIdeal.Read
public import Idealize.ShloMosaic.Lib.Pipeline.ValueKit
public import Idealize.ShloMosaic.Lib.WordCmp
public import proofs.«01_k».proof.Proof.FwdSoft
public import Idealize.ShloMosaic.Lib.ValueIdxRank6

/-! The reference's attention, read entry by entry. -/

@[expose] public section

set_option maxRecDepth 16384

noncomputable section

namespace Cert.ReferenceFwdIdeal.Hand

open Idealize.ShloMosaic Idealize.ShloMosaic.TcCoe Idealize.SL.Sem
open Cert.ReferenceFwdIdeal.Read Cert.ReferenceFwdIdeal.Gen

variable (z : FVec Ideal S1x8 .f32) (q : FVec Ideal S4096x512 .f32) (k v : FVec Ideal S4096x128 .f32)

theorem o_at (r : Fin 4096) (j : Fin 512) :
    val_main_v69 (F := Ideal) z q k v (ix2 r j)
     = val_main_v65 (F := Ideal) z q k v (ix6 ⟨r.val / 2048, by omega⟩ ⟨r.val / 128 % 16, by omega⟩ ⟨j.val / 256, by omega⟩
         ⟨j.val % 64, by omega⟩ ⟨j.val / 64 % 4, by omega⟩ ⟨r.val % 128, by omega⟩) := by
  pointwise [val_main_v69, val_main_v68, val_main_v67, val_main_v66]

theorem d_at (b : Fin 2) (n : Fin 16) (h : Fin 2) (g : Fin 4) (i : Fin 128) (d : Fin 64) :
    val_main_v65 (F := Ideal) z q k v (ix6 b n h d g i)
     = ∑ t : Fin 256, val_main_v15 (F := Ideal) v (ix5 b n t h d) * val_main_v64 (F := Ideal) z q k (ix6 b n h g i t) := by
  pointwise [val_main_v65]

/-- A maximum over the last axis, as a fold over that axis. -/
theorem max_fold (y : FVec Ideal S2x16x2x4x128x257 .f32) (w : FVec Ideal S_ .f32)
    (hh : Shape.Reduces S2x16x2x4x128x257 [5] S2x16x2x4x128) (j : S2x16x2x4x128.Idx) :
    Host.reduce FloatOps.maximumf y w reducesTo_S2x16x2x4x128x257_S2x16x2x4x128_d5 h_S_ j
     = (Finset.univ : Finset (Fin 257)).fold max (w (Shape.Idx.first h_S_)) (fun t => y (hh.lift j t)) :=
  Host.reduce_eq_fold_single (max : EReal → EReal → EReal) y w _ hh h_S_ j

theorem last_axis : Shape.Reduces S2x16x2x4x128x257 [5] S2x16x2x4x128 := by decide

theorem last_lift (b : Fin 2) (n : Fin 16) (h : Fin 2) (g : Fin 4) (i : Fin 128) (t : Fin 257) :
    last_axis.lift (ix5 b n h g i) t = ix6 b n h g i t :=
  funext fun a => Fin.ext (by match a with | ⟨0, _⟩ => rfl | ⟨1, _⟩ => rfl | ⟨2, _⟩ => rfl | ⟨3, _⟩ => rfl | ⟨4, _⟩ => rfl | ⟨5, _⟩ => rfl)

theorem max_at (b : Fin 2) (n : Fin 16) (h : Fin 2) (g : Fin 4) (i : Fin 128) :
    val_main_v53 (F := Ideal) z q k (ix5 b n h g i)
     = (Finset.univ : Finset (Fin 257)).fold max ⊥ fun t => val_main_v52 (F := Ideal) z q k (ix6 b n h g i t) := by
  unfold val_main_v53
  generalize val_main_v52 (F := Ideal) z q k = y
  have hw : val_main_cst_7 (F := Ideal) (Shape.Idx.first h_S_) = (⊥ : EReal) := Soft.neg_inf
  refine (max_fold y _ last_axis _).trans ?_
  rw [hw]
  exact congrArg (Finset.fold max ⊥ · _) (funext fun t => congrArg y (last_lift b n h g i t))

theorem e_at (b : Fin 2) (n : Fin 16) (h : Fin 2) (g : Fin 4) (i : Fin 128) (t : Fin 257) :
    val_main_v59 (F := Ideal) z q k (ix6 b n h g i t)
     = Ideal.exp (val_main_v52 (F := Ideal) z q k (ix6 b n h g i t) - max ⊥ (val_main_v53 (F := Ideal) z q k (ix5 b n h g i))) := by
  refine (val_main_v59_apply (F := Ideal) z q k _).trans ?_
  rw [val_main_v58_apply, val_main_v57_apply, val_main_v56_apply, val_main_v55_apply, val_main_v54_apply]
  have hi : idx_main_v56 (idx_main_v57 (ix6 b n h g i t)) = ix5 b n h g i :=
    funext fun a => Fin.ext (by match a with | ⟨0, _⟩ => rfl | ⟨1, _⟩ => rfl | ⟨2, _⟩ => rfl | ⟨3, _⟩ => rfl | ⟨4, _⟩ => rfl)
  have hw : val_main_cst_8 (F := Ideal) (idx_main_v54 (ix5 b n h g i)) = (⊥ : EReal) := Soft.neg_inf
  rw [hi, hw]
  generalize val_main_v53 (F := Ideal) z q k _ = M
  generalize val_main_v52 (F := Ideal) z q k _ = y
  rfl

theorem l_at (b : Fin 2) (n : Fin 16) (h : Fin 2) (g : Fin 4) (i : Fin 128) :
    val_main_v60 (F := Ideal) z q k (ix5 b n h g i)
     = Ideal.ofBits FTy.f32 0#32 + ∑ t : Fin 257, val_main_v59 (F := Ideal) z q k (ix6 b n h g i t) := by
  refine (val_main_v60_apply z q k _).trans ?_
  refine congrArg (_ + ·) (Finset.sum_congr rfl fun t _ => congrArg _ ?_)
  exact funext fun a => Fin.ext (by match a with | ⟨0, _⟩ => rfl | ⟨1, _⟩ => rfl | ⟨2, _⟩ => rfl | ⟨3, _⟩ => rfl | ⟨4, _⟩ => rfl | ⟨5, _⟩ => rfl)

theorem p_at (b : Fin 2) (n : Fin 16) (h : Fin 2) (g : Fin 4) (i : Fin 128) (t : Fin 256) :
    val_main_v64 (F := Ideal) z q k (ix6 b n h g i t)
     = Ideal.div (val_main_v59 (F := Ideal) z q k (ix6 b n h g i t.castSucc)) (val_main_v60 (F := Ideal) z q k (ix5 b n h g i)) := by
  unfold val_main_v64 val_main_v63 val_main_v62 val_main_v61
  generalize val_main_v60 (F := Ideal) z q k = M
  generalize val_main_v59 (F := Ideal) z q k = y
  pointwise
  rfl

theorem c_at (b : Fin 2) (n : Fin 16) (h : Fin 2) (g : Fin 4) (i : Fin 128) (t : Fin 257) :
    val_main_v52 (F := Ideal) z q k (ix6 b n h g i t)
     = if ht : t.val < 256 then val_main_v49 (F := Ideal) q k (ix6 b n h g i ⟨t.val, ht⟩) else z (ix2 0 ⟨h.val * 4 + g.val, by omega⟩) := by
  pointwise [val_main_v52, val_main_v51, val_main_v50]

theorem w_at (b : Fin 2) (n : Fin 16) (h : Fin 2) (g : Fin 4) (i : Fin 128) (t : Fin 256) :
    val_main_v49 (F := Ideal) q k (ix6 b n h g i t)
     = Scalar.select (val_main_v47 (F := Ideal) (ix3 n i t)) (val_main_v19 (F := Ideal) q k (ix6 b n h g i t)) (⊥ : EReal) := by
  pointwise [val_main_v49, val_main_call0_v1, val_main_call0_v2, val_main_call0_v0, val_main_cst_6, val_main_v48]
  exact congrArg _ Soft.neg_inf

theorem s_at (b : Fin 2) (n : Fin 16) (h : Fin 2) (g : Fin 4) (i : Fin 128) (t : Fin 256) :
    val_main_v19 (F := Ideal) q k (ix6 b n h g i t)
     = (∑ d : Fin 64, val_main_v9 (F := Ideal) k (ix5 b n t h d) * q (ix2 ⟨b.val * 2048 + n.val * 128 + i.val, by omega⟩ ⟨h.val * 256 + g.val * 64 + d.val, by omega⟩)) * Ideal.ofBits FTy.f32 0x3E000000#32 := by
  pointwise [val_main_v19, val_main_v18, val_main_cst_1, val_main_v17, val_main_v16, val_main_v3, val_main_v2]

theorem k_at (b : Fin 2) (n : Fin 16) (h : Fin 2) (t : Fin 256) (d : Fin 64) (hv : 0 < n.val ∨ 128 ≤ t.val) :
    val_main_v9 (F := Ideal) k (ix5 b n t h d) = k (ix2 ⟨b.val * 2048 + n.val * 128 + t.val - 128, by omega⟩ ⟨h.val * 64 + d.val, by omega⟩) := by
  pointwise [val_main_v9, val_main_v8, val_main_v7, val_main_v6, val_main_cst, val_main_v4, val_main_v0]
  split_ifs
  all_goals first | omega | exact congrArg k (congrArg (ix2 · _) (Fin.ext (by dsimp only; omega)))

theorem v_at (b : Fin 2) (n : Fin 16) (h : Fin 2) (t : Fin 256) (d : Fin 64) (hv : 0 < n.val ∨ 128 ≤ t.val) :
    val_main_v15 (F := Ideal) v (ix5 b n t h d) = v (ix2 ⟨b.val * 2048 + n.val * 128 + t.val - 128, by omega⟩ ⟨h.val * 64 + d.val, by omega⟩) := by
  pointwise [val_main_v15, val_main_v14, val_main_v13, val_main_v12, val_main_cst_0, val_main_v10, val_main_v1]
  split_ifs
  all_goals first | omega | exact congrArg v (congrArg (ix2 · _) (Fin.ext (by dsimp only; omega)))

/-- The reference's mask: a query sees itself and the 127 keys before it, none of them before the sequence. -/
theorem ok_at (n : Fin 16) (i : Fin 128) (t : Fin 256) :
    val_main_v47 (F := Ideal) (ix3 n i t)
     = BitVec.ofBool (decide ((t.val ≤ i.val + 128 ∧ i.val + 128 < t.val + 128) ∧ (0 < n.val ∨ 128 ≤ t.val))) := by
  have hn := n.isLt
  have ht := t.isLt
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_c, val_main_c_2, val_main_c_3, val_main_c_4, val_main_c_5]
  have e : IntOp.subi (IntOp.addi (BitVec.ofNat 32 i.val) 128#32) (BitVec.ofNat 32 t.val)
      = IntOp.addi (IntOp.subi (BitVec.ofNat 32 i.val) (BitVec.ofNat 32 t.val)) 128#32 := by
    show BitVec.ofNat 32 i.val + 128#32 - BitVec.ofNat 32 t.val = BitVec.ofNat 32 i.val - BitVec.ofNat 32 t.val + 128#32
    rw [BitVec.sub_eq_add_neg, BitVec.sub_eq_add_neg, BitVec.add_assoc, BitVec.add_comm 128#32, ← BitVec.add_assoc]
  rw [e, Soft.band 128 (.inr rfl) i t i.isLt t.isLt, WordCmp.cmpi_sgt_ofNat (by omega) (by omega),
    WordCmp.cmpi_sge_ofNat (by omega) (by omega), WordCmp.ori_ofBool, WordCmp.andi_ofBool]
  simp only [Bool.decide_and, Bool.decide_or]

end Cert.ReferenceFwdIdeal.Hand

end

end
-- ==== Proof.FwdEntry.lean ====
module

public import proofs.«01_k».proof.Proof.FwdRef
public import proofs.«01_k».proof.Proof.PoolRef

/-! The reference's attention of real queries, keys and sinks: each entry is a softmax over the keys in sight and the sink. -/

@[expose] public section

set_option maxRecDepth 16384

noncomputable section

namespace Cert.ReferenceFwdIdeal.Hand

open Idealize.ShloMosaic Idealize.ShloMosaic.TcCoe Idealize.SL.Sem
open Cert.ReferenceFwdIdeal.Read Cert.ReferenceFwdIdeal.Gen
open Cert.KernelPoolIdeal.Hand (coe_sum)

variable (z : FVec Ideal S1x8 .f32) (q : FVec Ideal S4096x512 .f32) (k v : FVec Ideal S4096x128 .f32)

/-- The weight a score is scaled by. -/
abbrev scale : EReal := Ideal.ofBits FTy.f32 0x3E000000#32

theorem scale_eq : scale = ((1 / 8 : ℝ) : EReal) := by
  simp [Ideal.ofBits, Ideal.ieee, -EReal.coe_mul]; norm_num

/-- Real keys and queries: the weight may be taken into the sum. -/
theorem weigh (a b : Fin 64 → EReal) (ha : ∀ d, a d = ((a d).toReal : EReal)) (hb : ∀ d, b d = ((b d).toReal : EReal)) :
    (∑ d, a d * b d) * scale = ((∑ d, (b d).toReal * (1 / 8) * (a d).toReal : ℝ) : EReal)
      ∧ ∑ d, b d * scale * a d = ((∑ d, (b d).toReal * (1 / 8) * (a d).toReal : ℝ) : EReal) := by
  rw [scale_eq, coe_sum]
  have e1 (d : Fin 64) : a d * b d = (((a d).toReal * (b d).toReal : ℝ) : EReal) := by
    rw [EReal.coe_mul, ← ha, ← hb]
  have e2 (d : Fin 64) : b d * ((1 / 8 : ℝ) : EReal) * a d = (((b d).toReal * (1 / 8) * (a d).toReal : ℝ) : EReal) := by
    rw [EReal.coe_mul, EReal.coe_mul, ← ha, ← hb]
  refine ⟨?_, Finset.sum_congr rfl fun d _ => e2 d⟩
  rw [Finset.sum_congr rfl fun d _ => e1 d, ← coe_sum, ← coe_sum, ← EReal.coe_mul, Finset.sum_mul]
  refine congrArg _ (Finset.sum_congr rfl fun d _ => ?_)
  ring

/-- A query's score against a key, the weight on the query. -/
abbrev dot (R K : Fin 4096) (C : Fin 8) : EReal :=
  ∑ d : Fin 64, q (ix2 R ⟨C.val * 64 + d.val, by omega⟩) * scale * k (ix2 K ⟨C.val / 4 * 64 + d.val, by omega⟩)

/-- The row of a query, and of the key its `t`-th score is taken against. -/
abbrev qRow (b : Fin 2) (n : Fin 16) (i : Fin 128) : Fin 4096 := ⟨b.val * 2048 + n.val * 128 + i.val, by omega⟩
abbrev kRow (b : Fin 2) (n : Fin 16) (t : Fin 256) : Fin 4096 := ⟨b.val * 2048 + n.val * 128 + t.val - 128, by omega⟩

/-- The keys a query sees. -/
abbrev Sees (n : Fin 16) (i : Fin 128) (t : Fin 256) : Prop :=
  (t.val ≤ i.val + 128 ∧ i.val + 128 < t.val + 128) ∧ (0 < n.val ∨ 128 ≤ t.val)

variable (hz : ∀ i, z i = ((z i).toReal : EReal)) (hq : ∀ i, q i = ((q i).toReal : EReal)) (hk : ∀ i, k i = ((k i).toReal : EReal))

include hq hk in
theorem dot_real (R K : Fin 4096) (C : Fin 8) : dot q k R K C ≠ ⊤ := by
  unfold dot
  rw [(weigh (fun d => k (ix2 K ⟨C.val / 4 * 64 + d.val, by omega⟩)) (fun d => q (ix2 R ⟨C.val * 64 + d.val, by omega⟩)) (fun _ => hk _) fun _ => hq _).2]
  exact EReal.coe_ne_top _

include hq hk in
/-- The reference's masked scores. -/
theorem masked_at (b : Fin 2) (n : Fin 16) (h : Fin 2) (g : Fin 4) (i : Fin 128) (t : Fin 256) (C : Fin 8) (hC : C.val = h.val * 4 + g.val) :
    val_main_v49 (F := Ideal) q k (ix6 b n h g i t)
     = if Sees n i t then dot q k (qRow b n i) (kRow b n t) C else ⊥ := by
  rw [w_at, ok_at, WordCmp.select_ofBool]
  by_cases hs : Sees n i t
  · rw [if_pos (decide_eq_true hs), if_pos hs, s_at]
    simp only [k_at k b n h t _ hs.2]
    refine (weigh (fun d => k (ix2 (kRow b n t) ⟨h.val * 64 + d.val, by omega⟩)) (fun d => q (ix2 (qRow b n i) ⟨h.val * 256 + g.val * 64 + d.val, by omega⟩)) (fun _ => hk _) fun _ => hq _).1.trans ?_
    refine (weigh (fun d => k (ix2 (kRow b n t) ⟨h.val * 64 + d.val, by omega⟩)) (fun d => q (ix2 (qRow b n i) ⟨h.val * 256 + g.val * 64 + d.val, by omega⟩)) (fun _ => hk _) fun _ => hq _).2.symm.trans ?_
    refine Finset.sum_congr rfl fun d _ => ?_
    have e1 : (⟨h.val * 256 + g.val * 64 + d.val, by omega⟩ : Fin 512) = ⟨C.val * 64 + d.val, by omega⟩ := Fin.ext (by dsimp only; omega)
    have e2 : (⟨h.val * 64 + d.val, by omega⟩ : Fin 128) = ⟨C.val / 4 * 64 + d.val, by omega⟩ := Fin.ext (by dsimp only; omega)
    rw [e1, e2]
  · rw [if_neg (by rw [decide_eq_true_eq]; exact hs), if_neg hs]

include hz hq hk in
/-- An entry of the reference's result. -/
theorem entry_at (b : Fin 2) (n : Fin 16) (h : Fin 2) (g : Fin 4) (i : Fin 128) (d : Fin 64) (C : Fin 8) (hC : C.val = h.val * 4 + g.val) :
    val_main_v65 (F := Ideal) z q k v (ix6 b n h d g i)
     = Soft.att (fun t => if Sees n i t then dot q k (qRow b n i) (kRow b n t) C else ⊥) (z (ix2 0 C))
        fun t => val_main_v15 (F := Ideal) v (ix5 b n t h d) := by
  have hs : (fun t : Fin 256 => val_main_v52 (F := Ideal) z q k (ix6 b n h g i t.castSucc))
      = fun t => if Sees n i t then dot q k (qRow b n i) (kRow b n t) C else ⊥ := funext fun t =>
    ((c_at z q k b n h g i t.castSucc).trans (dif_pos t.isLt)).trans (masked_at q k hq hk b n h g i t C hC)
  have hl : val_main_v52 (F := Ideal) z q k (ix6 b n h g i (Fin.last 256)) = z (ix2 0 C) :=
    ((c_at z q k b n h g i (Fin.last 256)).trans (dif_neg (lt_irrefl 256))).trans
      (congrArg (fun u => z (ix2 0 u)) (Fin.ext hC.symm))
  rw [d_at, ← hs, ← hl]
  refine Eq.trans ?_ (Soft.att_snoc (fun t => val_main_v52 (F := Ideal) z q k (ix6 b n h g i t)) _ ?_)
  · refine Finset.sum_congr rfl fun t _ => congrArg (_ * ·) ?_
    rw [p_at, l_at, e_at, max_at]
    refine congrArg (Ideal.div _) ?_
    rw [Ideal.ofBits_zero_f32]
    refine congrArg (0 + ·) (Finset.sum_congr rfl fun u _ => ?_)
    rw [e_at, max_at]
  · rw [hs, hl, hz]
    refine Soft.norm_ne _ _ fun t => ?_
    split_ifs
    · exact dot_real q k hq hk _ _ _
    · exact bot_ne_top

end Cert.ReferenceFwdIdeal.Hand

end

end
-- ==== Proof.FwdValue.lean ====
module

public import proofs.«01_k».proof.Proof.Gen.KernelFwdIdeal.Value
public import proofs.«01_k».proof.Proof.FwdPieces
public import proofs.«01_k».proof.Proof.FwdEntry

/-! The attention's forward call: what the grid leaves is what the reference writes. -/

@[expose] public section

set_option maxRecDepth 16384

noncomputable section

open Idealize.ShloMosaic Idealize.ShloMosaic.TcCoe Idealize.SL.Sem
open Idealize.ShloMosaic.Pipeline (Dat)

namespace Cert.KernelFwdIdeal.Hand

open Cert.KernelFwdIdeal Cert.KernelFwdIdeal.Gen
open Cert.ReferenceFwdIdeal.Read
open Cert.ReferenceFwdIdeal.Hand

/-- A row of a sequence, as a row of the whole array. -/
abbrev glob (T : Fin 2) (r : Fin 2048) : Fin 4096 := ⟨T.val * 2048 + r.val, by omega⟩

/-- The key head's lane that a query lane reads. -/
abbrev kvLane (l : Fin 512) : Fin 128 := ⟨l.val / 256 * 64 + l.val % 64, by omega⟩

/-- Where the reference's `t`-th key of a block stands among the keys the kernel loads for it: the first block loads no
    block before its own, so its keys come half a turn earlier. -/
def turnKeys (n : ℕ) : Equiv.Perm (Fin 256) := if n = 0 then Equiv.addRight 128 else Equiv.refl _

theorem turn_first (t : Fin 256) : (turnKeys 0 t).val = (t.val + 128) % 256 := by
  unfold turnKeys
  rw [if_pos rfl]
  exact Fin.val_add t 128

theorem turn_later (n : ℕ) (hn : n ≠ 0) (t : Fin 256) : turnKeys n t = t := by
  unfold turnKeys
  rw [if_neg hn]
  rfl

section Link

variable (z : FVec Ideal S1x8 .f32) (q : FVec Ideal S4096x512 .f32) (k v : FVec Ideal S4096x128 .f32)
variable (hz : ∀ i, z i = ((z i).toReal : EReal)) (hq : ∀ i, q i = ((q i).toReal : EReal)) (hk : ∀ i, k i = ((k i).toReal : EReal))
variable (T : Fin 2) (X1 X2 X3 : FVec Ideal S2048x512 .bf16)
variable (h1 : ∀ a l, X1 (ix2 a l) = q (ix2 (glob T a) l) * scale) (h2 : ∀ a l, X2 (ix2 a l) = k (ix2 (glob T a) (kvLane l)))
  (h3 : ∀ a l, X3 (ix2 a l) = v (ix2 (glob T a) (kvLane l)))

/-- A key in sight is the same row for both. -/
theorem key_row (r : Fin 2048) (t : Fin 256) (hs : 0 < r.val / 128 ∨ 128 ≤ t.val) :
    glob T (keyRow r.val r.isLt (turnKeys (r.val / 128) t)) = kRow T ⟨r.val / 128, by omega⟩ t := by
  refine Fin.ext ?_
  unfold keyRow
  dsimp only
  rcases Nat.eq_zero_or_pos (r.val / 128) with h0 | h0
  · rw [h0, turn_first]
    omega
  · rw [turn_later _ h0.ne']
    omega

/-- Both see the same keys. -/
theorem sees_iff (r : Fin 2048) (t : Fin 256) :
    ((turnKeys (r.val / 128) t).val ≤ r.val % 128 + (if r.val / 128 = 0 then 0 else 128)
        ∧ r.val % 128 + (if r.val / 128 = 0 then 0 else 128) < (turnKeys (r.val / 128) t).val + 128)
      ↔ Sees ⟨r.val / 128, by omega⟩ ⟨r.val % 128, by omega⟩ t := by
  unfold Sees
  dsimp only
  rcases Nat.eq_zero_or_pos (r.val / 128) with h0 | h0
  · rw [h0, turn_first, if_pos rfl]
    omega
  · rw [turn_later _ h0.ne', if_neg h0.ne']
    omega

include h1 h2 in
theorem dot_at (r kr : Fin 2048) (K : Fin 4096) (hK : glob T kr = K) (R : Fin 4096) (hR : glob T r = R) (C : Fin 8) :
    ∑ d : Fin 64, X1 (ix2 r ⟨C.val * 64 + d.val, by omega⟩) * X2 (ix2 kr ⟨C.val * 64 + d.val, by omega⟩) = dot q k R K C := by
  subst hK hR
  refine Finset.sum_congr rfl fun d _ => ?_
  rw [h1, h2]
  exact congrArg (fun u => q (ix2 _ _) * scale * k (ix2 _ u)) (Fin.ext (by dsimp only; omega))

include hz hq hk h1 h2 h3 in
theorem link (r : Fin 2048) (j : Fin 512) :
    entry (fun g => z (ix2 0 g)) X1 X2 X3 r.val r.isLt j.val j.isLt = val_main_v69 (F := Ideal) z q k v (ix2 (glob T r) j) := by
  refine Eq.symm ((o_at z q k v (glob T r) j).trans ?_)
  have eb : (⟨(glob T r).val / 2048, by omega⟩ : Fin 2) = T := Fin.ext (by dsimp only; omega)
  have en : (⟨(glob T r).val / 128 % 16, by omega⟩ : Fin 16) = ⟨r.val / 128, by omega⟩ := Fin.ext (by dsimp only; omega)
  have ei : (⟨(glob T r).val % 128, by omega⟩ : Fin 128) = ⟨r.val % 128, by omega⟩ := Fin.ext (by dsimp only; omega)
  rw [eb, en, ei]
  refine (entry_at z q k v hz hq hk T _ _ _ _ _ ⟨j.val / 64, by omega⟩ (by dsimp only; omega)).trans ?_
  unfold entry
  refine (Soft.att_perm (turnKeys (r.val / 128)) _ _ _ _ _ (fun t => ?_) fun t => ?_).symm
  · by_cases hs : Sees ⟨r.val / 128, by omega⟩ ⟨r.val % 128, by omega⟩ t
    · rw [if_pos hs, if_pos ((sees_iff r t).2 hs), add_zero]
      exact dot_at q k T X1 X2 h1 h2 r _ _ (key_row T r t hs.2) _ (Fin.ext (by dsimp only; omega)) ⟨j.val / 64, by omega⟩
    · rw [if_neg hs, if_neg (fun h => hs ((sees_iff r t).1 h))]
      exact EReal.add_bot _
  · by_cases hs : Sees ⟨r.val / 128, by omega⟩ ⟨r.val % 128, by omega⟩ t
    · right
      rw [h3, v_at v _ _ _ _ _ hs.2, key_row T r t hs.2]
    · exact .inl (if_neg hs)

end Link

variable (m : (ℓ : Loc nD τ sig) → Buf (Elt Ideal) ℓ)

/-- Argument arrays at their literal types. -/
abbrev a0 (c : Dev nD) : FVec Ideal S1x8 .f32 := m ((c.tc : Thread nD τ).loc main_arg0)
abbrev a1 (c : Dev nD) : FVec Ideal S4096x512 .f32 := m ((c.tc : Thread nD τ).loc main_arg1)
abbrev a2 (c : Dev nD) : FVec Ideal S4096x128 .f32 := m ((c.tc : Thread nD τ).loc main_arg2)
abbrev a3 (c : Dev nD) : FVec Ideal S4096x128 .f32 := m ((c.tc : Thread nD τ).loc main_arg3)

theorem idx : ∀ t : Fin cfg0.N, win0_0.index t = ![0, 0] ∧ win0_1.index t = ![t.val, 0] ∧ win0_2.index t = ![t.val, 0]
    ∧ win0_3.index t = ![t.val, 0] ∧ win0_4.index t = ![t.val, 0] :=
  (by decide +kernel : ∀ t : Fin grid0.N, _)

/-- A point's sequence. -/
abbrev seq (t : Fin cfg0.N) : Fin 2 := ⟨t.val, t.isLt.trans_eq N_0⟩

/-- Each key head's lanes laid out four times, as the call's host lines do it. -/
def spread (X : FVec Ideal S4096x128 .f32) : FVec Ideal S4096x512 .f32 :=
  let A := extractStridedSlice S4096x64 ![0, 0] X slices_S4096x128_S4096x64_0_0
  let B := extractStridedSlice S4096x64 ![0, 64] X slices_S4096x128_S4096x64_0_64
  concatenate S4096x512 1 [⟨S4096x64, A⟩, ⟨S4096x64, A⟩, ⟨S4096x64, A⟩, ⟨S4096x64, A⟩, ⟨S4096x64, B⟩, ⟨S4096x64, B⟩, ⟨S4096x64, B⟩, ⟨S4096x64, B⟩]
    concatenates_S4096x64_S4096x64_S4096x64_S4096x64_S4096x64_S4096x64_S4096x64_S4096x64_S4096x512_d1

theorem spread_at (X : FVec Ideal S4096x128 .f32) (r : Fin 4096) (l : Fin 512) : spread X (ix2 r l) = X (ix2 r (kvLane l)) := by
  unfold spread
  pointwise []
  split_ifs <;> first | omega | exact congrArg X (congrArg (ix2 r) (Fin.ext (by dsimp only; omega)))

theorem host_q (c : Dev nD) : (V m c main_v2 : FVec Ideal S4096x512 .bf16)
    = truncf .bf16 (mulf (a1 m c) (broadcastInDim S4096x512 ![] bcast_S_S4096x512 (constant (F := Ideal) S_ .f32 0x3E000000#32 : FVec Ideal S_ .f32))) bitsLt_bf16_f32 := rfl
theorem host_k (c : Dev nD) : (V m c main_v6 : FVec Ideal S4096x512 .bf16) = truncf .bf16 (spread (a2 m c)) bitsLt_bf16_f32 := rfl
theorem host_v (c : Dev nD) : (V m c main_v10 : FVec Ideal S4096x512 .bf16) = truncf .bf16 (spread (a3 m c)) bitsLt_bf16_f32 := rfl

theorem blk0 (c : Dev nD) (t : Fin cfg0.N) : iblk m c 0 t = a0 m c := by
  blk_ext! [iblk, V, idx t]

theorem blk1 (c : Dev nD) (t : Fin cfg0.N) (a : Fin 2048) (l : Fin 512) :
    (iblk m c 1 t : FVec Ideal S2048x512 .bf16) (ix2 a l) = a1 m c (ix2 (glob (seq t) a) l) * scale := by
  have e : (iblk m c 1 t : FVec Ideal S2048x512 .bf16) (ix2 a l) = (V m c main_v2 : FVec Ideal S4096x512 .bf16) (ix2 (glob (seq t) a) l) := by
    blk_ext [iblk, idx t]
  rw [e, host_q]
  pointwise []

theorem blk2 (c : Dev nD) (t : Fin cfg0.N) (a : Fin 2048) (l : Fin 512) :
    (iblk m c 2 t : FVec Ideal S2048x512 .bf16) (ix2 a l) = a2 m c (ix2 (glob (seq t) a) (kvLane l)) := by
  have e : (iblk m c 2 t : FVec Ideal S2048x512 .bf16) (ix2 a l) = (V m c main_v6 : FVec Ideal S4096x512 .bf16) (ix2 (glob (seq t) a) l) := by
    blk_ext [iblk, idx t]
  rw [e, host_k]
  exact spread_at (a2 m c) _ l

theorem blk3 (c : Dev nD) (t : Fin cfg0.N) (a : Fin 2048) (l : Fin 512) :
    (iblk m c 3 t : FVec Ideal S2048x512 .bf16) (ix2 a l) = a3 m c (ix2 (glob (seq t) a) (kvLane l)) := by
  have e : (iblk m c 3 t : FVec Ideal S2048x512 .bf16) (ix2 a l) = (V m c main_v10 : FVec Ideal S4096x512 .bf16) (ix2 (glob (seq t) a) l) := by
    blk_ext [iblk, idx t]
  rw [e, host_v]
  exact spread_at (a3 m c) _ l

theorem emb4 (t : Fin cfg0.N) (a : Fin 2048) (l : Fin 512) : ((cfg0.win 4).blk t).view.emb (ix2 a l : S2048x512.Idx) = ix2 (glob (seq t) a) l := by
  blk_point [idx t]

/-- What the call writes is what the reference returns. -/
theorem final4 (c : Dev nD) (hz : ∀ i, a0 m c i = ((a0 m c i).toReal : EReal)) (hq : ∀ i, a1 m c i = ((a1 m c i).toReal : EReal))
    (hk : ∀ i, a2 m c i = ((a2 m c i).toReal : EReal)) :
    (dats m 0 c).arrAt 4 (cfgs 0).N = val_main_v69 (F := Ideal) (a0 m c) (a1 m c) (a2 m c) (a3 m c) := by
  refine (dats m 0 c).arrAt_eq_of_covers 4 _ (by decide +kernel) fun t _ y => ?_
  blk_simp
  rw [after0_4]
  unfold outsAt0
  idx_vars y
  rw [emb4, out_at]
  unfold whole
  rw [blk0]
  exact link (a0 m c) (a1 m c) (a2 m c) (a3 m c) hz hq hk (seq t) _ _ _ (blk1 m c t) (blk2 m c t) (blk3 m c t) y0 y1

end Cert.KernelFwdIdeal.Hand

end

end
-- ==== Proof.FwdPair.lean ====
/-
  The attention's forward call: its value claim.
-/
module

public import proofs.«01_k».proof.Defs
public import proofs.«01_k».proof.Proof.Gen.KernelFwdIdeal
public import proofs.«01_k».proof.Proof.Gen.ReferenceFwdIdeal
public import proofs.«01_k».proof.Proof.Gen.ReferenceFwdIdeal.Run
public import proofs.«01_k».proof.Proof.FwdValue
public import proofs.«01_k».proof.Proof.PoolPair
public import Idealize.ShloMosaic.Lib.Quiescent
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Pairs

/-- The precondition's shape relations. -/
theorem finite_fwd : Cert.Pre_finite_fwd.Facts := ⟨by decide, by decide, by decide⟩

open Cert.ReferenceFwdIdeal in
/-- The reference's run with its result named by the stage that computes it; its arguments stay as they were. -/
theorem run_fwdR (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v69) = Read.val_main_v69 (F := Ideal)
        (m (c.tc.loc main_arg0)) (m (c.tc.loc main_arg1)) (m (c.tc.loc main_arg2)) (m (c.tc.loc main_arg3))
      ∧ r.2.mem ((c.tc : Thread nD τ).loc main_arg0) = m (c.tc.loc main_arg0)
      ∧ r.2.mem ((c.tc : Thread nD τ).loc main_arg1) = m (c.tc.loc main_arg1)
      ∧ r.2.mem ((c.tc : Thread nD τ).loc main_arg2) = m (c.tc.loc main_arg2)
      ∧ r.2.mem ((c.tc : Thread nD τ).loc main_arg3) = m (c.tc.loc main_arg3) :=
  (θ_run _ _ _).mono (fun _ h c => ⟨(h c).1.trans (Read.val_main_v69_eq _ _), (h c).2⟩) (Value.run m g)

theorem pair_fwd : Cert.algebraic_KernelFwdIdeal_ReferenceFwdIdeal_pre_finite_fwd (hPre_finite_fwd := finite_fwd) := by
  pair_intro
  · run_from Cert.KernelFwdIdeal.Value.run_blocks m g
  · have f0 (c) := real_of_below _ (congrFun (hpre c).1)
    have f1 (c) := real_of_below _ (congrFun (hpre c).2.1)
    have f2 (c) := real_of_below _ (congrFun (hpre c).2.2)
    refine θ_run_mono (run_fwdR m' g') fun r h c => ⟨(h c).1.trans ?_, (h c).2⟩
    rw [(hagree c).1, (hagree c).2.1, (hagree c).2.2.1, (hagree c).2.2.2]
    exact (Cert.KernelFwdIdeal.Hand.final4 m c (fun i => (f0 c i).symm) (fun i => (f1 c i).symm) fun i => (f2 c i).symm).symm

end Cert.Pairs

end

end
-- ==== Proof.UpValue.lean ====
/-
  The channel mixer's first product with the squared rectifier: what the grid leaves is what the reference writes.
-/
module

public import proofs.«01_k».proof.Proof.Gen.KernelUpIdeal.Value
public import proofs.«01_k».proof.Proof.Gen.ReferenceUpIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelUpIdeal.Hand

open Cert.KernelUpIdeal Cert.KernelUpIdeal.Gen
open Cert.ReferenceUpIdeal.Read

variable (m : (ℓ : Loc nD τ sig) → Buf (Elt Ideal) ℓ)

/-- Argument arrays at their literal types. -/
abbrev a0 (c : Dev nD) : FVec Ideal S4096x1024 .f32 := m ((c.tc : Thread nD τ).loc main_arg0)
abbrev a1 (c : Dev nD) : FVec Ideal S1x1024x4096 .f32 := m ((c.tc : Thread nD τ).loc main_arg1)

theorem idx : ∀ t : Fin cfg0.N, win0_0.index t = ![t.val, 0] ∧ win0_1.index t = ![0, 0, 0] ∧ win0_2.index t = ![t.val, 0] :=
  (by decide +kernel : ∀ t : Fin grid0.N, _)

/-- A row of a point's block, as a row of the whole array. -/
abbrev row (t : Fin cfg0.N) (s : Fin 512) : Fin 4096 :=
  ⟨t.val * 512 + s.val, by have := t.isLt.trans_eq N_0; have := s.isLt; omega⟩

theorem rows_at (c : Dev nD) (t : Fin cfg0.N) (s : Fin 512) (k : Fin 1024) :
    (iblk m c 0 t : FVec Ideal S512x1024 .bf16) (ix2 s k) = a0 m c (ix2 (row t s) k) := by
  blk_simp [iblk, V, idx t]
  entry_read
  pointwise []
  blk_ext [idx t]

/-- A chunk of the weight, as a point loads it. -/
theorem chunk_ld (c : Dev nD) (t : Fin cfg0.N) (j : ℕ) (hj : j < 8)
    (h : ∀ a, (![j, 0, 0] : Fin 3 → Nat) a + (![1, 1024, 512] : Fin 3 → Nat) a ≤ S8x1024x512.size a) (k : Fin 1024) (e : Fin 512) :
    (View.ld (iblk m c 1 t) (Rect.unit ![j, 0, 0] ![1, 1024, 512] h) : FVec Ideal S1x1024x512 .bf16) (ix3 0 k e)
      = a1 m c (ix3 0 k ⟨512 * j + e.val, by omega⟩) := by
  pointwise []
  blk_simp [iblk, V, idx t]
  entry_read
  pointwise []
  blk_ext [idx t]

/-- The squared rectifier of a product, for any operands. -/
theorem square_at (h : FVec Ideal S512x1024 .bf16) (w : FVec Ideal S1x1024x512 .bf16) (s e : Fin 512) :
    k0_pay3 h w (ix2 s e) = max (∑ k : Fin 1024, h (ix2 s k) * w (ix3 0 k e)) 0 * max (∑ k : Fin 1024, h (ix2 s k) * w (ix3 0 k e)) 0 := by
  pointwise [k0_pay3, k0_pay2]

theorem ref_at (c : Dev nD) (r e : Fin 4096) : val_main_v4 (F := Ideal) (a0 m c) (a1 m c) (ix2 r e)
    = max (∑ k : Fin 1024, a0 m c (ix2 r k) * a1 m c (ix3 0 k e)) 0 * max (∑ k : Fin 1024, a0 m c (ix2 r k) * a1 m c (ix3 0 k e)) 0 := by
  pointwise [val_main_v4, val_main_v3, val_main_v2, val_main_v1, val_main_v0, val_main_call0_v0, val_main_call0_cst]

/-- A chunk of the activations, at its columns `o …`. -/
theorem up_at (c : Dev nD) (t : Fin cfg0.N) (j o : ℕ) (ho : o = 512 * j) (hj : j < 8)
    (h : ∀ a, (![j, 0, 0] : Fin 3 → Nat) a + (![1, 1024, 512] : Fin 3 → Nat) a ≤ S8x1024x512.size a)
    (x : S512x512.Idx) (y : S512x4096.Idx) (q0 : (y 0).val = (x 0).val) (q1 : (y 1).val = o + (x 1).val) :
    k0_pay3 (iblk m c 0 t) (View.ld (iblk m c 1 t) (Rect.unit ![j, 0, 0] ![1, 1024, 512] h)) x
      = val_main_v4 (F := Ideal) (a0 m c) (a1 m c) (((cfg0.win 2).blk t).view.emb y) := by
  subst ho
  idx_vars x
  have e : ((cfg0.win 2).blk t).view.emb y = ix2 (row t x0) ⟨512 * j + x1.val, by have : x1.val < 512 := x1.isLt; omega⟩ := by
    blk_ext [idx t]
  rw [e, square_at, ref_at]
  simp only [rows_at, chunk_ld m c t j hj]

theorem cover2 (p0 p1 p2 p3 p4 p5 p6 p7) (j : S512x4096.Idx) :
    ∃ P ∈ [(⟨Rect.unit ![0, 3584] ![512, 512] inb_S512x4096_S512x512_0_3584, p7⟩ : View.Piece (Elt Ideal) S512x4096 .bf16),
      ⟨Rect.unit ![0, 3072] ![512, 512] inb_S512x4096_S512x512_0_3072, p6⟩,
      ⟨Rect.unit ![0, 2560] ![512, 512] inb_S512x4096_S512x512_0_2560, p5⟩,
      ⟨Rect.unit ![0, 2048] ![512, 512] inb_S512x4096_S512x512_0_2048, p4⟩,
      ⟨Rect.unit ![0, 1536] ![512, 512] inb_S512x4096_S512x512_0_1536, p3⟩,
      ⟨Rect.unit ![0, 1024] ![512, 512] inb_S512x4096_S512x512_0_1024, p2⟩,
      ⟨Rect.unit ![0, 512] ![512, 512] inb_S512x4096_S512x512_0_512, p1⟩,
      ⟨Rect.unit ![0, 0] ![512, 512] inb_S512x4096_S512x512_0_0, p0⟩], j ∈ P.1.set := by
  have h0 : (j 0).val < 512 := (j 0).isLt
  have h1 : (j 1).val < 4096 := (j 1).isLt
  simp only [List.mem_cons, List.not_mem_nil, or_false, exists_eq_or_imp, exists_eq_left, Rect.mem_set_unit, Fin.forall_fin_two]
  simp
  omega

theorem final2 (c : Dev nD) : (dats m 0 c).arrAt 2 (cfgs 0).N = val_main_v4 (F := Ideal) (a0 m c) (a1 m c) := by
  refine (dats m 0 c).arrAt_eq_of_covers 2 _ (by decide +kernel) fun t _ y => ?_
  blk_simp
  rw [after0_2]
  unfold_out out0_2
  frame_out
  canon_tiles x q using cover2 _ _ _ _ _ _ _ _ y
  · exact up_at m c t 7 3584 rfl (by decide) _ x y q0 q1
  · exact up_at m c t 6 3072 rfl (by decide) _ x y q0 q1
  · exact up_at m c t 5 2560 rfl (by decide) _ x y q0 q1
  · exact up_at m c t 4 2048 rfl (by decide) _ x y q0 q1
  · exact up_at m c t 3 1536 rfl (by decide) _ x y q0 q1
  · exact up_at m c t 2 1024 rfl (by decide) _ x y q0 q1
  · exact up_at m c t 1 512 rfl (by decide) _ x y q0 q1
  · exact up_at m c t 0 0 rfl (by decide) _ x y q0 (q1.trans (zero_add _).symm)

end Cert.KernelUpIdeal.Hand

end
-- ==== Proof.UpPair.lean ====
/-
  The up projection's forward call: its value claim.
-/
module

public import proofs.«01_k».proof.Defs
public import proofs.«01_k».proof.Proof.Gen.KernelUpIdeal
public import proofs.«01_k».proof.Proof.Gen.ReferenceUpIdeal
public import proofs.«01_k».proof.Proof.Gen.ReferenceUpIdeal.Run
public import proofs.«01_k».proof.Proof.UpValue
public import Idealize.ShloMosaic.Lib.Quiescent
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Pairs

open Cert.ReferenceUpIdeal in
/-- The reference's run: the squared rectified product, and both arguments as they were. -/
theorem run_upR (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = Read.val_main_v4 (F := Ideal) (m (c.tc.loc main_arg0)) (m (c.tc.loc main_arg1))
      ∧ r.2.mem ((c.tc : Thread nD τ).loc main_arg0) = m (c.tc.loc main_arg0)
      ∧ r.2.mem ((c.tc : Thread nD τ).loc main_arg1) = m (c.tc.loc main_arg1) :=
  (θ_run _ _ _).mono (fun _ h c => ⟨(h c).1.trans (Read.val_main_v4_eq _ _), (h c).2⟩) (Value.run m g)

theorem pair_up : Cert.algebraic_KernelUpIdeal_ReferenceUpIdeal := by
  pair_intro
  · run_from Cert.KernelUpIdeal.Value.run_blocks m g
  · refine θ_run_mono (run_upR m' g') fun r h c => ⟨(h c).1.trans ?_, (h c).2⟩
    rw [(hagree c).1, (hagree c).2]
    exact (Cert.KernelUpIdeal.Hand.final2 m c).symm

end Cert.Pairs

end

end
-- ==== Proof.MergeValue.lean ====
/-
  The branches' merge: the merged rows through the output weight, the residual after its norm and the next block's normed
  rows, as the grid leaves them, are what the reference writes.
-/
module

public import proofs.«01_k».proof.Proof.Gen.KernelMergeIdeal.Value
public import proofs.«01_k».proof.Proof.Gen.ReferenceMergeIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMergeIdeal.Hand

open Cert.KernelMergeIdeal Cert.KernelMergeIdeal.Gen
open Cert.ReferenceMergeIdeal.Read

variable (m : (ℓ : Loc nD τ sig) → Buf (Elt Ideal) ℓ)

/-- Argument arrays at their literal types. -/
abbrev a0 (c : Dev nD) : FVec Ideal S4096x512 .bf16 := m ((c.tc : Thread nD τ).loc main_arg0)
abbrev a1 (c : Dev nD) : FVec Ideal S4096x512 .bf16 := m ((c.tc : Thread nD τ).loc main_arg1)
abbrev a2 (c : Dev nD) : FVec Ideal S4096x2048 .f32 := m ((c.tc : Thread nD τ).loc main_arg2)
abbrev a3 (c : Dev nD) : FVec Ideal S4096x1024 .f32 := m ((c.tc : Thread nD τ).loc main_arg3)
abbrev a4 (c : Dev nD) : FVec Ideal S1x512x1024 .f32 := m ((c.tc : Thread nD τ).loc main_arg4)
abbrev a5 (c : Dev nD) : FVec Ideal S1x512x1024 .f32 := m ((c.tc : Thread nD τ).loc main_arg5)
abbrev a6 (c : Dev nD) : FVec Ideal S1x1024x1024 .f32 := m ((c.tc : Thread nD τ).loc main_arg6)
abbrev a7 (c : Dev nD) : FVec Ideal S1x1024 .f32 := m ((c.tc : Thread nD τ).loc main_arg7)
abbrev a8 (c : Dev nD) : FVec Ideal S1x1024 .f32 := m ((c.tc : Thread nD τ).loc main_arg8)

theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] :=
  (by decide +kernel : ∀ t : Fin grid0.N, _)

/-- A row of a point's block, as a row of the whole array. -/
abbrev row (t : Fin cfg0.N) (s : Fin 512) : Fin 4096 :=
  ⟨t.val * 512 + s.val, by have := t.isLt.trans_eq N_0; have := s.isLt; omega⟩

theorem blk0 (c : Dev nD) (t : Fin cfg0.N) : iblk m c 0 t = fun y : S512x512.Idx => a0 m c (ix2 (row t (y 0)) (y 1)) := by
  funext y
  blk_ext [iblk, V, idx t]

theorem blk1 (c : Dev nD) (t : Fin cfg0.N) : iblk m c 1 t = fun y : S512x512.Idx => a1 m c (ix2 (row t (y 0)) (y 1)) := by
  funext y
  blk_ext [iblk, V, idx t]

/-- The gates, as the call's host lines make them. -/
theorem host_g (c : Dev nD) : @Eq (FVec Ideal S4096x2048 .bf16) (V m c main_v6)
    (truncf .bf16 (val_main_v5 (F := Ideal) (a2 m c) : FVec Ideal S4096x2048 .f32) bitsLt_bf16_f32) := rfl

theorem blk2 (c : Dev nD) (t : Fin cfg0.N) : iblk m c 2 t = fun y : S512x2048.Idx => val_main_v5 (F := Ideal) (a2 m c) (ix2 (row t (y 0)) (y 1)) := by
  funext y
  blk_simp [iblk, idx t]
  rw [host_g]
  pointwise []
  blk_ext [idx t]

theorem blk3 (c : Dev nD) (t : Fin cfg0.N) : iblk m c 3 t = fun y : S512x1024.Idx => a3 m c (ix2 (row t (y 0)) (y 1)) := by
  funext y
  blk_ext [iblk, V, idx t]

theorem blk6 (c : Dev nD) (t : Fin cfg0.N) : iblk m c 6 t = fun y : S1024x1024.Idx => a6 m c (ix3 0 (y 0) (y 1)) := by
  funext y
  idx_vars y
  blk_ext! [iblk, V, idx t]

theorem blk7 (c : Dev nD) (t : Fin cfg0.N) : iblk m c 7 t = a7 m c := by
  blk_ext! [iblk, V, idx t]

theorem blk8 (c : Dev nD) (t : Fin cfg0.N) : iblk m c 8 t = a8 m c := by
  blk_ext! [iblk, V, idx t]

/-- A branch's weight, laid out as the grid keeps it between points. -/
abbrev wide (W : FVec Ideal S1x512x1024 .f32) : FVec Ideal S512x1024 .bf16 := fun y => W (ix3 0 (y 0) (y 1))

theorem blk4 (c : Dev nD) (t : Fin cfg0.N) (j : Fin 8) (k : Fin 512) (e : Fin 128) :
    (iblk m c 4 t : FVec Ideal S8x512x128 .bf16) (ix3 j k e) = a4 m c (ix3 0 k ⟨128 * j.val + e.val, by omega⟩) := by
  blk_simp [iblk, V, idx t]
  entry_read
  pointwise []
  blk_ext [idx t]

theorem blk5 (c : Dev nD) (t : Fin cfg0.N) (j : Fin 8) (k : Fin 512) (e : Fin 128) :
    (iblk m c 5 t : FVec Ideal S8x512x128 .bf16) (ix3 j k e) = a5 m c (ix3 0 k ⟨128 * j.val + e.val, by omega⟩) := by
  blk_simp [iblk, V, idx t]
  entry_read
  pointwise []
  blk_ext [idx t]

/-- A column piece of a branch's weight, as the first point stores it. -/
def piece (Z : Vec Ideal S8x512x128 .bf16) (j : ℕ)
    (h : ∀ a, (![j, 0, 0] : Fin 3 → Nat) a + (![1, 512, 128] : Fin 3 → Nat) a ≤ S8x512x128.size a) : FVec Ideal S512x128 .bf16 :=
  k0_pay3 (View.ld Z (Rect.unit ![j, 0, 0] ![1, 512, 128] h))

theorem piece_at (Z : Vec Ideal S8x512x128 .bf16) (W : FVec Ideal S1x512x1024 .f32)
    (hZ : ∀ (j : Fin 8) (k : Fin 512) (e : Fin 128), Z (ix3 j k e) = W (ix3 0 k ⟨128 * j.val + e.val, by omega⟩))
    (j o : ℕ) (ho : o = 128 * j) (hj : j < 8)
    (h : ∀ a, (![j, 0, 0] : Fin 3 → Nat) a + (![1, 512, 128] : Fin 3 → Nat) a ≤ S8x512x128.size a)
    (x : S512x128.Idx) (y : S512x1024.Idx) (q0 : (y 0).val = (x 0).val) (q1 : (y 1).val = o + (x 1).val) :
    piece Z j h x = wide W y := by
  subst ho
  idx_vars x
  have e : piece Z j h (ix2 x0 x1) = Z (ix3 ⟨j, hj⟩ x0 x1) := by
    unfold piece
    pointwise [k0_pay3]
  rw [e, hZ]
  exact congrArg W (congrArg₂ (ix3 0) (Fin.ext q0.symm) (Fin.ext q1.symm))

/-- The eight pieces of a branch's weight, last first. -/
abbrev pieces (Z : Vec Ideal S8x512x128 .bf16) : List (View.Piece (Elt Ideal) S512x1024 .bf16) :=
  [⟨Rect.unit ![0, 896] ![512, 128] inb_S512x1024_S512x128_0_896, piece Z 7 inb_S8x512x128_S1x512x128_7_0_0⟩,
    ⟨Rect.unit ![0, 768] ![512, 128] inb_S512x1024_S512x128_0_768, piece Z 6 inb_S8x512x128_S1x512x128_6_0_0⟩,
    ⟨Rect.unit ![0, 640] ![512, 128] inb_S512x1024_S512x128_0_640, piece Z 5 inb_S8x512x128_S1x512x128_5_0_0⟩,
    ⟨Rect.unit ![0, 512] ![512, 128] inb_S512x1024_S512x128_0_512, piece Z 4 inb_S8x512x128_S1x512x128_4_0_0⟩,
    ⟨Rect.unit ![0, 384] ![512, 128] inb_S512x1024_S512x128_0_384, piece Z 3 inb_S8x512x128_S1x512x128_3_0_0⟩,
    ⟨Rect.unit ![0, 256] ![512, 128] inb_S512x1024_S512x128_0_256, piece Z 2 inb_S8x512x128_S1x512x128_2_0_0⟩,
    ⟨Rect.unit ![0, 128] ![512, 128] inb_S512x1024_S512x128_0_128, piece Z 1 inb_S8x512x128_S1x512x128_1_0_0⟩,
    ⟨Rect.unit ![0, 0] ![512, 128] inb_S512x1024_S512x128_0_0, piece Z 0 inb_S8x512x128_S1x512x128_0_0_0⟩]

theorem pieces_cover (Z : Vec Ideal S8x512x128 .bf16) (j : S512x1024.Idx) : ∃ P ∈ pieces Z, j ∈ P.1.set := by
  have h0 : (j 0).val < 512 := (j 0).isLt
  have h1 : (j 1).val < 1024 := (j 1).isLt
  simp only [List.mem_cons, List.not_mem_nil, or_false, exists_eq_or_imp, exists_eq_left, Rect.mem_set_unit, Fin.forall_fin_two]
  simp
  omega

section Held

variable (Z : Vec Ideal S8x512x128 .bf16) (W : FVec Ideal S1x512x1024 .f32)
variable (hZ : ∀ (j : Fin 8) (k : Fin 512) (e : Fin 128), Z (ix3 j k e) = W (ix3 0 k ⟨128 * j.val + e.val, by omega⟩))

include hZ in
/-- The eight pieces together are the weight. -/
theorem held : View.canon (pieces Z) = wide W := by
  funext y
  canon_tiles x q using pieces_cover Z y
  · exact piece_at Z W hZ 7 896 rfl (by decide) _ x y q0 q1
  · exact piece_at Z W hZ 6 768 rfl (by decide) _ x y q0 q1
  · exact piece_at Z W hZ 5 640 rfl (by decide) _ x y q0 q1
  · exact piece_at Z W hZ 4 512 rfl (by decide) _ x y q0 q1
  · exact piece_at Z W hZ 3 384 rfl (by decide) _ x y q0 q1
  · exact piece_at Z W hZ 2 256 rfl (by decide) _ x y q0 q1
  · exact piece_at Z W hZ 1 128 rfl (by decide) _ x y q0 q1
  · exact piece_at Z W hZ 0 0 rfl (by decide) _ x y q0 (q1.trans (zero_add _).symm)

include hZ in
/-- Read back whole by the point that stored them. -/
theorem held_cov (v : View sig .tc .vmem S512x1024 .bf16) :
    v.readCov (pieces Z) (Rect.unit ![0, 0] ![512, 1024] inb_S512x1024_S512x1024_0_0).toLoadRect = wide W := by
  rw [View.readCov_eq_canon', held Z W hZ]
  funext y
  idx_vars y
  exact congrArg (wide W) (by idx_ext)

end Held

/-- Every point finds or leaves both weights in the buffers kept between points. -/
theorem kept (c : Dev nD) : ∀ (n : ℕ) (h : n < cfg0.N),
    (outsAt0 m c n h).2.2.2.1 = wide (a4 m c) ∧ (outsAt0 m c n h).2.2.2.2 = wide (a5 m c) := by
  intro n
  induction n with
  | zero =>
    intro h
    rw [outsAt0_A m c ⟨0, h⟩ (Nat.zero_mod 8)]
    frame_out
    exact ⟨held _ _ (blk4 m c _), held _ _ (blk5 m c _)⟩
  | succ n ih =>
    intro h
    have hN := h.trans_eq N_0
    rw [outsAt0_B m c ⟨n + 1, h⟩ (by dsimp only; omega)]
    dsimp only [sout0_B_0, sout0_B_1]
    exact ih _

/-- One entry of the merged rows times the output weight, whatever holds the branch weights. -/
theorem mix_at (c : Dev nD) (t : Fin cfg0.N) (A B : FVec Ideal S512x1024 .bf16) (hA : A = wide (a4 m c)) (hB : B = wide (a5 m c)) (i1 i2)
    (s : Fin 512) (e : Fin 1024) :
    k0_pay20 (iblk m c 0 t) A (iblk m c 1 t) B (View.ld (iblk m c 2 t) (Rect.unit ![0, 0] ![512, 1024] i1))
      (View.ld (iblk m c 2 t) (Rect.unit ![0, 1024] ![512, 1024] i2)) (iblk m c 6 t) (ix2 s e)
    = val_main_v18 (F := Ideal) (a0 m c) (a1 m c) (a2 m c) (a4 m c) (a5 m c) (a6 m c) (ix2 (row t s) e) := by
  subst hA hB
  rw [blk0, blk1, blk2, blk6]
  pointwise [k0_pay20, val_main_v18, val_main_v17, val_main_v16, val_main_v15, val_main_v14, val_main_v13, val_main_v12, val_main_v11, val_main_v10, val_main_v9, val_main_v8, val_main_v7, val_main_v6]
  rfl

theorem emb9 (t : Fin cfg0.N) (s : Fin 512) (k : Fin 1024) :
    ((View.whole main_v17_0).slice (win0_9.rect t)).emb (ix2 s k) = ix2 (row t s) k := by
  blk_point [idx t]

theorem emb10 (t : Fin cfg0.N) (s : Fin 512) (k : Fin 1024) :
    ((View.whole main_v17_1).slice (win0_10.rect t)).emb (ix2 s k) = ix2 (row t s) k := by
  blk_point [idx t]

theorem emb11 (t : Fin cfg0.N) (s : Fin 512) (k : Fin 1024) :
    ((View.whole main_v17_2).slice (win0_11.rect t)).emb (ix2 s k) = ix2 (row t s) k := by
  blk_point [idx t]

section Norms

variable (c : Dev nD) (t : Fin cfg0.N) (A B : FVec Ideal S512x1024 .bf16) (hA : A = wide (a4 m c)) (hB : B = wide (a5 m c)) (i1 i2)

/-- The product of a point. -/
abbrev mixK : FVec Ideal S512x1024 .f32 :=
  k0_pay20 (iblk m c 0 t) A (iblk m c 1 t) B (View.ld (iblk m c 2 t) (Rect.unit ![0, 0] ![512, 1024] i1))
      (View.ld (iblk m c 2 t) (Rect.unit ![0, 1024] ![512, 1024] i2)) (iblk m c 6 t)

/-- The residual of a point. -/
abbrev resK : FVec Ideal S512x1024 .f32 :=
  k0_pay1 (mixK m c t A B i1 i2) (iblk m c 3 t)
    (k0_pay21 (iblk m c 0 t) A (iblk m c 1 t) B (View.ld (iblk m c 2 t) (Rect.unit ![0, 0] ![512, 1024] i1))
      (View.ld (iblk m c 2 t) (Rect.unit ![0, 1024] ![512, 1024] i2)) (iblk m c 6 t)) (iblk m c 7 t)

include hA hB in
theorem res_at (s : Fin 512) (e : Fin 1024) :
    resK m c t A B i1 i2 (ix2 s e) = val_main_v33 (F := Ideal) (a0 m c) (a1 m c) (a2 m c) (a3 m c) (a4 m c) (a5 m c) (a6 m c) (a7 m c) (ix2 (row t s) e) := by
  have hM := mix_at m c t A B hA hB i1 i2
  unfold resK mixK k0_pay21
  revert hM
  generalize k0_pay20 (F := Ideal) (iblk m c 0 t) A (iblk m c 1 t) B _ _ (iblk m c 6 t) = M
  intro hM
  rw [blk3, blk7]
  pointwise [k0_pay1, val_main_v33, val_main_v32, val_main_v31, val_main_v30, val_main_v29, val_main_v28, val_main_v27, val_main_v26, val_main_v25, val_main_v24, val_main_v23, val_main_v22, val_main_v21, val_main_v20, val_main_v19, val_main_cst_1, val_main_cst_2, val_main_cst_3]
  simp only [hM]

include hA hB in
theorem next_at (s : Fin 512) (e : Fin 1024) :
    k0_pay2 (mixK m c t A B i1 i2) (iblk m c 3 t)
      (k0_pay21 (iblk m c 0 t) A (iblk m c 1 t) B (View.ld (iblk m c 2 t) (Rect.unit ![0, 0] ![512, 1024] i1))
        (View.ld (iblk m c 2 t) (Rect.unit ![0, 1024] ![512, 1024] i2)) (iblk m c 6 t)) (iblk m c 7 t) (iblk m c 8 t) (ix2 s e)
    = val_main_v48 (F := Ideal) (a0 m c) (a1 m c) (a2 m c) (a3 m c) (a4 m c) (a5 m c) (a6 m c) (a7 m c) (a8 m c) (ix2 (row t s) e) := by
  have hR := res_at m c t A B hA hB i1 i2
  unfold k0_pay2
  revert hR
  unfold resK
  generalize k0_pay1 (F := Ideal) (mixK m c t A B i1 i2) (iblk m c 3 t) _ (iblk m c 7 t) = R
  intro hR
  rw [blk8]
  pointwise [val_main_v48, val_main_v47, val_main_v46, val_main_v45, val_main_v44, val_main_v43, val_main_v42, val_main_v41, val_main_v40, val_main_v39, val_main_v38, val_main_v37, val_main_v36, val_main_v35, val_main_v34, val_main_cst_4, val_main_cst_5, val_main_cst_6]
  simp only [hR]

end Norms

theorem final9 (c : Dev nD) : (dats m 0 c).arrAt 9 (cfgs 0).N = val_main_v18 (F := Ideal) (a0 m c) (a1 m c) (a2 m c) (a4 m c) (a5 m c) (a6 m c) := by
  refine (dats m 0 c).arrAt_eq_of_covers 9 _ (by decide +kernel) fun t _ y => ?_
  blk_simp
  rw [after0_9]
  by_cases h : t.val % 8 = 0
  · rw [outsAt0_A m c t h]
    frame_out
    idx_vars y
    rw [emb9]
    exact mix_at m c t _ _ (held_cov _ _ (blk4 m c t) _) (held_cov _ _ (blk5 m c t) _) _ _ y0 y1
  · rw [outsAt0_B m c t h]
    frame_out
    idx_vars y
    rw [emb9]
    have hk := kept m c (t.val - 1) (lt_of_le_of_lt (Nat.sub_le _ _) t.isLt)
    exact mix_at m c t _ _ ((Memref.IsWhole.read_unread _ _).trans hk.1) ((Memref.IsWhole.read_unread _ _).trans hk.2) _ _ y0 y1

theorem final10 (c : Dev nD) : (dats m 0 c).arrAt 10 (cfgs 0).N = val_main_v33 (F := Ideal) (a0 m c) (a1 m c) (a2 m c) (a3 m c) (a4 m c) (a5 m c) (a6 m c) (a7 m c) := by
  refine (dats m 0 c).arrAt_eq_of_covers 10 _ (by decide +kernel) fun t _ y => ?_
  blk_simp
  rw [after0_10]
  by_cases h : t.val % 8 = 0
  · rw [outsAt0_A m c t h]
    frame_out
    idx_vars y
    rw [emb10]
    exact res_at m c t _ _ (held_cov _ _ (blk4 m c t) _) (held_cov _ _ (blk5 m c t) _) _ _ y0 y1
  · rw [outsAt0_B m c t h]
    frame_out
    idx_vars y
    rw [emb10]
    have hk := kept m c (t.val - 1) (lt_of_le_of_lt (Nat.sub_le _ _) t.isLt)
    exact res_at m c t _ _ ((Memref.IsWhole.read_unread _ _).trans hk.1) ((Memref.IsWhole.read_unread _ _).trans hk.2) _ _ y0 y1

theorem final11 (c : Dev nD) : (dats m 0 c).arrAt 11 (cfgs 0).N = val_main_v48 (F := Ideal) (a0 m c) (a1 m c) (a2 m c) (a3 m c) (a4 m c) (a5 m c) (a6 m c) (a7 m c) (a8 m c) := by
  refine (dats m 0 c).arrAt_eq_of_covers 11 _ (by decide +kernel) fun t _ y => ?_
  blk_simp
  rw [after0_11]
  by_cases h : t.val % 8 = 0
  · rw [outsAt0_A m c t h]
    frame_out
    idx_vars y
    rw [emb11]
    exact next_at m c t _ _ (held_cov _ _ (blk4 m c t) _) (held_cov _ _ (blk5 m c t) _) _ _ y0 y1
  · rw [outsAt0_B m c t h]
    frame_out
    idx_vars y
    rw [emb11]
    have hk := kept m c (t.val - 1) (lt_of_le_of_lt (Nat.sub_le _ _) t.isLt)
    exact next_at m c t _ _ ((Memref.IsWhole.read_unread _ _).trans hk.1) ((Memref.IsWhole.read_unread _ _).trans hk.2) _ _ y0 y1

end Cert.KernelMergeIdeal.Hand

end
-- ==== Proof.MergePair.lean ====
/-
  The merge's forward call: its claims.
-/
module

public import proofs.«01_k».proof.Defs
public import proofs.«01_k».proof.Proof.Gen.KernelMerge
public import proofs.«01_k».proof.Proof.Gen.KernelMerge.Frame
public import proofs.«01_k».proof.Proof.Gen.KernelMergeIdeal
public import proofs.«01_k».proof.Proof.Gen.ReferenceMergeIdeal
public import proofs.«01_k».proof.Proof.Gen.ReferenceMergeIdeal.Run
public import proofs.«01_k».proof.Proof.MergeValue
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Pairs

open Cert.ReferenceMergeIdeal in
/-- The reference's run with the merged rows and the two streams after them named by the stages that compute them. -/
theorem run_mergeR (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v18) = Read.val_main_v18 (F := Ideal) (m (c.tc.loc main_arg0)) (m (c.tc.loc main_arg1)) (m (c.tc.loc main_arg2))
        (m (c.tc.loc main_arg4)) (m (c.tc.loc main_arg5)) (m (c.tc.loc main_arg6))
      ∧ r.2.mem ((c.tc : Thread nD τ).loc main_v33) = Read.val_main_v33 (F := Ideal) (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
      ∧ r.2.mem ((c.tc : Thread nD τ).loc main_v48) = Read.val_main_v48 (F := Ideal) (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) (m (c.tc.loc main_arg8)) :=
  (θ_run _ _ _).mono (fun _ h c => ⟨(h c).1.trans (Read.val_main_v18_eq _ _ _ _ _ _),
    (h c).2.1.trans (Read.val_main_v33_eq m c), (h c).2.2.1.trans (Read.val_main_v48_eq m c)⟩) (Value.run m g)

theorem pair_merge : Cert.algebraic_KernelMergeIdeal_ReferenceMergeIdeal := by
  pair_intro
  · run_from Cert.KernelMergeIdeal.Value.run_blocks m g
  · run_from Cert.Pairs.run_mergeR m' g' & Cert.ReferenceMergeIdeal.Value.run m' g'
    · exact (Cert.KernelMergeIdeal.Hand.final9 m c).symm
    · exact (Cert.KernelMergeIdeal.Hand.final10 m c).symm
    · exact (Cert.KernelMergeIdeal.Hand.final11 m c).symm

end Cert.Pairs
-- ==== Proof.PoolFwdValue.lean ====
/-
  The pooling's forward call: what a grid point stores is the reference's pooled rows.
-/
module

public import proofs.«01_k».proof.Proof.PoolPay
public import proofs.«01_k».proof.Proof.Gen.KernelPoolFwdIdeal
public import proofs.«01_k».proof.Proof.Gen.KernelPoolFwdIdeal.Value
public import proofs.«01_k».proof.Proof.Gen.ReferencePoolFwdIdeal
public import proofs.«01_k».proof.Proof.Gen.ReferencePoolFwdIdeal.Read

@[expose] public section

set_option maxRecDepth 16384

noncomputable section

open Idealize.ShloMosaic Idealize.ShloMosaic.TcCoe Idealize.SL.Sem
open Idealize.ShloMosaic.Pipeline (Dat)

namespace Cert.KernelPoolFwdIdeal.Hand

open Cert.KernelPoolFwdIdeal Cert.KernelPoolFwdIdeal.Gen Cert.Pool
open Cert.KernelPoolIdeal.Hand (Fin' col col_at win chan dif mean mean_at inv_at fwd0)
open Cert.ReferencePoolFwdIdeal.Read

section reference
variable (x0 : FVec Ideal S4096x512 .f32) (x1 : FVec Ideal S1x4x128x128 .f32) (x2 : FVec Ideal S1x512 .f32)

/-- Both calls' references take the window means' differences alike. -/
theorem v73_eq : val_main_v73 (F := Ideal) x0 = Cert.ReferencePoolIdeal.Read.val_main_v78 (F := Ideal) x0 := rfl

theorem v81_at (h0 : Fin' x0) (b : Fin 2) (s : Fin 2048) (q : Fin 4) (d : Fin 128) (i : Fin 4096) (hi : i.val = b.val * 2048 + s.val) :
    val_main_v81 (F := Ideal) x0 x1 x2 (ix2 i (chan q d))
      = (∑ c : Fin 128, ((dif x0 b q c s.val : ℝ) : EReal) * x1 (ix4 0 q c d)) * x2 (ix2 0 (chan q d)) := by
  have hb : i = ⟨b.val * 2048 + s.val, hi ▸ i.isLt⟩ := Fin.ext hi
  rw [hb]
  pointwise [val_main_v81, val_main_v80, val_main_v79, val_main_v78, val_main_v77, val_main_v76, val_main_v75, val_main_v74, val_main_v2, val_main_v1, chan]
  refine congrArg (fun t : EReal => t * _) (Finset.sum_congr rfl fun c _ => ?_)
  rw [mul_comm, v73_eq]
  exact congrArg (fun t : EReal => t * _) (Cert.KernelPoolIdeal.Hand.v78_at x0 h0 b s q c)

end reference

/-- A group's product and scale. -/
theorem out_of (X : FVec Ideal S2048x128 .f32) (W : FVec Ideal S1x128x128 .bf16) (P : FVec Ideal S1x128 .f32) (s : Fin 2048) (d : Fin 128) :
    truncf .bf16 (mulf (matmul dot_S2048x128_S128x128_S2048x128_1_0_0_1_n_n none (truncf .bf16 X bitsLt_bf16_f32)
      (shapeCast S128x128 W shapeCasts_S1x128x128_S128x128 : FVec Ideal S128x128 .bf16) (constant S2048x128 .f32 0x00000000#32))
      (broadcastTo S2048x128 P broadcasts_S1x128_S2048x128)) bitsLt_bf16_f32 (ix2 s d)
      = (∑ c : Fin 128, (X (ix2 s c) : EReal) * W (ix3 0 c d)) * P (ix2 0 d) := by
  pointwise []

section pays
variable (U : FVec Ideal S2048x128 .f32) (W : FVec Ideal S1x128x128 .bf16) (P : FVec Ideal S1x128 .f32) (g : Fin 128 → ℕ → ℝ)
  (hU : ∀ s j, U (ix2 s j) = ((g j s.val : ℝ) : EReal))
include hU

/-- The payload of a group whose difference has these entries. -/
theorem out_at (w : ℕ) (X : FVec Ideal S2048x128 .f32) (hX : ∀ s j, X (ix2 s j) = ((mean w (g j) s.val : ℝ) : EReal)) (s : Fin 2048) (d : Fin 128) :
    truncf .bf16 (mulf (matmul dot_S2048x128_S128x128_S2048x128_1_0_0_1_n_n none (truncf .bf16 X bitsLt_bf16_f32)
      (shapeCast S128x128 W shapeCasts_S1x128x128_S128x128 : FVec Ideal S128x128 .bf16) (constant S2048x128 .f32 0x00000000#32))
      (broadcastTo S2048x128 P broadcasts_S1x128_S2048x128)) bitsLt_bf16_f32 (ix2 s d)
      = (∑ c : Fin 128, ((mean w (g c) s.val : ℝ) : EReal) * W (ix3 0 c d)) * P (ix2 0 d) :=
  (out_of X W P s d).trans (congrArg (fun t : EReal => t * P (ix2 0 d)) (Finset.sum_congr rfl fun c _ => congrArg (fun t : EReal => t * W (ix3 0 c d)) (hX s c)))

theorem pay0 (s : Fin 2048) (d : Fin 128) : k0_pay2 (F := Ideal) U W P (ix2 s d) = (∑ c : Fin 128, ((mean 2 (g c) s.val : ℝ) : EReal) * W (ix3 0 c d)) * P (ix2 0 d) :=
  out_at U W P g hU 2 _ (Cert.KernelPoolIdeal.Hand.diff0 U g hU) s d

theorem pay1 (s : Fin 2048) (d : Fin 128) :
    k0_pay5 (F := Ideal) Cert.KernelPoolIdeal.Hand.rows U k0_pay3 k0_pay4 W P (ix2 s d) = (∑ c : Fin 128, ((mean 4 (g c) s.val : ℝ) : EReal) * W (ix3 0 c d)) * P (ix2 0 d) :=
  out_at U W P g hU 4 _ (Cert.KernelPoolIdeal.Hand.diff1 U g hU) s d

theorem pay2 (s : Fin 2048) (d : Fin 128) :
    k0_pay9 (F := Ideal) Cert.KernelPoolIdeal.Hand.rows U (k0_pay6 Cert.KernelPoolIdeal.Hand.rows) (k0_pay7 Cert.KernelPoolIdeal.Hand.rows U) (k0_pay8 Cert.KernelPoolIdeal.Hand.rows) W P (ix2 s d)
      = (∑ c : Fin 128, ((mean 8 (g c) s.val : ℝ) : EReal) * W (ix3 0 c d)) * P (ix2 0 d) :=
  out_at U W P g hU 8 _ (Cert.KernelPoolIdeal.Hand.diff2 U g hU) s d

theorem pay3 (s : Fin 2048) (d : Fin 128) :
    k0_pay1 (F := Ideal) Cert.KernelPoolIdeal.Hand.rows U (k0_pay10 Cert.KernelPoolIdeal.Hand.rows) (k0_pay11 Cert.KernelPoolIdeal.Hand.rows U) (k0_pay12 Cert.KernelPoolIdeal.Hand.rows) W P (ix2 s d)
      = (∑ c : Fin 128, ((mean 16 (g c) s.val : ℝ) : EReal) * W (ix3 0 c d)) * P (ix2 0 d) :=
  out_at U W P g hU 16 _ (Cert.KernelPoolIdeal.Hand.diff3 U g hU) s d

end pays

variable (m : (ℓ : Loc nD τ sig) → Buf (Elt Ideal) ℓ)

/-- The arguments of the call: rows, weights and scale. -/
abbrev u (c : Dev nD) : FVec Ideal S4096x512 .f32 := m ((c.tc : Thread nD τ).loc main_arg0)
abbrev wp (c : Dev nD) : FVec Ideal S1x4x128x128 .f32 := m ((c.tc : Thread nD τ).loc main_arg1)
abbrev sc (c : Dev nD) : FVec Ideal S1x512 .f32 := m ((c.tc : Thread nD τ).loc main_arg2)

theorem idx : ∀ t : Fin cfg0.N, win0_0.index t = ![t.val, 0] ∧ win0_1.index t = ![0, 0, 0] ∧ win0_2.index t = ![0, 0] ∧ win0_3.index t = ![t.val, 0] :=
  (by decide +kernel : ∀ t : Fin grid0.N, _)

/-- The row of the array that a sequence's row is. -/
def row (t : Fin cfg0.N) (s : Fin 2048) : Fin 4096 :=
  ⟨t.val * 2048 + s.val, by have := t.isLt.trans_eq N_0; have := s.isLt; omega⟩

section group
variable (c : Dev nD) (t : Fin cfg0.N) (q : Fin 4) (o p : ℕ) (ho : o = q.val * 128) (hp : p = q.val)
  (i0 : ∀ a, (![0, o] : Fin 2 → ℕ) a + (![2048, 128] : Fin 2 → ℕ) a ≤ S2048x512.size a)
  (i1 : ∀ a, (![p, 0, 0] : Fin 3 → ℕ) a + (![1, 128, 128] : Fin 3 → ℕ) a ≤ S4x128x128.size a)
  (i2 : ∀ a, (![0, o] : Fin 2 → ℕ) a + (![1, 128] : Fin 2 → ℕ) a ≤ S1x512.size a)

/-- The parts of its blocks that a group reads. -/
abbrev gU : FVec Ideal S2048x128 .f32 := View.ld (iblk m c 0 t) (Rect.unit ![0, o] ![2048, 128] i0)
abbrev gW : FVec Ideal S1x128x128 .bf16 := View.ld (iblk m c 1 t) (Rect.unit ![p, 0, 0] ![1, 128, 128] i1)
abbrev gP : FVec Ideal S1x128 .f32 := View.ld (iblk m c 2 t) (Rect.unit ![0, o] ![1, 128] i2)

theorem blk0 : iblk m c 0 t = fun y : S2048x512.Idx => u m c (ix2 (row t (y 0)) (y 1)) := by
  funext y
  blk_ext [iblk, V, idx t, row]

theorem blk1 : iblk m c 1 t = fun y : S4x128x128.Idx => wp m c (ix4 0 (y 0) (y 1) (y 2)) := by
  funext y
  idx_vars y
  blk_ext! [iblk, V, idx t]

theorem blk2 : iblk m c 2 t = sc m c := by
  blk_ext! [iblk, V, idx t]

include ho in
theorem gU_at (h0 : Fin' (u m c)) (s : Fin 2048) (j : Fin 128) :
    gU m c t o i0 (ix2 s j) = ((col (u m c) ⟨t.val, t.isLt.trans_eq N_0⟩ (chan q j) s.val : ℝ) : EReal) := by
  rw [col_at (u m c) h0 ⟨t.val, t.isLt.trans_eq N_0⟩ s (chan q j) (row t s) rfl]
  subst ho
  unfold gU
  rw [blk0]
  pointwise [chan]

include hp in
theorem gW_at (j d : Fin 128) : gW m c t p i1 (ix3 0 j d) = wp m c (ix4 0 q j d) := by
  subst hp
  unfold gW
  rw [blk1]
  pointwise []

include ho in
theorem gP_at (d : Fin 128) : gP m c t o i2 (ix2 0 d) = sc m c (ix2 0 (chan q d)) := by
  subst ho
  unfold gP
  rw [blk2]
  pointwise [chan]

include ho hp in
/-- A group's payload is what the reference returns at the block's place. -/
theorem group_out (h0 : Fin' (u m c)) (w : ℕ) (hw : w = win q) (pay : FVec Ideal S2048x128 .bf16)
    (h : ∀ s d, pay (ix2 s d) = (∑ j : Fin 128, ((mean w (col (u m c) ⟨t.val, t.isLt.trans_eq N_0⟩ (chan q j)) s.val : ℝ) : EReal) * gW m c t p i1 (ix3 0 j d)) * gP m c t o i2 (ix2 0 d))
    (x : S2048x128.Idx) (y : S2048x512.Idx) (y0 : (y 0).val = (x 0).val) (y1 : (y 1).val = q.val * 128 + (x 1).val) :
    pay x = val_main_v81 (F := Ideal) (u m c) (wp m c) (sc m c) (((cfg0.win 3).blk t).view.emb y) := by
  have he : (((cfg0.win 3).blk t).view.emb y : S4096x512.Idx) = ix2 (row t (x 0)) (chan q (x 1)) := by
    blk_ext [idx t, chan, row]
  rw [he]
  refine Eq.trans ?_ (v81_at (u m c) (wp m c) (sc m c) h0 ⟨t.val, t.isLt.trans_eq N_0⟩ (x 0) q (x 1) _ rfl).symm
  refine ((congrArg pay (eq_ix2 x)).trans (h (x 0) (x 1))).trans ?_
  subst hw
  exact congrArg₂ (fun a b : EReal => a * b) (Finset.sum_congr rfl fun j _ => congrArg (fun b : EReal => _ * b) (gW_at m c t q p hp i1 j (x 1))) (gP_at m c t q o ho i2 (x 1))

end group

theorem final3 (c : Dev nD) (h0 : Fin' (u m c)) : (dats m 0 c).arrAt 3 (cfgs 0).N = val_main_v81 (F := Ideal) (u m c) (wp m c) (sc m c) := by
  refine (dats m 0 c).arrAt_eq_of_covers 3 _ (by decide +kernel) fun t _ y => ?_
  blk_simp
  rw [after0_3]
  unfold_out out0_3
  canon_tiles x r using cover0_3 _ _ _ _ y
  · exact group_out m c t 3 _ _ rfl rfl _ _ h0 16 rfl _ (pay3 _ _ _ _ (gU_at m c t 3 _ rfl _ h0)) x y r0 r1
  · exact group_out m c t 2 _ _ rfl rfl _ _ h0 8 rfl _ (pay2 _ _ _ _ (gU_at m c t 2 _ rfl _ h0)) x y r0 r1
  · exact group_out m c t 1 _ _ rfl rfl _ _ h0 4 rfl _ (pay1 _ _ _ _ (gU_at m c t 1 _ rfl _ h0)) x y r0 r1
  · exact group_out m c t 0 _ _ rfl rfl _ _ h0 2 rfl _ (pay0 _ _ _ _ (gU_at m c t 0 _ rfl _ h0)) x y r0 (r1.trans (zero_add _).symm)

end Cert.KernelPoolFwdIdeal.Hand
-- ==== Proof.PoolFwdPair.lean ====
/-
  The pooling's forward call: its claims.
-/
module

public import proofs.«01_k».proof.Defs
public import proofs.«01_k».proof.Proof.Gen.KernelPoolFwd
public import proofs.«01_k».proof.Proof.Gen.KernelPoolFwd.Frame
public import proofs.«01_k».proof.Proof.Gen.KernelPoolFwdIdeal
public import proofs.«01_k».proof.Proof.Gen.ReferencePoolFwdIdeal
public import proofs.«01_k».proof.Proof.Gen.ReferencePoolFwdIdeal.Run
public import proofs.«01_k».proof.Proof.PoolFwdValue
public import proofs.«01_k».proof.Proof.PoolPair

@[expose] public section

set_option maxRecDepth 16384

noncomputable section

open Idealize.ShloMosaic Idealize.ShloMosaic.TcCoe Idealize.SL.Sem
open Idealize.ShloMosaic.Pipeline (Dat)

namespace Cert.Pairs

/-- The forward precondition's shape relation. -/
theorem finite_pool_fwd : Cert.Pre_finite_pool_fwd.Facts := ⟨by decide⟩

open Cert.ReferencePoolFwdIdeal in
/-- The reference's run with its pooled rows named by the stage that computes them, and its arguments kept. -/
theorem run_pool_fwdR (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v81) = Read.val_main_v81 (F := Ideal)
        (m (c.tc.loc main_arg0)) (m (c.tc.loc main_arg1)) (m (c.tc.loc main_arg2))
      ∧ r.2.mem ((c.tc : Thread nD τ).loc main_arg0) = m (c.tc.loc main_arg0)
      ∧ r.2.mem ((c.tc : Thread nD τ).loc main_arg1) = m (c.tc.loc main_arg1)
      ∧ r.2.mem ((c.tc : Thread nD τ).loc main_arg2) = m (c.tc.loc main_arg2) :=
  (θ_run _ _ _).mono (fun _ h c => ⟨(h c).1.trans (Read.val_main_v81_eq m c), (h c).2⟩) (Value.run m g)

theorem pair_pool_fwd : Cert.algebraic_KernelPoolFwdIdeal_ReferencePoolFwdIdeal_pre_finite_pool_fwd (hPre_finite_pool_fwd := finite_pool_fwd) := by
  pair_intro
  · run_from Cert.KernelPoolFwdIdeal.Value.run_blocks m g
  · refine θ_run_mono (run_pool_fwdR m' g') fun r h c => ⟨(h c).1.trans ?_, (h c).2⟩
    rw [(hagree c).1, (hagree c).2.1, (hagree c).2.2]
    exact (Cert.KernelPoolFwdIdeal.Hand.final3 m c (real_of_below _ (congrFun (hpre c)))).symm

end Cert.Pairs
-- ==== Proof.lean ====
/-
  The claims put together: the frames, the idealizations, and the value of the calls that have a value claim.
-/
module

public import proofs.«01_k».proof.Defs
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelInIdeal.Value
public import proofs.«01_k».proof.Proof.Gen.KernelPool
public import proofs.«01_k».proof.Proof.Gen.KernelPool.Skeleton
public import proofs.«01_k».proof.Proof.Gen.KernelPool.Launch
public import proofs.«01_k».proof.Proof.Gen.KernelPool.Points
public import proofs.«01_k».proof.Proof.Gen.KernelPool.Frame
public import proofs.«01_k».proof.Proof.Gen.KernelPoolIdeal
public import proofs.«01_k».proof.Proof.Gen.KernelPoolIdeal.Skeleton
public import proofs.«01_k».proof.Proof.Gen.KernelPoolIdeal.Launch
public import proofs.«01_k».proof.Proof.Gen.KernelPoolIdeal.Points
public import proofs.«01_k».proof.Proof.Gen.KernelPoolIdeal.Frame
public import proofs.«01_k».proof.Proof.Gen.ReferencePoolIdeal
public import proofs.«01_k».proof.Proof.Gen.ReferencePoolIdeal.Run
public import proofs.«01_k».proof.Proof.Gen.ReferencePoolIdeal.Read
public import proofs.«01_k».proof.Proof.Gen.KernelPoolIdeal.Value
public import proofs.«01_k».proof.Proof.Gen.KernelMlp
public import proofs.«01_k».proof.Proof.Gen.KernelMlp.Skeleton
public import proofs.«01_k».proof.Proof.Gen.KernelMlp.Launch
public import proofs.«01_k».proof.Proof.Gen.KernelMlp.Points
public import proofs.«01_k».proof.Proof.Gen.KernelMlp.Frame
public import proofs.«01_k».proof.Proof.Gen.KernelMlpIdeal
public import proofs.«01_k».proof.Proof.Gen.KernelMlpIdeal.Skeleton
public import proofs.«01_k».proof.Proof.Gen.KernelMlpIdeal.Launch
public import proofs.«01_k».proof.Proof.Gen.KernelMlpIdeal.Points
public import proofs.«01_k».proof.Proof.Gen.KernelMlpIdeal.Frame
public import proofs.«01_k».proof.Proof.Gen.ReferenceMlpIdeal
public import proofs.«01_k».proof.Proof.Gen.ReferenceMlpIdeal.Run
public import proofs.«01_k».proof.Proof.Gen.ReferenceMlpIdeal.Read
public import proofs.«01_k».proof.Proof.Gen.KernelMlpIdeal.Value
public import proofs.«01_k».proof.Proof.Gen.KernelFwd
public import proofs.«01_k».proof.Proof.Gen.KernelFwd.Skeleton
public import proofs.«01_k».proof.Proof.Gen.KernelFwd.Launch
public import proofs.«01_k».proof.Proof.Gen.KernelFwd.Points
public import proofs.«01_k».proof.Proof.Gen.KernelFwd.Frame
public import proofs.«01_k».proof.Proof.Gen.KernelFwdIdeal
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Gen.KernelFwdIdeal.Frame
public import proofs.«01_k».proof.Proof.Gen.KernelFwdIdeal.Value
public import proofs.«01_k».proof.Proof.Gen.ReferenceFwdIdeal
public import proofs.«01_k».proof.Proof.Gen.ReferenceFwdIdeal.Run
public import proofs.«01_k».proof.Proof.Gen.ReferenceFwdIdeal.Read
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.ReferenceProjIdeal
public import proofs.«01_k».proof.Proof.Gen.ReferenceProjIdeal.Run
public import proofs.«01_k».proof.Proof.Gen.ReferenceProjIdeal.Read
public import proofs.«01_k».proof.Proof.Gen.KernelProjIdeal.Value
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.ReferenceMergeIdeal.Read
public import proofs.«01_k».proof.Proof.Gen.KernelPoolFwd
public import proofs.«01_k».proof.Proof.Gen.KernelPoolFwd.Skeleton
public import proofs.«01_k».proof.Proof.Gen.KernelPoolFwd.Launch
public import proofs.«01_k».proof.Proof.Gen.KernelPoolFwd.Points
public import proofs.«01_k».proof.Proof.Gen.KernelPoolFwd.Frame
public import proofs.«01_k».proof.Proof.Gen.KernelPoolFwdIdeal
public import proofs.«01_k».proof.Proof.Gen.KernelPoolFwdIdeal.Skeleton
public import proofs.«01_k».proof.Proof.Gen.KernelPoolFwdIdeal.Launch
public import proofs.«01_k».proof.Proof.Gen.KernelPoolFwdIdeal.Points
public import proofs.«01_k».proof.Proof.Gen.KernelPoolFwdIdeal.Frame
public import proofs.«01_k».proof.Proof.Gen.KernelPoolFwdIdeal.Value
public import proofs.«01_k».proof.Proof.Gen.ReferencePoolFwdIdeal
public import proofs.«01_k».proof.Proof.Gen.ReferencePoolFwdIdeal.Run
public import proofs.«01_k».proof.Proof.Gen.ReferencePoolFwdIdeal.Read
public import proofs.«01_k».proof.Proof.Frames
public import proofs.«01_k».proof.Proof.InPair
public import proofs.«01_k».proof.Proof.PoolPair
public import proofs.«01_k».proof.Proof.MlpPair
public import proofs.«01_k».proof.Proof.ProjPair
public import proofs.«01_k».proof.Proof.FwdPair
public import proofs.«01_k».proof.Proof.UpPair
public import proofs.«01_k».proof.Proof.MergePair
public import proofs.«01_k».proof.Proof.PoolFwdPair

@[expose] public section

noncomputable section

namespace Cert.Proof

open Idealize.ShloMosaic Idealize.SL.Sem

theorem claim : Cert.Claim := ⟨Cert.KernelIn.Gen.facts,
  Cert.KernelInIdeal.Gen.facts,
  Cert.ReferenceInIdeal.Gen.facts,
  Cert.KernelPool.Gen.facts,
  Cert.KernelPoolIdeal.Gen.facts,
  Cert.ReferencePoolIdeal.Gen.facts,
  Cert.KernelMlp.Gen.facts,
  Cert.KernelMlpIdeal.Gen.facts,
  Cert.ReferenceMlpIdeal.Gen.facts,
  Cert.KernelProj.Gen.facts,
  Cert.KernelProjIdeal.Gen.facts,
  Cert.ReferenceProjIdeal.Gen.facts,
  Cert.KernelFwd.Gen.facts,
  Cert.KernelFwdIdeal.Gen.facts,
  Cert.ReferenceFwdIdeal.Gen.facts,
  Cert.KernelUp.Gen.facts,
  Cert.KernelUpIdeal.Gen.facts,
  Cert.ReferenceUpIdeal.Gen.facts,
  Cert.KernelMerge.Gen.facts,
  Cert.KernelMergeIdeal.Gen.facts,
  Cert.ReferenceMergeIdeal.Gen.facts,
  Cert.KernelPoolFwd.Gen.facts,
  Cert.KernelPoolFwdIdeal.Gen.facts,
  Cert.ReferencePoolFwdIdeal.Gen.facts,
  Pairs.finite_pool,
  Pairs.finite_fwd,
  Pairs.finite_pool_fwd,
  Frames.kernelIn,
  Frames.kernelInI,
  Frames.referenceIn,
  Frames.kernelPool,
  Frames.kernelPoolI,
  fun m g _ => Frames.kernelPoolI m g trivial,
  Frames.referencePool,
  fun m g _ => Frames.referencePool m g trivial,
  Frames.kernelMlp,
  Frames.kernelMlpI,
  Frames.referenceMlp,
  Frames.kernelProj,
  Frames.kernelProjI,
  Frames.referenceProj,
  Frames.kernelFwd,
  Frames.kernelFwdI,
  fun m g _ => Frames.kernelFwdI m g trivial,
  Frames.referenceFwd,
  fun m g _ => Frames.referenceFwd m g trivial,
  Frames.kernelUp,
  Frames.kernelUpI,
  Frames.referenceUp,
  Frames.kernelMerge,
  Frames.kernelMergeI,
  Frames.referenceMerge,
  Frames.kernelPoolFwd,
  Frames.kernelPoolFwdI,
  fun m g _ => Frames.kernelPoolFwdI m g trivial,
  Frames.referencePoolFwd,
  fun m g _ => Frames.referencePoolFwd m g trivial,
  trivial,
  Pairs.pair_in,
  trivial,
  Pairs.pair_pool,
  trivial,
  Pairs.pair_mlp,
  trivial,
  Pairs.pair_proj,
  IdealRules.named_const.statement Cert.KernelFwdIdeal.κ "mask" .f32 0xF149F2CA#32 ⊥ rfl,
  Pairs.pair_fwd,
  trivial,
  Pairs.pair_up,
  trivial,
  Pairs.pair_merge,
  trivial,
  Pairs.pair_pool_fwd⟩

end Cert.Proof

end
